-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_on_token_rows_pre_finite [hKernelIdeal : Cert.KernelIdeal.Facts] [hReferenceIdeal : Cert.ReferenceIdeal.Facts] [hPre_finite : Cert.Pre_finite.Facts] [hOn_token_rows : Cert.On_token_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 1024]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v0_0) i = v0 c i)
          ∧ (∀ i : (⟨4, ![32, 8, 128, 128]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![256, 1024]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v212) i = v0 c i)
          ∧ (∀ i : (⟨4, ![32, 8, 128, 128]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v186) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)) (v3 : (c : Dev Cert.Kernel2Ideal.nD) → Buf (Elt Ideal) ((c.tc : Thread Cert.Kernel2Ideal.nD Cert.Kernel2Ideal.τ).loc Cert.Kernel2Ideal.main_v33_3)) (v4 : (c : Dev Cert.Kernel2Ideal.nD) → Buf (Elt Ideal) ((c.tc : Thread Cert.Kernel2Ideal.nD Cert.Kernel2Ideal.τ).loc Cert.Kernel2Ideal.main_v33_4)) (v5 : (c : Dev Cert.Kernel2Ideal.nD) → Buf (Elt Ideal) ((c.tc : Thread Cert.Kernel2Ideal.nD Cert.Kernel2Ideal.τ).loc Cert.Kernel2Ideal.main_v33_5)) (v6 : (c : Dev Cert.Kernel2Ideal.nD) → Buf (Elt Ideal) ((c.tc : Thread Cert.Kernel2Ideal.nD Cert.Kernel2Ideal.τ).loc Cert.Kernel2Ideal.main_v33_6)) (v7 : (c : Dev Cert.Kernel2Ideal.nD) → Buf (Elt Ideal) ((c.tc : Thread Cert.Kernel2Ideal.nD Cert.Kernel2Ideal.τ).loc Cert.Kernel2Ideal.main_v33_7)) (v8 : (c : Dev Cert.Kernel2Ideal.nD) → Buf (Elt Ideal) ((c.tc : Thread Cert.Kernel2Ideal.nD Cert.Kernel2Ideal.τ).loc Cert.Kernel2Ideal.main_v33_8)) (v9 : (c : Dev Cert.Kernel2Ideal.nD) → Buf (Elt Ideal) ((c.tc : Thread Cert.Kernel2Ideal.nD Cert.Kernel2Ideal.τ).loc Cert.Kernel2Ideal.main_v33_9)) (v10 : (c : Dev Cert.Kernel2Ideal.nD) → Buf (Elt Ideal) ((c.tc : Thread Cert.Kernel2Ideal.nD Cert.Kernel2Ideal.τ).loc Cert.Kernel2Ideal.main_v33_10)) (v11 : (c : Dev Cert.Kernel2Ideal.nD) → Buf (Elt Ideal) ((c.tc : Thread Cert.Kernel2Ideal.nD Cert.Kernel2Ideal.τ).loc Cert.Kernel2Ideal.main_v33_11)) (v12 : (c : Dev Cert.Kernel2Ideal.nD) → Buf (Elt Ideal) ((c.tc : Thread Cert.Kernel2Ideal.nD Cert.Kernel2Ideal.τ).loc Cert.Kernel2Ideal.main_v33_12)) (v13 : (c : Dev Cert.Kernel2Ideal.nD) → Buf (Elt Ideal) ((c.tc : Thread Cert.Kernel2Ideal.nD Cert.Kernel2Ideal.τ).loc Cert.Kernel2Ideal.main_v33_13)) (v14 : (c : Dev Cert.Kernel2Ideal.nD) → Buf (Elt Ideal) ((c.tc : Thread Cert.Kernel2Ideal.nD Cert.Kernel2Ideal.τ).loc Cert.Kernel2Ideal.main_v33_14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_v33_3) = v3 c
          ∧ r.2.mem ((c.tc : Thread Cert.Kernel2Ideal.nD Cert.Kernel2Ideal.τ).loc Cert.Kernel2Ideal.main_v33_4) = v4 c
          ∧ r.2.mem ((c.tc : Thread Cert.Kernel2Ideal.nD Cert.Kernel2Ideal.τ).loc Cert.Kernel2Ideal.main_v33_5) = v5 c
          ∧ r.2.mem ((c.tc : Thread Cert.Kernel2Ideal.nD Cert.Kernel2Ideal.τ).loc Cert.Kernel2Ideal.main_v33_6) = v6 c
          ∧ r.2.mem ((c.tc : Thread Cert.Kernel2Ideal.nD Cert.Kernel2Ideal.τ).loc Cert.Kernel2Ideal.main_v33_7) = v7 c
          ∧ r.2.mem ((c.tc : Thread Cert.Kernel2Ideal.nD Cert.Kernel2Ideal.τ).loc Cert.Kernel2Ideal.main_v33_8) = v8 c
          ∧ r.2.mem ((c.tc : Thread Cert.Kernel2Ideal.nD Cert.Kernel2Ideal.τ).loc Cert.Kernel2Ideal.main_v33_9) = v9 c
          ∧ r.2.mem ((c.tc : Thread Cert.Kernel2Ideal.nD Cert.Kernel2Ideal.τ).loc Cert.Kernel2Ideal.main_v33_10) = v10 c
          ∧ r.2.mem ((c.tc : Thread Cert.Kernel2Ideal.nD Cert.Kernel2Ideal.τ).loc Cert.Kernel2Ideal.main_v33_11) = v11 c
          ∧ r.2.mem ((c.tc : Thread Cert.Kernel2Ideal.nD Cert.Kernel2Ideal.τ).loc Cert.Kernel2Ideal.main_v33_12) = v12 c
          ∧ r.2.mem ((c.tc : Thread Cert.Kernel2Ideal.nD Cert.Kernel2Ideal.τ).loc Cert.Kernel2Ideal.main_v33_13) = v13 c
          ∧ r.2.mem ((c.tc : Thread Cert.Kernel2Ideal.nD Cert.Kernel2Ideal.τ).loc Cert.Kernel2Ideal.main_v33_14) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_v66) = v5 c
          ∧ r.2.mem ((c.tc : Thread Cert.Reference2Ideal.nD Cert.Reference2Ideal.τ).loc Cert.Reference2Ideal.main_v67) = v6 c
          ∧ r.2.mem ((c.tc : Thread Cert.Reference2Ideal.nD Cert.Reference2Ideal.τ).loc Cert.Reference2Ideal.main_v73) = v7 c
          ∧ r.2.mem ((c.tc : Thread Cert.Reference2Ideal.nD Cert.Reference2Ideal.τ).loc Cert.Reference2Ideal.main_v79) = v8 c
          ∧ r.2.mem ((c.tc : Thread Cert.Reference2Ideal.nD Cert.Reference2Ideal.τ).loc Cert.Reference2Ideal.main_v80) = v9 c
          ∧ r.2.mem ((c.tc : Thread Cert.Reference2Ideal.nD Cert.Reference2Ideal.τ).loc Cert.Reference2Ideal.main_v62) = v10 c
          ∧ r.2.mem ((c.tc : Thread Cert.Reference2Ideal.nD Cert.Reference2Ideal.τ).loc Cert.Reference2Ideal.main_v60) = v11 c
          ∧ r.2.mem ((c.tc : Thread Cert.Reference2Ideal.nD Cert.Reference2Ideal.τ).loc Cert.Reference2Ideal.main_v82) = v12 c
          ∧ r.2.mem ((c.tc : Thread Cert.Reference2Ideal.nD Cert.Reference2Ideal.τ).loc Cert.Reference2Ideal.main_v84) = v13 c
          ∧ r.2.mem ((c.tc : Thread Cert.Reference2Ideal.nD Cert.Reference2Ideal.τ).loc Cert.Reference2Ideal.main_v85) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v77) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_3)) (v2 : (c : Dev Cert.Kernel5Ideal.nD) → Buf (Elt Ideal) ((c.tc : Thread Cert.Kernel5Ideal.nD Cert.Kernel5Ideal.τ).loc Cert.Kernel5Ideal.main_v32_4)) (v3 : (c : Dev Cert.Kernel5Ideal.nD) → Buf (Elt Ideal) ((c.tc : Thread Cert.Kernel5Ideal.nD Cert.Kernel5Ideal.τ).loc Cert.Kernel5Ideal.main_v32_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_3) = v1 c
          ∧ r.2.mem ((c.tc : Thread Cert.Kernel5Ideal.nD Cert.Kernel5Ideal.τ).loc Cert.Kernel5Ideal.main_v32_4) = v2 c
          ∧ r.2.mem ((c.tc : Thread Cert.Kernel5Ideal.nD Cert.Kernel5Ideal.τ).loc Cert.Kernel5Ideal.main_v32_11) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v55) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_on_ffn_token_rows [hKernel6Ideal : Cert.Kernel6Ideal.Facts] [hReference6Ideal : Cert.Reference6Ideal.Facts] [hOn_ffn_token_rows : Cert.On_ffn_token_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![256, 1024]⟩ : Shape).Idx, (Cert.On_ffn_token_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 i = 1#1 → r.2.mem ((c.tc : Thread Cert.Kernel6Ideal.nD Cert.Kernel6Ideal.τ).loc Cert.Kernel6Ideal.main_v10_0) i = v0 c i)
          ∧ (∀ i : (⟨2, ![256, 5632]⟩ : Shape).Idx, (Cert.On_ffn_token_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2 i = 1#1 → r.2.mem ((c.tc : Thread Cert.Kernel6Ideal.nD Cert.Kernel6Ideal.τ).loc Cert.Kernel6Ideal.main_v10_1) i = v1 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![256, 1024]⟩ : Shape).Idx, (Cert.On_ffn_token_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 i = 1#1 → r.2.mem ((c.tc : Thread Cert.Reference6Ideal.nD Cert.Reference6Ideal.τ).loc Cert.Reference6Ideal.main_v78) i = v0 c i)
          ∧ (∀ i : (⟨2, ![256, 5632]⟩ : Shape).Idx, (Cert.On_ffn_token_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2 i = 1#1 → r.2.mem ((c.tc : Thread Cert.Reference6Ideal.nD Cert.Reference6Ideal.τ).loc Cert.Reference6Ideal.main_v80) i = v1 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hOn_token_rows : Cert.On_token_rows.Facts) (hOn_ffn_token_rows : Cert.On_ffn_token_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_token_rows_pre_finite (hKernelIdeal := hKernelIdeal) (hReferenceIdeal := hReferenceIdeal) (hPre_finite := hPre_finite) (hOn_token_rows := hOn_token_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_ffn_token_rows (hKernel6Ideal := hKernel6Ideal) (hReference6Ideal := hReference6Ideal) (hOn_ffn_token_rows := hOn_ffn_token_rows)
-- ==== On_ffn_token_rows.lean ====
abbrev S256x1024 : Shape := ⟨2, ![256, 1024]⟩
abbrev S256x5632 : Shape := ⟨2, ![256, 5632]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  bcast_S_S256x5632 : S_.BroadcastsInDim S256x5632 (![] : Fin 0 → Fin S256x5632.rank)

variable [Facts]

def fn {F : FTy → Type} [FloatOps F] (main_arg0 : FVec F S256x1024 .f32) (main_arg1 : FVec F S256x1024 .f32) (main_arg2 : FVec F S256x1024 .f32) (main_arg3 : FVec F S256x1024 .f32) (main_arg4 : FVec F S256x5632 .f32) (main_arg5 : FVec F S1x1024 .f32) (main_arg6 : FVec F S1x1024x5632 .f32) (main_arg7 : FVec F S1x3x5632 .f32) (main_arg8 : FVec F S1x5632 .f32) (main_arg9 : FVec F S1x2816x1024 .f32) (main_arg10 : FVec F S1024 .f32) : IVec S256x1024 1 × IVec S256x5632 1 :=
  let main_v0 : IVec S256x1024 32 := iotaInDim S256x1024 32 0
  let main_c : IVec S_ 32 := constantI S_ 32 7#32
  let main_v1 : IVec S256x1024 32 := broadcastInDim S256x1024 ![] bcast_S_S256x1024 main_c
  let main_v2 : IVec S256x1024 32 := andi main_v0 main_v1
  let main_c_0 : IVec S_ 32 := constantI S_ 32 4#32
  let main_v3 : IVec S256x1024 32 := broadcastInDim S256x1024 ![] bcast_S_S256x1024 main_c_0
  let main_v4 : IVec S256x1024 1 := cmpi .sge main_v2 main_v3
  let main_v5 : IVec S256x5632 32 := iotaInDim S256x5632 32 0
  let main_c_1 : IVec S_ 32 := constantI S_ 32 7#32
  let main_v6 : IVec S256x5632 32 := broadcastInDim S256x5632 ![] bcast_S_S256x5632 main_c_1
  let main_v7 : IVec S256x5632 32 := andi main_v5 main_v6
  let main_c_2 : IVec S_ 32 := constantI S_ 32 4#32
  let main_v8 : IVec S256x5632 32 := broadcastInDim S256x5632 ![] bcast_S_S256x5632 main_c_2
  let main_v9 : IVec S256x5632 1 := cmpi .sge main_v7 main_v8
  (main_v4, main_v9)
-- ==== On_token_rows.lean ====
abbrev S256x3072 : Shape := ⟨2, ![256, 3072]⟩
abbrev S256x128 : Shape := ⟨2, ![256, 128]⟩
abbrev S256x1024 : Shape := ⟨2, ![256, 1024]⟩
abbrev S32x8x128x128 : Shape := ⟨4, ![32, 8, 128, 128]⟩
abbrev S4x3072 : Shape := ⟨2, ![4, 3072]⟩
abbrev S8x128 : Shape := ⟨2, ![8, 128]⟩
abbrev S1x128 : Shape := ⟨2, ![1, 128]⟩
abbrev S_ : Shape := ⟨0, ![]⟩

class Facts : Prop where
  bcast_S_S256x1024 : S_.BroadcastsInDim S256x1024 (![] : Fin 0 → Fin S256x1024.rank)
  bcast_S_S32x8x128x128 : S_.BroadcastsInDim S32x8x128x128 (![] : Fin 0 → Fin S32x8x128x128.rank)

variable [Facts]

def fn {F : FTy → Type} [FloatOps F] (main_arg0 : FVec F S256x3072 .f32) (main_arg1 : FVec F S256x3072 .f32) (main_arg2 : FVec F S256x128 .f32) (main_arg3 : FVec F S256x1024 .f32) (main_arg4 : FVec F S32x8x128x128 .f32) (main_arg5 : FVec F S4x3072 .f32) (main_arg6 : FVec F S8x128 .f32) (main_arg7 : FVec F S1x128 .f32) : IVec S256x1024 1 × IVec S32x8x128x128 1 :=
  let main_v0 : IVec S256x1024 32 := iotaInDim S256x1024 32 0
  let main_c : IVec S_ 32 := constantI S_ 32 7#32
  let main_v1 : IVec S256x1024 32 := broadcastInDim S256x1024 ![] bcast_S_S256x1024 main_c
  let main_v2 : IVec S256x1024 32 := andi main_v0 main_v1
  let main_c_0 : IVec S_ 32 := constantI S_ 32 4#32
  let main_v3 : IVec S256x1024 32 := broadcastInDim S256x1024 ![] bcast_S_S256x1024 main_c_0
  let main_v4 : IVec S256x1024 1 := cmpi .sge main_v2 main_v3
  let main_c_1 : IVec S_ 1 := constantI S_ 1 1#1
  let main_v5 : IVec S32x8x128x128 1 := broadcastInDim S32x8x128x128 ![] bcast_S_S32x8x128x128 main_c_1
  (main_v4, main_v5)
-- ==== Pre_finite.lean ====
abbrev S256x3072 : Shape := ⟨2, ![256, 3072]⟩
abbrev S256x128 : Shape := ⟨2, ![256, 128]⟩
abbrev S256x1024 : Shape := ⟨2, ![256, 1024]⟩
abbrev S32x8x128x128 : Shape := ⟨4, ![32, 8, 128, 128]⟩
abbrev S4x3072 : Shape := ⟨2, ![4, 3072]⟩
abbrev S8x128 : Shape := ⟨2, ![8, 128]⟩
abbrev S1x128 : Shape := ⟨2, ![1, 128]⟩
abbrev S_ : Shape := ⟨0, ![]⟩

class Facts : Prop where
  bcast_S_S256x3072 : S_.BroadcastsInDim S256x3072 (![] : Fin 0 → Fin S256x3072.rank)
  bcast_S_S256x128 : S_.BroadcastsInDim S256x128 (![] : Fin 0 → Fin S256x128.rank)
  bcast_S_S32x8x128x128 : S_.BroadcastsInDim S32x8x128x128 (![] : Fin 0 → Fin S32x8x128x128.rank)
  bcast_S_S4x3072 : S_.BroadcastsInDim S4x3072 (![] : Fin 0 → Fin S4x3072.rank)
  bcast_S_S8x128 : S_.BroadcastsInDim S8x128 (![] : Fin 0 → Fin S8x128.rank)

variable [Facts]

def fn {F : FTy → Type} [FloatOps F] (main_arg0 : FVec F S256x3072 .f32) (main_arg1 : FVec F S256x3072 .f32) (main_arg2 : FVec F S256x128 .f32) (main_arg3 : FVec F S256x1024 .f32) (main_arg4 : FVec F S32x8x128x128 .f32) (main_arg5 : FVec F S4x3072 .f32) (main_arg6 : FVec F S8x128 .f32) (main_arg7 : FVec F S1x128 .f32) : IVec S256x3072 1 × IVec S256x3072 1 × IVec S256x128 1 × IVec S32x8x128x128 1 × IVec S4x3072 1 × IVec S8x128 1 :=
  let main_v0 : FVec F S256x3072 .f32 := Host.absf main_arg0
  let main_cst : FVec F S_ .f32 := constant S_ .f32 0x7F800000#32
  let main_v1 : FVec F S256x3072 .f32 := broadcastInDim S256x3072 ![] bcast_S_S256x3072 main_cst
  let main_v2 : IVec S256x3072 1 := cmpf .olt main_v0 main_v1
  let main_v3 : FVec F S256x3072 .f32 := Host.absf main_arg1
  let main_cst_0 : FVec F S_ .f32 := constant S_ .f32 0x7F800000#32
  let main_v4 : FVec F S256x3072 .f32 := broadcastInDim S256x3072 ![] bcast_S_S256x3072 main_cst_0
  let main_v5 : IVec S256x3072 1 := cmpf .olt main_v3 main_v4
  let main_v6 : FVec F S256x128 .f32 := Host.absf main_arg2
  let main_cst_1 : FVec F S_ .f32 := constant S_ .f32 0x7F800000#32
  let main_v7 : FVec F S256x128 .f32 := broadcastInDim S256x128 ![] bcast_S_S256x128 main_cst_1
  let main_v8 : IVec S256x128 1 := cmpf .olt main_v6 main_v7
  let main_v9 : FVec F S32x8x128x128 .f32 := Host.absf main_arg4
  let main_cst_2 : FVec F S_ .f32 := constant S_ .f32 0x7F800000#32
  let main_v10 : FVec F S32x8x128x128 .f32 := broadcastInDim S32x8x128x128 ![] bcast_S_S32x8x128x128 main_cst_2
  let main_v11 : IVec S32x8x128x128 1 := cmpf .olt main_v9 main_v10
  let main_v12 : FVec F S4x3072 .f32 := Host.absf main_arg5
  let main_cst_3 : FVec F S_ .f32 := constant S_ .f32 0x7F800000#32
  let main_v13 : FVec F S4x3072 .f32 := broadcastInDim S4x3072 ![] bcast_S_S4x3072 main_cst_3
  let main_v14 : IVec S4x3072 1 := cmpf .olt main_v12 main_v13
  let main_v15 : FVec F S8x128 .f32 := Host.absf main_arg6
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Kernel.lean ====
abbrev S256x3072 : Shape := ⟨2, ![256, 3072]⟩
abbrev S256x128 : Shape := ⟨2, ![256, 128]⟩
abbrev S256x1024 : Shape := ⟨2, ![256, 1024]⟩
abbrev S32x8x128x128 : Shape := ⟨4, ![32, 8, 128, 128]⟩
abbrev S4x3072 : Shape := ⟨2, ![4, 3072]⟩
abbrev S8x128 : Shape := ⟨2, ![8, 128]⟩
abbrev S1x128 : Shape := ⟨2, ![1, 128]⟩
abbrev S8x3072 : Shape := ⟨2, ![8, 3072]⟩
abbrev S8x1024 : Shape := ⟨2, ![8, 1024]⟩
abbrev S1x8x128x128 : Shape := ⟨4, ![1, 8, 128, 128]⟩
abbrev S72x3072 : Shape := ⟨2, ![72, 3072]⟩
abbrev S128x128 : Shape := ⟨2, ![128, 128]⟩
abbrev S1x1x128x128 : Shape := ⟨4, ![1, 1, 128, 128]⟩
abbrev S8x1 : Shape := ⟨2, ![8, 1]⟩
abbrev S64x1 : Shape := ⟨2, ![64, 1]⟩
abbrev S56x128 : Shape := ⟨2, ![56, 128]⟩
abbrev S64x128 : Shape := ⟨2, ![64, 128]⟩
abbrev S64x64 : Shape := ⟨2, ![64, 64]⟩
abbrev S1x3072 : Shape := ⟨2, ![1, 3072]⟩
abbrev S64x3072 : Shape := ⟨2, ![64, 3072]⟩
abbrev S64 : Shape := ⟨1, ![64]⟩
abbrev S128x64 : Shape := ⟨2, ![128, 64]⟩
abbrev S8 : Shape := ⟨1, ![8]⟩

abbrev nBuf : Space → Nat
  | .hbm => 10
  | .vmem => 26
  | .smem => 0
  | _ => 0

abbrev bufTy : (tb : Table) → Fin (tcTables nBuf tb) → BufTy
  | .hbm, ⟨0, _⟩ => ⟨S256x3072, .f32⟩
  | .hbm, ⟨1, _⟩ => ⟨S256x3072, .f32⟩
  | .hbm, ⟨2, _⟩ => ⟨S256x128, .f32⟩
  | .hbm, ⟨3, _⟩ => ⟨S256x1024, .f32⟩
  | .hbm, ⟨4, _⟩ => ⟨S32x8x128x128, .f32⟩
  | .hbm, ⟨5, _⟩ => ⟨S4x3072, .f32⟩
  | .hbm, ⟨6, _⟩ => ⟨S8x128, .f32⟩
  | .hbm, ⟨7, _⟩ => ⟨S1x128, .f32⟩
  | .hbm, ⟨8, _⟩ => ⟨S256x1024, .f32⟩
  | .hbm, ⟨9, _⟩ => ⟨S32x8x128x128, .f32⟩
  | .local _ .vmem, ⟨0, _⟩ => ⟨S8x3072, .f32⟩
  | .local _ .vmem, ⟨1, _⟩ => ⟨S8x3072, .f32⟩
  | .local _ .vmem, ⟨2, _⟩ => ⟨S8x3072, .f32⟩
  | .local _ .vmem, ⟨3, _⟩ => ⟨S8x3072, .f32⟩
  | .local _ .vmem, ⟨4, _⟩ => ⟨S8x128, .f32⟩
  | .local _ .vmem, ⟨5, _⟩ => ⟨S8x128, .f32⟩
  | .local _ .vmem, ⟨6, _⟩ => ⟨S8x1024, .f32⟩
  | .local _ .vmem, ⟨7, _⟩ => ⟨S8x1024, .f32⟩
  | .local _ .vmem, ⟨8, _⟩ => ⟨S1x8x128x128, .f32⟩
  | .local _ .vmem, ⟨9, _⟩ => ⟨S1x8x128x128, .f32⟩
  | .local _ .vmem, ⟨10, _⟩ => ⟨S4x3072, .f32⟩
  | .local _ .vmem, ⟨11, _⟩ => ⟨S8x128, .f32⟩
  | .local _ .vmem, ⟨12, _⟩ => ⟨S1x128, .f32⟩
  | .local _ .vmem, ⟨13, _⟩ => ⟨S8x1024, .f32⟩
  | .local _ .vmem, ⟨14, _⟩ => ⟨S8x1024, .f32⟩
  | .local _ .vmem, ⟨15, _⟩ => ⟨S1x8x128x128, .f32⟩
  | .local _ .vmem, ⟨16, _⟩ => ⟨S1x8x128x128, .f32⟩
  | .local _ .vmem, ⟨17, _⟩ => ⟨S72x3072, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_527 : BitVec 32 := 0#32
  let v1849 : BitVec 1 := Scalar.cmpi .eq arg1 c0_i32_527
  let v1850 : BitVec 32 := Scalar.extui v1849
  let c0_i32_528 : BitVec 32 := 0#32
  let v1851 : BitVec 1 := Scalar.cmpi .ne v1850 c0_i32_528
  v1851

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S256x3072 : Shape := ⟨2, ![256, 3072]⟩
abbrev S256x128 : Shape := ⟨2, ![256, 128]⟩
abbrev S256x1024 : Shape := ⟨2, ![256, 1024]⟩
abbrev S32x8x128x128 : Shape := ⟨4, ![32, 8, 128, 128]⟩
abbrev S4x3072 : Shape := ⟨2, ![4, 3072]⟩
abbrev S8x128 : Shape := ⟨2, ![8, 128]⟩
abbrev S1x128 : Shape := ⟨2, ![1, 128]⟩
abbrev S32x8x3072 : Shape := ⟨3, ![32, 8, 3072]⟩
abbrev S32x4x3072 : Shape := ⟨3, ![32, 4, 3072]⟩
abbrev S32x3x3072 : Shape := ⟨3, ![32, 3, 3072]⟩
abbrev S32x8x128 : Shape := ⟨3, ![32, 8, 128]⟩
abbrev S32x4x128 : Shape := ⟨3, ![32, 4, 128]⟩
abbrev S32x4x8 : Shape := ⟨3, ![32, 4, 8]⟩
abbrev S32x8x1024 : Shape := ⟨3, ![32, 8, 1024]⟩
abbrev S32x4x1024 : Shape := ⟨3, ![32, 4, 1024]⟩
abbrev S1x8 : Shape := ⟨2, ![1, 8]⟩
abbrev S8 : Shape := ⟨1, ![8]⟩
abbrev S32x7x3072 : Shape := ⟨3, ![32, 7, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S32x4x8x128 : Shape := ⟨4, ![32, 4, 8, 128]⟩
abbrev S32x4x8x1 : Shape := ⟨4, ![32, 4, 8, 1]⟩
abbrev S1x1x8 : Shape := ⟨3, ![1, 1, 8]⟩
abbrev S32x1x8x128 : Shape := ⟨4, ![32, 1, 8, 128]⟩
abbrev S32x1x8 : Shape := ⟨3, ![32, 1, 8]⟩
abbrev S32x8 : Shape := ⟨2, ![32, 8]⟩
abbrev S32x8x1x1 : Shape := ⟨4, ![32, 8, 1, 1]⟩
abbrev S32x8x1 : Shape := ⟨3, ![32, 8, 1]⟩
abbrev S32x8x128x1 : Shape := ⟨4, ![32, 8, 128, 1]⟩
abbrev S32x8x1x128 : Shape := ⟨4, ![32, 8, 1, 128]⟩
abbrev S128 : Shape := ⟨1, ![128]⟩
abbrev S1x1x1x128 : Shape := ⟨4, ![1, 1, 1, 128]⟩

abbrev nBuf : Space → Nat
  | .hbm => 262
  | .vmem => 0
  | .smem => 0
  | _ => 0

abbrev hbmTy0_0 (i : Nat) : BufTy := match i % 128 with
  | 0 => ⟨S256x3072, .f32⟩
  | 1 => ⟨S256x3072, .f32⟩
  | 2 => ⟨S256x128, .f32⟩
  | 3 => ⟨S256x1024, .f32⟩
  | 4 => ⟨S32x8x128x128, .f32⟩
  | 5 => ⟨S4x3072, .f32⟩
  | 6 => ⟨S8x128, .f32⟩
  | 7 => ⟨S1x128, .f32⟩
  | 8 => ⟨S32x8x3072, .f32⟩
  | 9 => ⟨S32x4x3072, .f32⟩
  | 10 => ⟨S32x8x3072, .f32⟩
  | 11 => ⟨S32x3x3072, .f32⟩
  | 12 => ⟨S32x8x128, .f32⟩
  | 13 => ⟨S32x4x128, .f32⟩
  | 14 => ⟨S32x4x8, .f32⟩
  | 15 => ⟨S32x8x128, .f32⟩
  | 16 => ⟨S32x4x128, .f32⟩
  | 17 => ⟨S32x4x8, .f32⟩
  | 18 => ⟨S32x8x1024, .f32⟩
  | 19 => ⟨S32x4x1024, .f32⟩
  | 20 => ⟨S1x8, .f32⟩
  | 21 => ⟨S8, .f32⟩
  | 22 => ⟨S1x8, .f32⟩
  | 23 => ⟨S8, .f32⟩
  | 24 => ⟨S32x7x3072, .f32⟩
  | 25 => ⟨S32x4x3072, .f32⟩
  | 26 => ⟨S1x3072, .f32⟩
  | 27 => ⟨S3072, .f32⟩
  | 28 => ⟨S1x1x3072, .f32⟩
  | 29 => ⟨S32x4x3072, .f32⟩
  | 30 => ⟨S32x4x3072, .f32⟩
  | 31 => ⟨S32x4x3072, .f32⟩
  | 32 => ⟨S1x3072, .f32⟩
  | 33 => ⟨S3072, .f32⟩
  | 34 => ⟨S1x1x3072, .f32⟩
  | 35 => ⟨S32x4x3072, .f32⟩
  | 36 => ⟨S32x4x3072, .f32⟩
  | 37 => ⟨S32x4x3072, .f32⟩
  | 38 => ⟨S32x4x3072, .f32⟩
  | 39 => ⟨S1x3072, .f32⟩
  | 40 => ⟨S3072, .f32⟩
  | 41 => ⟨S1x1x3072, .f32⟩
  | 42 => ⟨S32x4x3072, .f32⟩
  | 43 => ⟨S32x4x3072, .f32⟩
  | 44 => ⟨S32x4x3072, .f32⟩
  | 45 => ⟨S32x4x3072, .f32⟩
  | 46 => ⟨S1x3072, .f32⟩
  | 47 => ⟨S3072, .f32⟩
  | 48 => ⟨S1x1x3072, .f32⟩
  | 49 => ⟨S32x4x3072, .f32⟩
  | 50 => ⟨S32x4x3072, .f32⟩
  | 51 => ⟨S32x4x3072, .f32⟩
  | 52 => ⟨S32x4x3072, .f32⟩
  | 53 => ⟨S32x4x3072, .f32⟩
  | 54 => ⟨S_, .f32⟩
  | 55 => ⟨S32x4x3072, .f32⟩
  | 56 => ⟨S32x4x3072, .f32⟩
  | 57 => ⟨S_, .f32⟩
  | 58 => ⟨S32x4x3072, .f32⟩
  | 59 => ⟨S32x4x3072, .f32⟩
  | 60 => ⟨S32x4x3072, .f32⟩
  | 61 => ⟨S32x4x1024, .f32⟩
  | 62 => ⟨S32x4x1024, .f32⟩
  | 63 => ⟨S32x4x1024, .f32⟩
  | 64 => ⟨S32x4x8x128, .f32⟩
  | 65 => ⟨S32x4x8x128, .f32⟩
  | 66 => ⟨S_, .f32⟩
  | 67 => ⟨S32x4x8, .f32⟩
  | 68 => ⟨S32x4x8x1, .f32⟩
  | 69 => ⟨S_, .f32⟩
  | 70 => ⟨S32x4x8x1, .f32⟩
  | 71 => ⟨S32x4x8x1, .f32⟩
  | 72 => ⟨S32x4x8x1, .f32⟩
  | 73 => ⟨S32x4x8x128, .f32⟩
  | 74 => ⟨S32x4x8x128, .f32⟩
  | 75 => ⟨S_, .f32⟩
  | 76 => ⟨S32x4x8x128, .f32⟩
  | 77 => ⟨S32x4x8x128, .f32⟩
  | 78 => ⟨S32x4x8x128, .f32⟩
  | 79 => ⟨S32x4x8x128, .f32⟩
  | 80 => ⟨S_, .f32⟩
  | 81 => ⟨S32x4x8, .f32⟩
  | 82 => ⟨S32x4x8x1, .f32⟩
  | 83 => ⟨S_, .f32⟩
  | 84 => ⟨S32x4x8x1, .f32⟩
  | 85 => ⟨S32x4x8x1, .f32⟩
  | 86 => ⟨S32x4x8x1, .f32⟩
  | 87 => ⟨S32x4x8x128, .f32⟩
  | 88 => ⟨S32x4x8x128, .f32⟩
  | 89 => ⟨S32x4x8x128, .f32⟩
  | 90 => ⟨S32x4x8, .f32⟩
  | 91 => ⟨S32x4x8, .f32⟩
  | 92 => ⟨S_, .f32⟩
  | 93 => ⟨S32x4x8, .f32⟩
  | 94 => ⟨S32x4x8, .f32⟩
  | 95 => ⟨S_, .f32⟩
  | 96 => ⟨S32x4x8, .f32⟩
  | 97 => ⟨S32x4x8, .f32⟩
  | 98 => ⟨S8, .f32⟩
  | 99 => ⟨S8, .f32⟩
  | 100 => ⟨S1x1x8, .f32⟩
  | 101 => ⟨S32x4x8, .f32⟩
  | 102 => ⟨S32x4x8, .f32⟩
  | 103 => ⟨S_, .f32⟩
  | 104 => ⟨S32x4x8, .f32⟩
  | 105 => ⟨S32x4x8, .f32⟩
  | 106 => ⟨S32x4x8, .f32⟩
  | 107 => ⟨S32x4x8, .f32⟩
  | 108 => ⟨S32x4x8, .i1⟩
  | 109 => ⟨S32x4x8, .f32⟩
  | 110 => ⟨S32x4x8, .f32⟩
  | 111 => ⟨S32x4x8, .f32⟩
  | 112 => ⟨S32x4x8, .f32⟩
  | 113 => ⟨S32x4x8, .f32⟩
  | 114 => ⟨S32x4x8, .f32⟩
  | 115 => ⟨S32x4x8, .f32⟩
  | 116 => ⟨S32x4x8, .f32⟩
  | 117 => ⟨S1x1x8, .f32⟩
  | 118 => ⟨S32x4x8, .f32⟩
  | 119 => ⟨S32x4x8, .f32⟩
  | 120 => ⟨S32x1x8x128, .f32⟩
  | 121 => ⟨S32x8x128, .f32⟩
  | 122 => ⟨S32x1x8x128, .f32⟩
  | 123 => ⟨S32x8x128, .f32⟩
  | 124 => ⟨S32x1x8x128, .f32⟩
  | 125 => ⟨S32x8x128, .f32⟩
  | 126 => ⟨S32x1x8, .f32⟩
  | 127 => ⟨S32x8, .f32⟩
  | _ => ⟨S256x3072, .f32⟩

abbrev hbmTy0_1 (i : Nat) : BufTy := match i % 128 with
  | 0 => ⟨S32x1x8, .f32⟩
  | 1 => ⟨S32x8, .f32⟩
  | 2 => ⟨S32x8, .f32⟩
  | 3 => ⟨S32x8x1x1, .f32⟩
  | 4 => ⟨S32x8x128x128, .f32⟩
  | 5 => ⟨S32x8x128x128, .f32⟩
  | 6 => ⟨S32x8x1, .f32⟩
  | 7 => ⟨S32x8x128, .f32⟩
  | 8 => ⟨S32x8x128, .f32⟩
  | 9 => ⟨S32x8x128, .f32⟩
  | 10 => ⟨S32x8x128, .f32⟩
  | 11 => ⟨S32x8x128x1, .f32⟩
  | 12 => ⟨S32x8x1x128, .f32⟩
  | 13 => ⟨S32x8x128x128, .f32⟩
  | 14 => ⟨S32x8x128x128, .f32⟩
  | 15 => ⟨S32x8x128x128, .f32⟩
  | 16 => ⟨S32x8x128x128, .f32⟩
  | 17 => ⟨S32x8x128, .f32⟩
  | 18 => ⟨S32x1x8x128, .f32⟩
  | 19 => ⟨S32x8x128, .f32⟩
  | 20 => ⟨S32x1x8x128, .f32⟩
  | 21 => ⟨S32x8x128, .f32⟩
  | 22 => ⟨S32x1x8x128, .f32⟩
  | 23 => ⟨S32x8x128, .f32⟩
  | 24 => ⟨S32x1x8, .f32⟩
  | 25 => ⟨S32x8, .f32⟩
  | 26 => ⟨S32x1x8, .f32⟩
  | 27 => ⟨S32x8, .f32⟩
  | 28 => ⟨S32x8, .f32⟩
  | 29 => ⟨S32x8x1x1, .f32⟩
  | 30 => ⟨S32x8x128x128, .f32⟩
  | 31 => ⟨S32x8x128x128, .f32⟩
  | 32 => ⟨S32x8x1, .f32⟩
  | 33 => ⟨S32x8x128, .f32⟩
  | 34 => ⟨S32x8x128, .f32⟩
  | 35 => ⟨S32x8x128, .f32⟩
  | 36 => ⟨S32x8x128, .f32⟩
  | 37 => ⟨S32x8x128x1, .f32⟩
  | 38 => ⟨S32x8x1x128, .f32⟩
  | 39 => ⟨S32x8x128x128, .f32⟩
  | 40 => ⟨S32x8x128x128, .f32⟩
  | 41 => ⟨S32x8x128x128, .f32⟩
  | 42 => ⟨S32x8x128x128, .f32⟩
  | 43 => ⟨S32x8x128, .f32⟩
  | 44 => ⟨S32x1x8x128, .f32⟩
  | 45 => ⟨S32x8x128, .f32⟩
  | 46 => ⟨S32x1x8x128, .f32⟩
  | 47 => ⟨S32x8x128, .f32⟩
  | 48 => ⟨S32x1x8x128, .f32⟩
  | 49 => ⟨S32x8x128, .f32⟩
  | 50 => ⟨S32x1x8, .f32⟩
  | 51 => ⟨S32x8, .f32⟩
  | 52 => ⟨S32x1x8, .f32⟩
  | 53 => ⟨S32x8, .f32⟩
  | 54 => ⟨S32x8, .f32⟩
  | 55 => ⟨S32x8x1x1, .f32⟩
  | 56 => ⟨S32x8x128x128, .f32⟩
  | 57 => ⟨S32x8x128x128, .f32⟩
  | 58 => ⟨S32x8x1, .f32⟩
  | 59 => ⟨S32x8x128, .f32⟩
  | 60 => ⟨S32x8x128, .f32⟩
  | 61 => ⟨S32x8x128, .f32⟩
  | 62 => ⟨S32x8x128, .f32⟩
  | 63 => ⟨S32x8x128x1, .f32⟩
  | 64 => ⟨S32x8x1x128, .f32⟩
  | 65 => ⟨S32x8x128x128, .f32⟩
  | 66 => ⟨S32x8x128x128, .f32⟩
  | 67 => ⟨S32x8x128x128, .f32⟩
  | 68 => ⟨S32x8x128x128, .f32⟩
  | 69 => ⟨S32x8x128, .f32⟩
  | 70 => ⟨S32x1x8x128, .f32⟩
  | 71 => ⟨S32x8x128, .f32⟩
  | 72 => ⟨S32x1x8x128, .f32⟩
  | 73 => ⟨S32x8x128, .f32⟩
  | 74 => ⟨S32x1x8x128, .f32⟩
  | 75 => ⟨S32x8x128, .f32⟩
  | 76 => ⟨S32x1x8, .f32⟩
  | 77 => ⟨S32x8, .f32⟩
  | 78 => ⟨S32x1x8, .f32⟩
  | 79 => ⟨S32x8, .f32⟩
  | 80 => ⟨S32x8, .f32⟩
  | 81 => ⟨S32x8x1x1, .f32⟩
  | 82 => ⟨S32x8x128x128, .f32⟩
  | 83 => ⟨S32x8x128x128, .f32⟩
  | 84 => ⟨S32x8x1, .f32⟩
  | 85 => ⟨S32x8x128, .f32⟩
  | 86 => ⟨S32x8x128, .f32⟩
  | 87 => ⟨S32x8x128, .f32⟩
  | 88 => ⟨S32x8x128, .f32⟩
  | 89 => ⟨S32x8x128x1, .f32⟩
  | 90 => ⟨S32x8x1x128, .f32⟩
  | 91 => ⟨S32x8x128x128, .f32⟩
  | 92 => ⟨S32x8x128x128, .f32⟩
  | 93 => ⟨S32x8x128x128, .f32⟩
  | 94 => ⟨S32x8x128x128, .f32⟩
  | 95 => ⟨S32x8x128, .f32⟩
  | 96 => ⟨S32x1x8x128, .f32⟩
  | 97 => ⟨S32x1x8x128, .f32⟩
  | 98 => ⟨S32x1x8x128, .f32⟩
  | 99 => ⟨S32x1x8x128, .f32⟩
  | 100 => ⟨S32x4x8x128, .f32⟩
  | 101 => ⟨S128, .f32⟩
  | 102 => ⟨S32x4x8x128, .f32⟩
  | 103 => ⟨S_, .f32⟩
  | 104 => ⟨S32x4x8, .f32⟩
  | 105 => ⟨S32x4x8x1, .f32⟩
  | 106 => ⟨S_, .f32⟩
  | 107 => ⟨S32x4x8x1, .f32⟩
  | 108 => ⟨S32x4x8x1, .f32⟩
  | 109 => ⟨S_, .f32⟩
  | 110 => ⟨S32x4x8x1, .f32⟩
  | 111 => ⟨S32x4x8x1, .f32⟩
  | 112 => ⟨S32x4x8x1, .f32⟩
  | 113 => ⟨S32x4x8x128, .f32⟩
  | 114 => ⟨S32x4x8x128, .f32⟩
  | 115 => ⟨S1x1x1x128, .f32⟩
  | 116 => ⟨S32x4x8x128, .f32⟩
  | 117 => ⟨S32x4x8x128, .f32⟩
  | 118 => ⟨S32x4x8x128, .f32⟩
  | 119 => ⟨S32x4x8x128, .f32⟩
  | 120 => ⟨S32x4x8x128, .f32⟩
  | 121 => ⟨S_, .f32⟩
  | 122 => ⟨S32x4x8x128, .f32⟩
  | 123 => ⟨S32x4x8x128, .f32⟩
  | 124 => ⟨S_, .f32⟩
  | 125 => ⟨S32x4x8x128, .f32⟩
  | 126 => ⟨S32x4x8x128, .f32⟩
  | 127 => ⟨S32x4x8x128, .f32⟩
  | _ => ⟨S256x3072, .f32⟩

abbrev hbmTy0_2 (i : Nat) : BufTy := match i % 128 with
  | 0 => ⟨S32x4x8x128, .f32⟩
  | 1 => ⟨S32x4x1024, .f32⟩
  | 2 => ⟨S_, .i32⟩
  | 3 => ⟨S_, .f32⟩
  | 4 => ⟨S32x8x1024, .f32⟩
  | 5 => ⟨S256x1024, .f32⟩
  | _ => ⟨S256x3072, .f32⟩

abbrev hbmTy (i : Nat) : BufTy := match i / 128 with
  | 0 => hbmTy0_0 i
  | 1 => hbmTy0_1 i
  | 2 => hbmTy0_2 i
  | _ => ⟨S256x3072, .f32⟩

abbrev bufTy : (tb : Table) → Fin (tcTables nBuf tb) → BufTy
  | .hbm, ⟨i, _⟩ => hbmTy i
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst : Ref sig .tc := ⟨.hbm, 66, rfl⟩
abbrev main_v50 : Ref sig .tc := ⟨.hbm, 67, rfl⟩
abbrev main_v51 : Ref sig .tc := ⟨.hbm, 68, rfl⟩
abbrev main_cst_0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_1 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_2 : Ref sig .tc := ⟨.hbm, 80, rfl⟩
abbrev main_v61 : Ref sig .tc := ⟨.hbm, 81, rfl⟩
abbrev main_v62 : Ref sig .tc := ⟨.hbm, 82, rfl⟩
abbrev main_cst_3 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_4 : Ref sig .tc := ⟨.hbm, 92, rfl⟩
abbrev main_v71 : Ref sig .tc := ⟨.hbm, 93, rfl⟩
abbrev main_v72 : Ref sig .tc := ⟨.hbm, 94, rfl⟩
abbrev main_cst_5 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_cst_6 : Ref sig .tc := ⟨.hbm, 231, rfl⟩
abbrev main_v195 : Ref sig .tc := ⟨.hbm, 232, rfl⟩
abbrev main_v196 : Ref sig .tc := ⟨.hbm, 233, rfl⟩
abbrev main_cst_7 : Ref sig .tc := ⟨.hbm, 234, rfl⟩
abbrev main_v197 : Ref sig .tc := ⟨.hbm, 235, rfl⟩
abbrev main_v198 : Ref sig .tc := ⟨.hbm, 236, rfl⟩
abbrev main_cst_8 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_call2_v0 : Ref sig .tc := ⟨.hbm, 247, rfl⟩
abbrev main_call2_v1 : Ref sig .tc := ⟨.hbm, 248, rfl⟩
abbrev main_call2_cst : Ref sig .tc := ⟨.hbm, 249, rfl⟩
abbrev main_call2_v2 : Ref sig .tc := ⟨.hbm, 250, rfl⟩
abbrev main_call2_v3 : Ref sig .tc := ⟨.hbm, 251, rfl⟩
abbrev main_call2_cst_0 : Ref sig .tc := ⟨.hbm, 252, rfl⟩
abbrev main_call2_v4 : Ref sig .tc := ⟨.hbm, 253, rfl⟩
abbrev main_call2_v5 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_c : Ref sig .tc := ⟨.hbm, 258, rfl⟩
abbrev main_call3_v0 : Ref sig .tc := ⟨.hbm, 259, rfl⟩
abbrev main_v211 : Ref sig .tc := ⟨.hbm, 260, rfl⟩
abbrev main_v212 : Ref sig .tc := ⟨.hbm, 261, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x1024 : Shape := ⟨2, ![1, 1024]⟩
abbrev S1x1024x9816 : Shape := ⟨3, ![1, 1024, 9816]⟩
abbrev S1x64 : Shape := ⟨2, ![1, 64]⟩
abbrev S1024x9816 : Shape := ⟨2, ![1024, 9816]⟩
abbrev S1024x4096 : Shape := ⟨2, ![1024, 4096]⟩
abbrev S1024x3072 : Shape := ⟨2, ![1024, 3072]⟩
abbrev S1024x2048 : Shape := ⟨2, ![1024, 2048]⟩
abbrev S1024x512 : Shape := ⟨2, ![1024, 512]⟩
abbrev S1024x64 : Shape := ⟨2, ![1024, 64]⟩
abbrev S1024x16 : Shape := ⟨2, ![1024, 16]⟩
abbrev S1024x8 : Shape := ⟨2, ![1024, 8]⟩
abbrev S_ : Shape := ⟨0, ![]⟩
abbrev S1024x40 : Shape := ⟨2, ![1024, 40]⟩
abbrev S1024x9984 : Shape := ⟨2, ![1024, 9984]⟩
abbrev S1024x128 : Shape := ⟨2, ![1024, 128]⟩
abbrev S128x1024 : Shape := ⟨2, ![128, 1024]⟩
abbrev S64 : Shape := ⟨1, ![64]⟩
abbrev S128 : Shape := ⟨1, ![128]⟩
abbrev S1x128 : Shape := ⟨2, ![1, 128]⟩
abbrev S2x128 : Shape := ⟨2, ![2, 128]⟩
abbrev S1024 : Shape := ⟨1, ![1024]⟩
abbrev S16384x1024 : Shape := ⟨2, ![16384, 1024]⟩
abbrev S16384x3072 : Shape := ⟨2, ![16384, 3072]⟩
abbrev S16384x512 : Shape := ⟨2, ![16384, 512]⟩
abbrev S16384x128 : Shape := ⟨2, ![16384, 128]⟩
abbrev S16384x64 : Shape := ⟨2, ![16384, 64]⟩
abbrev S128x16384 : Shape := ⟨2, ![128, 16384]⟩
abbrev S256x1024 : Shape := ⟨2, ![256, 1024]⟩
abbrev S256x3072 : Shape := ⟨2, ![256, 3072]⟩
abbrev S256x512 : Shape := ⟨2, ![256, 512]⟩
abbrev S256x128 : Shape := ⟨2, ![256, 128]⟩
abbrev S256x64 : Shape := ⟨2, ![256, 64]⟩
abbrev S128x256 : Shape := ⟨2, ![128, 256]⟩
abbrev S256 : Shape := ⟨1, ![256]⟩
abbrev S256x1 : Shape := ⟨2, ![256, 1]⟩
abbrev S1024x1024 : Shape := ⟨2, ![1024, 1024]⟩

abbrev nBuf : Space → Nat
  | .hbm => 58
  | .vmem => 39
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x9816, .f32⟩
  | .hbm, ⟨5, _⟩ => ⟨S1x64, .f32⟩
  | .hbm, ⟨6, _⟩ => ⟨S1x64, .f32⟩
  | .hbm, ⟨7, _⟩ => ⟨S1024x9816, .f32⟩
  | .hbm, ⟨8, _⟩ => ⟨S1024x4096, .f32⟩
  | .hbm, ⟨9, _⟩ => ⟨S1024x3072, .f32⟩
  | .hbm, ⟨10, _⟩ => ⟨S1024x2048, .f32⟩
  | .hbm, ⟨11, _⟩ => ⟨S1024x512, .f32⟩
  | .hbm, ⟨12, _⟩ => ⟨S1024x64, .f32⟩
  | .hbm, ⟨13, _⟩ => ⟨S1024x16, .f32⟩
  | .hbm, ⟨14, _⟩ => ⟨S1024x8, .f32⟩
  | .hbm, ⟨15, _⟩ => ⟨S_, .f32⟩
  | .hbm, ⟨16, _⟩ => ⟨S1024x40, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S1024x9984, .f32⟩
  | .hbm, ⟨21, _⟩ => ⟨S1024x9984, .bf16⟩
  | .hbm, ⟨22, _⟩ => ⟨S1024x128, .bf16⟩
  | .hbm, ⟨23, _⟩ => ⟨S128x1024, .bf16⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S128, .f32⟩
  | .hbm, ⟨28, _⟩ => ⟨S64, .f32⟩
  | .hbm, ⟨29, _⟩ => ⟨S128, .f32⟩
  | .hbm, ⟨30, _⟩ => ⟨S1x128, .f32⟩
  | .hbm, ⟨31, _⟩ => ⟨S1x128, .f32⟩
  | .hbm, ⟨32, _⟩ => ⟨S2x128, .f32⟩
  | .hbm, ⟨33, _⟩ => ⟨S64, .f32⟩
  | .hbm, ⟨34, _⟩ => ⟨S128, .f32⟩
  | .hbm, ⟨35, _⟩ => ⟨S64, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S2x128, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x3072, .f32⟩
  | .hbm, ⟨44, _⟩ => ⟨S16384x1024, .f32⟩
  | .hbm, ⟨45, _⟩ => ⟨S16384x1024, .bf16⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S16384x1024, .bf16⟩
  | .hbm, ⟨50, _⟩ => ⟨S16384x1024, .f32⟩
  | .hbm, ⟨51, _⟩ => ⟨S16384x1024, .f32⟩
  | .hbm, ⟨52, _⟩ => ⟨S16384x512, .bf16⟩
  | .hbm, ⟨53, _⟩ => ⟨S16384x128, .f32⟩
  | .hbm, ⟨54, _⟩ => ⟨S16384x64, .f32⟩
  | .hbm, ⟨55, _⟩ => ⟨S16384x128, .bf16⟩
  | .hbm, ⟨56, _⟩ => ⟨S16384x128, .bf16⟩
  | .hbm, ⟨57, _⟩ => ⟨S128x16384, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x9984, .bf16⟩
  | .local _ .vmem, ⟨6, _⟩ => ⟨S128x1024, .bf16⟩
  | .local _ .vmem, ⟨7, _⟩ => ⟨S2x128, .f32⟩
  | .local _ .vmem, ⟨8, _⟩ => ⟨S2x128, .f32⟩
  | .local _ .vmem, ⟨9, _⟩ => ⟨S256x3072, .f32⟩
  | .local _ .vmem, ⟨10, _⟩ => ⟨S256x3072, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x512, .bf16⟩
  | .local _ .vmem, ⟨28, _⟩ => ⟨S256x512, .bf16⟩
  | .local _ .vmem, ⟨29, _⟩ => ⟨S256x128, .f32⟩
  | .local _ .vmem, ⟨30, _⟩ => ⟨S256x128, .f32⟩
  | .local _ .vmem, ⟨31, _⟩ => ⟨S256x64, .f32⟩
  | .local _ .vmem, ⟨32, _⟩ => ⟨S256x64, .f32⟩
  | .local _ .vmem, ⟨33, _⟩ => ⟨S256x128, .bf16⟩
  | .local _ .vmem, ⟨34, _⟩ => ⟨S256x128, .bf16⟩
  | .local _ .vmem, ⟨35, _⟩ => ⟨S256x128, .bf16⟩
  | .local _ .vmem, ⟨36, _⟩ => ⟨S256x128, .bf16⟩
  | .local _ .vmem, ⟨37, _⟩ => ⟨S128x256, .f32⟩
  | .local _ .vmem, ⟨38, _⟩ => ⟨S128x256, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev main_v33_4 : Ref sig .tc := ⟨.hbm, 47, rfl⟩
abbrev main_v33_5 : Ref sig .tc := ⟨.hbm, 48, rfl⟩
abbrev main_v33_6 : Ref sig .tc := ⟨.hbm, 49, rfl⟩
abbrev main_v33_7 : Ref sig .tc := ⟨.hbm, 50, rfl⟩
abbrev main_v33_8 : Ref sig .tc := ⟨.hbm, 51, rfl⟩
abbrev main_v33_9 : Ref sig .tc := ⟨.hbm, 52, rfl⟩
abbrev main_v33_10 : Ref sig .tc := ⟨.hbm, 53, rfl⟩
abbrev main_v33_11 : Ref sig .tc := ⟨.hbm, 54, rfl⟩
abbrev main_v33_12 : Ref sig .tc := ⟨.hbm, 55, rfl⟩
abbrev main_v33_13 : Ref sig .tc := ⟨.hbm, 56, rfl⟩
abbrev main_v33_14 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x9984 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S1x16384x1024 : Shape := ⟨3, ![1, 16384, 1024]⟩
abbrev S1x1024 : Shape := ⟨2, ![1, 1024]⟩
abbrev S1x1024x9816 : Shape := ⟨3, ![1, 1024, 9816]⟩
abbrev S1x64 : Shape := ⟨2, ![1, 64]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x9816 : Shape := ⟨2, ![1024, 9816]⟩
abbrev S1x16384x9816 : Shape := ⟨3, ![1, 16384, 9816]⟩
abbrev S16384x9816 : Shape := ⟨2, ![16384, 9816]⟩
abbrev S16384x3072 : Shape := ⟨2, ![16384, 3072]⟩
abbrev S16384x1024 : Shape := ⟨2, ![16384, 1024]⟩
abbrev S16384x8 : Shape := ⟨2, ![16384, 8]⟩
abbrev S16384x512 : Shape := ⟨2, ![16384, 512]⟩
abbrev S16384x64 : Shape := ⟨2, ![16384, 64]⟩
abbrev S64 : Shape := ⟨1, ![64]⟩
abbrev S16384 : Shape := ⟨1, ![16384]⟩
abbrev S16384x1 : Shape := ⟨2, ![16384, 1]⟩
abbrev S16384x88 : Shape := ⟨2, ![16384, 88]⟩
abbrev S16384x128 : Shape := ⟨2, ![16384, 128]⟩
abbrev S128x16384 : Shape := ⟨2, ![128, 16384]⟩

abbrev nBuf : Space → Nat
  | .hbm => 113
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x9816, .f32⟩
  | .hbm, ⟨5, _⟩ => ⟨S1x64, .f32⟩
  | .hbm, ⟨6, _⟩ => ⟨S1x64, .f32⟩
  | .hbm, ⟨7, _⟩ => ⟨S1024, .f32⟩
  | .hbm, ⟨8, _⟩ => ⟨S1x16384x1024, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x16384x1024, .f32⟩
  | .hbm, ⟨29, _⟩ => ⟨S1x16384x1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S1024x9816, .f32⟩
  | .hbm, ⟨34, _⟩ => ⟨S1x16384x9816, .f32⟩
  | .hbm, ⟨35, _⟩ => ⟨S16384x9816, .f32⟩
  | .hbm, ⟨36, _⟩ => ⟨S16384x3072, .f32⟩
  | .hbm, ⟨37, _⟩ => ⟨S16384x1024, .f32⟩
  | .hbm, ⟨38, _⟩ => ⟨S16384x8, .f32⟩
  | .hbm, ⟨39, _⟩ => ⟨S16384x8, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x512, .f32⟩
  | .hbm, ⟨44, _⟩ => ⟨S16384x64, .f32⟩
  | .hbm, ⟨45, _⟩ => ⟨S16384x8, .f32⟩
  | .hbm, ⟨46, _⟩ => ⟨S16384x1024, .f32⟩
  | .hbm, ⟨47, _⟩ => ⟨S16384x1024, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x64, .f32⟩
  | .hbm, ⟨57, _⟩ => ⟨S16384x64, .f32⟩
  | .hbm, ⟨58, _⟩ => ⟨S16384x64, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x64, .f32⟩
  | .hbm, ⟨70, _⟩ => ⟨S16384x64, .f32⟩
  | .hbm, ⟨71, _⟩ => ⟨S1x64, .f32⟩
  | .hbm, ⟨72, _⟩ => ⟨S16384x64, .f32⟩
  | .hbm, ⟨73, _⟩ => ⟨S16384x64, .f32⟩
  | .hbm, ⟨74, _⟩ => ⟨S1x64, .f32⟩
  | .hbm, ⟨75, _⟩ => ⟨S16384x64, .f32⟩
  | .hbm, ⟨76, _⟩ => ⟨S16384x64, .f32⟩
  | .hbm, ⟨77, _⟩ => ⟨S16384x88, .f32⟩
  | .hbm, ⟨78, _⟩ => ⟨S_, .i32⟩
  | .hbm, ⟨79, _⟩ => ⟨S_, .f32⟩
  | .hbm, ⟨80, _⟩ => ⟨S16384x128, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x1024, .bf16⟩
  | .hbm, ⟨85, _⟩ => ⟨S16384x1024, .bf16⟩
  | .hbm, ⟨86, _⟩ => ⟨S16384x1024, .bf16⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384x1024, .f32⟩
  | .hbm, ⟨102, _⟩ => ⟨S16384x1024, .f32⟩
  | .hbm, ⟨103, _⟩ => ⟨S16384x512, .bf16⟩
  | .hbm, ⟨104, _⟩ => ⟨S_, .i32⟩
  | .hbm, ⟨105, _⟩ => ⟨S_, .f32⟩
  | .hbm, ⟨106, _⟩ => ⟨S16384x128, .f32⟩
  | .hbm, ⟨107, _⟩ => ⟨S16384x128, .bf16⟩
  | .hbm, ⟨108, _⟩ => ⟨S_, .i32⟩
  | .hbm, ⟨109, _⟩ => ⟨S_, .f32⟩
  | .hbm, ⟨110, _⟩ => ⟨S16384x128, .f32⟩
  | .hbm, ⟨111, _⟩ => ⟨S16384x128, .bf16⟩
  | .hbm, ⟨112, _⟩ => ⟨S128x16384, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c : Ref sig .tc := ⟨.hbm, 78, rfl⟩
abbrev main_call0_v0 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_11 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_13 : Ref sig .tc := ⟨.hbm, 104, rfl⟩
abbrev main_call1_v0 : Ref sig .tc := ⟨.hbm, 105, rfl⟩
abbrev main_v81 : Ref sig .tc := ⟨.hbm, 106, rfl⟩
abbrev main_v82 : Ref sig .tc := ⟨.hbm, 107, rfl⟩
abbrev main_c_14 : Ref sig .tc := ⟨.hbm, 108, rfl⟩
abbrev main_call2_v0 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S5632 : Shape := ⟨1, ![5632]⟩
abbrev S3x5632 : Shape := ⟨2, ![3, 5632]⟩
abbrev S8x5632 : Shape := ⟨2, ![8, 5632]⟩
abbrev S256x1024 : Shape := ⟨2, ![256, 1024]⟩
abbrev S264x5632 : Shape := ⟨2, ![264, 5632]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩

abbrev nBuf : Space → Nat
  | .hbm => 22
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x5632, .f32⟩
  | .hbm, ⟨8, _⟩ => ⟨S1x2816x1024, .f32⟩
  | .hbm, ⟨9, _⟩ => ⟨S1024, .f32⟩
  | .hbm, ⟨10, _⟩ => ⟨S1024x5632, .f32⟩
  | .hbm, ⟨11, _⟩ => ⟨S1024x5632, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S5632, .f32⟩
  | .hbm, ⟨18, _⟩ => ⟨S1x5632, .f32⟩
  | .hbm, ⟨19, _⟩ => ⟨S3x5632, .f32⟩
  | .hbm, ⟨20, _⟩ => ⟨S16384x1024, .f32⟩
  | .hbm, ⟨21, _⟩ => ⟨S8x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S8x5632, .f32⟩
  | .local _ .vmem, ⟨14, _⟩ => ⟨S264x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S16384x1024 : Shape := ⟨2, ![16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1x16384x1024 : Shape := ⟨3, ![1, 16384, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S1x16384x5632 : Shape := ⟨3, ![1, 16384, 5632]⟩
abbrev S1x2x5632 : Shape := ⟨3, ![1, 2, 5632]⟩
abbrev S3x5632 : Shape := ⟨2, ![3, 5632]⟩
abbrev S1x16386x5632 : Shape := ⟨3, ![1, 16386, 5632]⟩
abbrev S5632 : Shape := ⟨1, ![5632]⟩
abbrev S1x1x5632 : Shape := ⟨3, ![1, 1, 5632]⟩
abbrev S1x16384x2816 : Shape := ⟨3, ![1, 16384, 2816]⟩
abbrev S2816x1024 : Shape := ⟨2, ![2816, 1024]⟩
abbrev S1x8x5632 : Shape := ⟨3, ![1, 8, 5632]⟩
abbrev S8x5632 : Shape := ⟨2, ![8, 5632]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x5632, .f32⟩
  | .hbm, ⟨8, _⟩ => ⟨S1x2816x1024, .f32⟩
  | .hbm, ⟨9, _⟩ => ⟨S1024, .f32⟩
  | .hbm, ⟨10, _⟩ => ⟨S1x16384x1024, .f32⟩
  | .hbm, ⟨11, _⟩ => ⟨S1024, .f32⟩
  | .hbm, ⟨12, _⟩ => ⟨S1x16384x1024, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x1024, .f32⟩
  | .hbm, ⟨24, _⟩ => ⟨S1x16384x1024, .f32⟩
  | .hbm, ⟨25, _⟩ => ⟨S1x1x1024, .f32⟩
  | .hbm, ⟨26, _⟩ => ⟨S1x16384x1024, .f32⟩
  | .hbm, ⟨27, _⟩ => ⟨S1x16384x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x16384x1024, .f32⟩
  | .hbm, ⟨33, _⟩ => ⟨S1x16384x1024, .f32⟩
  | .hbm, ⟨34, _⟩ => ⟨S1x1x1024, .f32⟩
  | .hbm, ⟨35, _⟩ => ⟨S1x16384x1024, .f32⟩
  | .hbm, ⟨36, _⟩ => ⟨S1x16384x1024, .f32⟩
  | .hbm, ⟨37, _⟩ => ⟨S1024x5632, .f32⟩
  | .hbm, ⟨38, _⟩ => ⟨S1x16384x5632, .f32⟩
  | .hbm, ⟨39, _⟩ => ⟨S_, .f32⟩
  | .hbm, ⟨40, _⟩ => ⟨S1x2x5632, .f32⟩
  | .hbm, ⟨41, _⟩ => ⟨S3x5632, .f32⟩
  | .hbm, ⟨42, _⟩ => ⟨S1x16386x5632, .f32⟩
  | .hbm, ⟨43, _⟩ => ⟨S1x16384x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S1x16384x5632, .f32⟩
  | .hbm, ⟨48, _⟩ => ⟨S1x16384x5632, .f32⟩
  | .hbm, ⟨49, _⟩ => ⟨S1x16384x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S1x16384x5632, .f32⟩
  | .hbm, ⟨54, _⟩ => ⟨S1x16384x5632, .f32⟩
  | .hbm, ⟨55, _⟩ => ⟨S1x16384x5632, .f32⟩
  | .hbm, ⟨56, _⟩ => ⟨S1x16384x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S1x16384x5632, .f32⟩
  | .hbm, ⟨61, _⟩ => ⟨S1x16384x5632, .f32⟩
  | .hbm, ⟨62, _⟩ => ⟨S1x16384x5632, .f32⟩
  | .hbm, ⟨63, _⟩ => ⟨S5632, .f32⟩
  | .hbm, ⟨64, _⟩ => ⟨S1x1x5632, .f32⟩
  | .hbm, ⟨65, _⟩ => ⟨S1x16384x5632, .f32⟩
  | .hbm, ⟨66, _⟩ => ⟨S1x16384x5632, .f32⟩
  | .hbm, ⟨67, _⟩ => ⟨S1x16384x2816, .f32⟩
  | .hbm, ⟨68, _⟩ => ⟨S1x16384x2816, .f32⟩
  | .hbm, ⟨69, _⟩ => ⟨S1x1x1024, .f32⟩
  | .hbm, ⟨70, _⟩ => ⟨S1x16384x2816, .f32⟩
  | .hbm, ⟨71, _⟩ => ⟨S1x16384x2816, .f32⟩
  | .hbm, ⟨72, _⟩ => ⟨S_, .f32⟩
  | .hbm, ⟨73, _⟩ => ⟨S1x16384x2816, .f32⟩
  | .hbm, ⟨74, _⟩ => ⟨S1x16384x2816, .f32⟩
  | .hbm, ⟨75, _⟩ => ⟨S_, .f32⟩
  | .hbm, ⟨76, _⟩ => ⟨S1x16384x2816, .f32⟩
  | .hbm, ⟨77, _⟩ => ⟨S1x16384x2816, .f32⟩
  | .hbm, ⟨78, _⟩ => ⟨S1x16384x2816, .f32⟩
  | .hbm, ⟨79, _⟩ => ⟨S1x16384x2816, .f32⟩
  | .hbm, ⟨80, _⟩ => ⟨S2816x1024, .f32⟩
  | .hbm, ⟨81, _⟩ => ⟨S1x16384x1024, .f32⟩
  | .hbm, ⟨82, _⟩ => ⟨S1x16384x1024, .f32⟩
  | .hbm, ⟨83, _⟩ => ⟨S1x16384x1024, .f32⟩
  | .hbm, ⟨84, _⟩ => ⟨S1x16384x1024, .f32⟩
  | .hbm, ⟨85, _⟩ => ⟨S1x16384x1024, .f32⟩
  | .hbm, ⟨86, _⟩ => ⟨S_, .f32⟩
  | .hbm, ⟨87, _⟩ => ⟨S1x16384, .f32⟩
  | .hbm, ⟨88, _⟩ => ⟨S1x16384x1, .f32⟩
  | .hbm, ⟨89, _⟩ => ⟨S_, .f32⟩
  | .hbm, ⟨90, _⟩ => ⟨S1x16384x1, .f32⟩
  | .hbm, ⟨91, _⟩ => ⟨S1x16384x1, .f32⟩
  | .hbm, ⟨92, _⟩ => ⟨S_, .f32⟩
  | .hbm, ⟨93, _⟩ => ⟨S1x16384x1, .f32⟩
  | .hbm, ⟨94, _⟩ => ⟨S1x16384x1, .f32⟩
  | .hbm, ⟨95, _⟩ => ⟨S1x16384x1, .f32⟩
  | .hbm, ⟨96, _⟩ => ⟨S1x16384x1024, .f32⟩
  | .hbm, ⟨97, _⟩ => ⟨S1x16384x1024, .f32⟩
  | .hbm, ⟨98, _⟩ => ⟨S1x1x1024, .f32⟩
  | .hbm, ⟨99, _⟩ => ⟨S1x16384x1024, .f32⟩
  | .hbm, ⟨100, _⟩ => ⟨S1x16384x1024, .f32⟩
  | .hbm, ⟨101, _⟩ => ⟨S16384x1024, .f32⟩
  | .hbm, ⟨102, _⟩ => ⟨S1x8x5632, .f32⟩
  | .hbm, ⟨103, _⟩ => ⟨S8x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_4 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Kernel4.lean ====
abbrev S16384x1024 : Shape := ⟨2, ![16384, 1024]⟩
abbrev S1x16384x1024 : Shape := ⟨3, ![1, 16384, 1024]⟩
abbrev S1x1024 : Shape := ⟨2, ![1, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 17
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S1x16384x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S16384x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S1x16384x1024 : Shape := ⟨3, ![1, 16384, 1024]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S1x16384x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S256x1024 : Shape := ⟨2, ![256, 1024]⟩
abbrev S1x1024 : Shape := ⟨2, ![1, 1024]⟩
abbrev S1x1024x9816 : Shape := ⟨3, ![1, 1024, 9816]⟩
abbrev S1x64 : Shape := ⟨2, ![1, 64]⟩
abbrev S1024x9816 : Shape := ⟨2, ![1024, 9816]⟩
abbrev S1024x4096 : Shape := ⟨2, ![1024, 4096]⟩
abbrev S1024x3072 : Shape := ⟨2, ![1024, 3072]⟩
abbrev S1024x2048 : Shape := ⟨2, ![1024, 2048]⟩
abbrev S1024x512 : Shape := ⟨2, ![1024, 512]⟩
abbrev S1024x64 : Shape := ⟨2, ![1024, 64]⟩
abbrev S1024x16 : Shape := ⟨2, ![1024, 16]⟩
abbrev S1024x8 : Shape := ⟨2, ![1024, 8]⟩
abbrev S_ : Shape := ⟨0, ![]⟩
abbrev S1024x40 : Shape := ⟨2, ![1024, 40]⟩
abbrev S1024x9984 : Shape := ⟨2, ![1024, 9984]⟩
abbrev S1024x128 : Shape := ⟨2, ![1024, 128]⟩
abbrev S128x1024 : Shape := ⟨2, ![128, 1024]⟩
abbrev S64 : Shape := ⟨1, ![64]⟩
abbrev S128 : Shape := ⟨1, ![128]⟩
abbrev S1x128 : Shape := ⟨2, ![1, 128]⟩
abbrev S2x128 : Shape := ⟨2, ![2, 128]⟩
abbrev S1024 : Shape := ⟨1, ![1024]⟩
abbrev S256x3072 : Shape := ⟨2, ![256, 3072]⟩
abbrev S256x512 : Shape := ⟨2, ![256, 512]⟩
abbrev S256x128 : Shape := ⟨2, ![256, 128]⟩
abbrev S256x64 : Shape := ⟨2, ![256, 64]⟩
abbrev S128x256 : Shape := ⟨2, ![128, 256]⟩
abbrev S256 : Shape := ⟨1, ![256]⟩
abbrev S256x1 : Shape := ⟨2, ![256, 1]⟩
abbrev S1024x1024 : Shape := ⟨2, ![1024, 1024]⟩

abbrev nBuf : Space → Nat
  | .hbm => 57
  | .vmem => 23
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S1x1024x9816, .f32⟩
  | .hbm, ⟨5, _⟩ => ⟨S1x64, .f32⟩
  | .hbm, ⟨6, _⟩ => ⟨S1x64, .f32⟩
  | .hbm, ⟨7, _⟩ => ⟨S1024x9816, .f32⟩
  | .hbm, ⟨8, _⟩ => ⟨S1024x4096, .f32⟩
  | .hbm, ⟨9, _⟩ => ⟨S1024x3072, .f32⟩
  | .hbm, ⟨10, _⟩ => ⟨S1024x2048, .f32⟩
  | .hbm, ⟨11, _⟩ => ⟨S1024x512, .f32⟩
  | .hbm, ⟨12, _⟩ => ⟨S1024x64, .f32⟩
  | .hbm, ⟨13, _⟩ => ⟨S1024x16, .f32⟩
  | .hbm, ⟨14, _⟩ => ⟨S1024x8, .f32⟩
  | .hbm, ⟨15, _⟩ => ⟨S_, .f32⟩
  | .hbm, ⟨16, _⟩ => ⟨S1024x40, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S1024x9984, .f32⟩
  | .hbm, ⟨21, _⟩ => ⟨S1024x9984, .bf16⟩
  | .hbm, ⟨22, _⟩ => ⟨S1024x128, .bf16⟩
  | .hbm, ⟨23, _⟩ => ⟨S128x1024, .bf16⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S128, .f32⟩
  | .hbm, ⟨28, _⟩ => ⟨S64, .f32⟩
  | .hbm, ⟨29, _⟩ => ⟨S128, .f32⟩
  | .hbm, ⟨30, _⟩ => ⟨S1x128, .f32⟩
  | .hbm, ⟨31, _⟩ => ⟨S1x128, .f32⟩
  | .hbm, ⟨32, _⟩ => ⟨S2x128, .f32⟩
  | .hbm, ⟨33, _⟩ => ⟨S64, .f32⟩
  | .hbm, ⟨34, _⟩ => ⟨S128, .f32⟩
  | .hbm, ⟨35, _⟩ => ⟨S64, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S2x128, .f32⟩
  | .hbm, ⟨40, _⟩ => ⟨S1024, .f32⟩
  | .hbm, ⟨41, _⟩ => ⟨S1x1024, .f32⟩
  | .hbm, ⟨42, _⟩ => ⟨S256x3072, .f32⟩
  | .hbm, ⟨43, _⟩ => ⟨S256x1024, .f32⟩
  | .hbm, ⟨44, _⟩ => ⟨S256x1024, .bf16⟩
  | .hbm, ⟨45, _⟩ => ⟨S256x1024, .f32⟩
  | .hbm, ⟨46, _⟩ => ⟨S256x1024, .f32⟩
  | .hbm, ⟨47, _⟩ => ⟨S256x1024, .bf16⟩
  | .hbm, ⟨48, _⟩ => ⟨S256x1024, .bf16⟩
  | .hbm, ⟨49, _⟩ => ⟨S256x1024, .f32⟩
  | .hbm, ⟨50, _⟩ => ⟨S256x1024, .f32⟩
  | .hbm, ⟨51, _⟩ => ⟨S256x512, .bf16⟩
  | .hbm, ⟨52, _⟩ => ⟨S256x128, .f32⟩
  | .hbm, ⟨53, _⟩ => ⟨S256x64, .f32⟩
  | .hbm, ⟨54, _⟩ => ⟨S256x128, .bf16⟩
  | .hbm, ⟨55, _⟩ => ⟨S256x128, .bf16⟩
  | .hbm, ⟨56, _⟩ => ⟨S128x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1024x9984, .bf16⟩
  | .local _ .vmem, ⟨5, _⟩ => ⟨S128x1024, .bf16⟩
  | .local _ .vmem, ⟨6, _⟩ => ⟨S2x128, .f32⟩
  | .local _ .vmem, ⟨7, _⟩ => ⟨S2x128, .f32⟩
  | .local _ .vmem, ⟨8, _⟩ => ⟨S256x3072, .f32⟩
  | .local _ .vmem, ⟨9, _⟩ => ⟨S256x1024, .f32⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x512, .bf16⟩
  | .local _ .vmem, ⟨18, _⟩ => ⟨S256x128, .f32⟩
  | .local _ .vmem, ⟨19, _⟩ => ⟨S256x64, .f32⟩
  | .local _ .vmem, ⟨20, _⟩ => ⟨S256x128, .bf16⟩
  | .local _ .vmem, ⟨21, _⟩ => ⟨S256x128, .bf16⟩
  | .local _ .vmem, ⟨22, _⟩ => ⟨S128x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev main_v32_5 : Ref sig .tc := ⟨.hbm, 47, rfl⟩
abbrev main_v32_6 : Ref sig .tc := ⟨.hbm, 48, rfl⟩
abbrev main_v32_7 : Ref sig .tc := ⟨.hbm, 49, rfl⟩
abbrev main_v32_8 : Ref sig .tc := ⟨.hbm, 50, rfl⟩
abbrev main_v32_9 : Ref sig .tc := ⟨.hbm, 51, rfl⟩
abbrev main_v32_10 : Ref sig .tc := ⟨.hbm, 52, rfl⟩
abbrev main_v32_11 : Ref sig .tc := ⟨.hbm, 53, rfl⟩
abbrev main_v32_12 : Ref sig .tc := ⟨.hbm, 54, rfl⟩
abbrev main_v32_13 : Ref sig .tc := ⟨.hbm, 55, rfl⟩
abbrev main_v32_14 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x9984 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S256x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== Reference5Ideal.lean ====
abbrev S256x1024 : Shape := ⟨2, ![256, 1024]⟩
abbrev S1x1024 : Shape := ⟨2, ![1, 1024]⟩
abbrev S1x1024x9816 : Shape := ⟨3, ![1, 1024, 9816]⟩
abbrev S1x64 : Shape := ⟨2, ![1, 64]⟩
abbrev S1024 : Shape := ⟨1, ![1024]⟩
abbrev S_ : Shape := ⟨0, ![]⟩
abbrev S256 : Shape := ⟨1, ![256]⟩
abbrev S256x1 : Shape := ⟨2, ![256, 1]⟩
abbrev S1024x9816 : Shape := ⟨2, ![1024, 9816]⟩
abbrev S256x9816 : Shape := ⟨2, ![256, 9816]⟩
abbrev S256x3072 : Shape := ⟨2, ![256, 3072]⟩
abbrev S256x8 : Shape := ⟨2, ![256, 8]⟩
abbrev S256x512 : Shape := ⟨2, ![256, 512]⟩
abbrev S256x64 : Shape := ⟨2, ![256, 64]⟩
abbrev S64 : Shape := ⟨1, ![64]⟩

abbrev nBuf : Space → Nat
  | .hbm => 72
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S1x1024x9816, .f32⟩
  | .hbm, ⟨5, _⟩ => ⟨S1x64, .f32⟩
  | .hbm, ⟨6, _⟩ => ⟨S1x64, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S1024x9816, .f32⟩
  | .hbm, ⟨30, _⟩ => ⟨S256x9816, .f32⟩
  | .hbm, ⟨31, _⟩ => ⟨S256x3072, .f32⟩
  | .hbm, ⟨32, _⟩ => ⟨S256x1024, .f32⟩
  | .hbm, ⟨33, _⟩ => ⟨S256x8, .f32⟩
  | .hbm, ⟨34, _⟩ => ⟨S256x8, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x512, .f32⟩
  | .hbm, ⟨39, _⟩ => ⟨S256x64, .f32⟩
  | .hbm, ⟨40, _⟩ => ⟨S256x8, .f32⟩
  | .hbm, ⟨41, _⟩ => ⟨S256x1024, .f32⟩
  | .hbm, ⟨42, _⟩ => ⟨S256x1024, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x64, .f32⟩
  | .hbm, ⟨52, _⟩ => ⟨S256x64, .f32⟩
  | .hbm, ⟨53, _⟩ => ⟨S256x64, .f32⟩
  | .hbm, ⟨54, _⟩ => ⟨S_, .f32⟩
  | .hbm, ⟨55, _⟩ => ⟨S256, .f32⟩
  | .hbm, ⟨56, _⟩ => ⟨S256x1, .f32⟩
  | .hbm, ⟨57, _⟩ => ⟨S_, .f32⟩
  | .hbm, ⟨58, _⟩ => ⟨S256x1, .f32⟩
  | .hbm, ⟨59, _⟩ => ⟨S256x1, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x64, .f32⟩
  | .hbm, ⟨65, _⟩ => ⟨S256x64, .f32⟩
  | .hbm, ⟨66, _⟩ => ⟨S1x64, .f32⟩
  | .hbm, ⟨67, _⟩ => ⟨S256x64, .f32⟩
  | .hbm, ⟨68, _⟩ => ⟨S256x64, .f32⟩
  | .hbm, ⟨69, _⟩ => ⟨S1x64, .f32⟩
  | .hbm, ⟨70, _⟩ => ⟨S256x64, .f32⟩
  | .hbm, ⟨71, _⟩ => ⟨S256x64, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel6.lean ====
abbrev S256x1024 : Shape := ⟨2, ![256, 1024]⟩
abbrev S256x5632 : Shape := ⟨2, ![256, 5632]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S5632 : Shape := ⟨1, ![5632]⟩
abbrev S3x5632 : Shape := ⟨2, ![3, 5632]⟩
abbrev S264x5632 : Shape := ⟨2, ![264, 5632]⟩
abbrev S8x5632 : Shape := ⟨2, ![8, 5632]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩

abbrev nBuf : Space → Nat
  | .hbm => 23
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x5632, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1024, .f32⟩
  | .hbm, ⟨11, _⟩ => ⟨S1024x5632, .f32⟩
  | .hbm, ⟨12, _⟩ => ⟨S1024x5632, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S5632, .f32⟩
  | .hbm, ⟨19, _⟩ => ⟨S1x5632, .f32⟩
  | .hbm, ⟨20, _⟩ => ⟨S3x5632, .f32⟩
  | .hbm, ⟨21, _⟩ => ⟨S256x1024, .f32⟩
  | .hbm, ⟨22, _⟩ => ⟨S256x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .f32⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x5632, .f32⟩
  | .local _ .vmem, ⟨13, _⟩ => ⟨S264x5632, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference6Ideal.lean ====
abbrev S256x1024 : Shape := ⟨2, ![256, 1024]⟩
abbrev S256x5632 : Shape := ⟨2, ![256, 5632]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S32x8x1024 : Shape := ⟨3, ![32, 8, 1024]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x5632 : Shape := ⟨2, ![1024, 5632]⟩
abbrev S32x4x5632 : Shape := ⟨3, ![32, 4, 5632]⟩
abbrev S32x8x5632 : Shape := ⟨3, ![32, 8, 5632]⟩
abbrev S32x2x5632 : Shape := ⟨3, ![32, 2, 5632]⟩
abbrev S3x5632 : Shape := ⟨2, ![3, 5632]⟩
abbrev S32x6x5632 : Shape := ⟨3, ![32, 6, 5632]⟩
abbrev S5632 : Shape := ⟨1, ![5632]⟩
abbrev S1x1x5632 : Shape := ⟨3, ![1, 1, 5632]⟩
abbrev S32x4x2816 : Shape := ⟨3, ![32, 4, 2816]⟩
abbrev S2816x1024 : Shape := ⟨2, ![2816, 1024]⟩

abbrev nBuf : Space → Nat
  | .hbm => 111
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x5632, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1024, .f32⟩
  | .hbm, ⟨11, _⟩ => ⟨S32x8x1024, .f32⟩
  | .hbm, ⟨12, _⟩ => ⟨S32x4x1024, .f32⟩
  | .hbm, ⟨13, _⟩ => ⟨S32x8x1024, .f32⟩
  | .hbm, ⟨14, _⟩ => ⟨S32x4x1024, .f32⟩
  | .hbm, ⟨15, _⟩ => ⟨S32x8x1024, .f32⟩
  | .hbm, ⟨16, _⟩ => ⟨S32x4x1024, .f32⟩
  | .hbm, ⟨17, _⟩ => ⟨S32x8x1024, .f32⟩
  | .hbm, ⟨18, _⟩ => ⟨S32x4x1024, .f32⟩
  | .hbm, ⟨19, _⟩ => ⟨S1024, .f32⟩
  | .hbm, ⟨20, _⟩ => ⟨S32x4x1024, .f32⟩
  | .hbm, ⟨21, _⟩ => ⟨S_, .f32⟩
  | .hbm, ⟨22, _⟩ => ⟨S32x4, .f32⟩
  | .hbm, ⟨23, _⟩ => ⟨S32x4x1, .f32⟩
  | .hbm, ⟨24, _⟩ => ⟨S_, .f32⟩
  | .hbm, ⟨25, _⟩ => ⟨S32x4x1, .f32⟩
  | .hbm, ⟨26, _⟩ => ⟨S32x4x1, .f32⟩
  | .hbm, ⟨27, _⟩ => ⟨S_, .f32⟩
  | .hbm, ⟨28, _⟩ => ⟨S32x4x1, .f32⟩
  | .hbm, ⟨29, _⟩ => ⟨S32x4x1, .f32⟩
  | .hbm, ⟨30, _⟩ => ⟨S32x4x1, .f32⟩
  | .hbm, ⟨31, _⟩ => ⟨S32x4x1024, .f32⟩
  | .hbm, ⟨32, _⟩ => ⟨S32x4x1024, .f32⟩
  | .hbm, ⟨33, _⟩ => ⟨S1x1x1024, .f32⟩
  | .hbm, ⟨34, _⟩ => ⟨S32x4x1024, .f32⟩
  | .hbm, ⟨35, _⟩ => ⟨S32x4x1024, .f32⟩
  | .hbm, ⟨36, _⟩ => ⟨S_, .f32⟩
  | .hbm, ⟨37, _⟩ => ⟨S32x4x1024, .f32⟩
  | .hbm, ⟨38, _⟩ => ⟨S32x4x1024, .f32⟩
  | .hbm, ⟨39, _⟩ => ⟨S32x4x1024, .f32⟩
  | .hbm, ⟨40, _⟩ => ⟨S32x4x1024, .f32⟩
  | .hbm, ⟨41, _⟩ => ⟨S1024x5632, .f32⟩
  | .hbm, ⟨42, _⟩ => ⟨S32x4x5632, .f32⟩
  | .hbm, ⟨43, _⟩ => ⟨S32x8x5632, .f32⟩
  | .hbm, ⟨44, _⟩ => ⟨S32x2x5632, .f32⟩
  | .hbm, ⟨45, _⟩ => ⟨S3x5632, .f32⟩
  | .hbm, ⟨46, _⟩ => ⟨S32x6x5632, .f32⟩
  | .hbm, ⟨47, _⟩ => ⟨S32x4x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S32x4x5632, .f32⟩
  | .hbm, ⟨52, _⟩ => ⟨S32x4x5632, .f32⟩
  | .hbm, ⟨53, _⟩ => ⟨S32x4x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S32x4x5632, .f32⟩
  | .hbm, ⟨58, _⟩ => ⟨S32x4x5632, .f32⟩
  | .hbm, ⟨59, _⟩ => ⟨S32x4x5632, .f32⟩
  | .hbm, ⟨60, _⟩ => ⟨S32x4x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S32x4x5632, .f32⟩
  | .hbm, ⟨65, _⟩ => ⟨S32x4x5632, .f32⟩
  | .hbm, ⟨66, _⟩ => ⟨S32x4x5632, .f32⟩
  | .hbm, ⟨67, _⟩ => ⟨S5632, .f32⟩
  | .hbm, ⟨68, _⟩ => ⟨S1x1x5632, .f32⟩
  | .hbm, ⟨69, _⟩ => ⟨S32x4x5632, .f32⟩
  | .hbm, ⟨70, _⟩ => ⟨S32x4x5632, .f32⟩
  | .hbm, ⟨71, _⟩ => ⟨S32x4x2816, .f32⟩
  | .hbm, ⟨72, _⟩ => ⟨S32x4x2816, .f32⟩
  | .hbm, ⟨73, _⟩ => ⟨S32x4x2816, .f32⟩
  | .hbm, ⟨74, _⟩ => ⟨S32x4x2816, .f32⟩
  | .hbm, ⟨75, _⟩ => ⟨S_, .f32⟩
  | .hbm, ⟨76, _⟩ => ⟨S32x4x2816, .f32⟩
  | .hbm, ⟨77, _⟩ => ⟨S32x4x2816, .f32⟩
  | .hbm, ⟨78, _⟩ => ⟨S_, .f32⟩
  | .hbm, ⟨79, _⟩ => ⟨S32x4x2816, .f32⟩
  | .hbm, ⟨80, _⟩ => ⟨S32x4x2816, .f32⟩
  | .hbm, ⟨81, _⟩ => ⟨S32x4x2816, .f32⟩
  | .hbm, ⟨82, _⟩ => ⟨S32x4x2816, .f32⟩
  | .hbm, ⟨83, _⟩ => ⟨S2816x1024, .f32⟩
  | .hbm, ⟨84, _⟩ => ⟨S32x4x1024, .f32⟩
  | .hbm, ⟨85, _⟩ => ⟨S32x4x1024, .f32⟩
  | .hbm, ⟨86, _⟩ => ⟨S32x4x1024, .f32⟩
  | .hbm, ⟨87, _⟩ => ⟨S32x4x1024, .f32⟩
  | .hbm, ⟨88, _⟩ => ⟨S_, .f32⟩
  | .hbm, ⟨89, _⟩ => ⟨S32x4, .f32⟩
  | .hbm, ⟨90, _⟩ => ⟨S32x4x1, .f32⟩
  | .hbm, ⟨91, _⟩ => ⟨S_, .f32⟩
  | .hbm, ⟨92, _⟩ => ⟨S32x4x1, .f32⟩
  | .hbm, ⟨93, _⟩ => ⟨S32x4x1, .f32⟩
  | .hbm, ⟨94, _⟩ => ⟨S_, .f32⟩
  | .hbm, ⟨95, _⟩ => ⟨S32x4x1, .f32⟩
  | .hbm, ⟨96, _⟩ => ⟨S32x4x1, .f32⟩
  | .hbm, ⟨97, _⟩ => ⟨S32x4x1, .f32⟩
  | .hbm, ⟨98, _⟩ => ⟨S32x4x1024, .f32⟩
  | .hbm, ⟨99, _⟩ => ⟨S32x4x1024, .f32⟩
  | .hbm, ⟨100, _⟩ => ⟨S1x1x1024, .f32⟩
  | .hbm, ⟨101, _⟩ => ⟨S32x4x1024, .f32⟩
  | .hbm, ⟨102, _⟩ => ⟨S32x4x1024, .f32⟩
  | .hbm, ⟨103, _⟩ => ⟨S_, .i32⟩
  | .hbm, ⟨104, _⟩ => ⟨S_, .f32⟩
  | .hbm, ⟨105, _⟩ => ⟨S32x8x1024, .f32⟩
  | .hbm, ⟨106, _⟩ => ⟨S256x1024, .f32⟩
  | .hbm, ⟨107, _⟩ => ⟨S_, .i32⟩
  | .hbm, ⟨108, _⟩ => ⟨S_, .f32⟩
  | .hbm, ⟨109, _⟩ => ⟨S32x8x5632, .f32⟩
  | .hbm, ⟨110, _⟩ => ⟨S256x5632, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_3 : Ref sig .tc := ⟨.hbm, 88, rfl⟩
abbrev main_v65 : Ref sig .tc := ⟨.hbm, 89, rfl⟩
abbrev main_v66 : Ref sig .tc := ⟨.hbm, 90, rfl⟩
abbrev main_cst_4 : Ref sig .tc := ⟨.hbm, 91, rfl⟩
abbrev main_v67 : Ref sig .tc := ⟨.hbm, 92, rfl⟩
abbrev main_v68 : Ref sig .tc := ⟨.hbm, 93, rfl⟩
abbrev main_cst_5 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_c_6 : Ref sig .tc := ⟨.hbm, 107, rfl⟩
abbrev main_call2_v0 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== Proof.Stages.lean ====
/- The recurrence call's arithmetic as named functions of arrays, for one sequence's block: what the eight heads share,
   and what one head does with its 64 rows (of which a sequence's new tokens are rows 4..7). The printed program's
   values are these functions by unfolding; `Proof/Reals.lean` reads them over the reals. -/
module

public import proofs.«01_k».proof.Proof.Gen.KernelIdeal

@[expose] public section

noncomputable section

namespace Cert.Proof.Stages

open Cert.KernelIdeal Cert.KernelIdeal.Facts₀ Cert.KernelIdeal.Facts Idealize.ShloMosaic

variable {F : FTy → Type} [FloatOps F]

/-! ### Products, and products of a value split in two bf16 parts -/

def zero {s : Shape} : FVec F s .f32 := broadcast s (Scalar.ofBits .f32 0x00000000#32)
def one {s : Shape} : FVec F s .f32 := broadcast s (Scalar.ofBits .f32 0x3F800000#32)

/-- The bf16 part of a value, and the bf16 part of what is left. -/
def hi {s : Shape} (a : FVec F s .f32) : FVec F s .bf16 := truncf .bf16 a bitsLt_bf16_f32
def lo {s : Shape} (a : FVec F s .f32) : FVec F s .bf16 :=
  truncf .bf16 (subf a (extf .f32 (hi a) bitsLt_bf16_f32)) bitsLt_bf16_f32

/-- `a bᵀ`. -/
def mmT (a b : FVec F S64x128 .bf16) : FVec F S64x64 .f32 :=
  matmul dot_S64x128_S64x128_S64x64_1_1_0_0_n_n none a b (constant S64x64 .f32 0x00000000#32)
/-- `a b` by shapes: 64 by 64 by 64; by 128 columns; with a 128 by 128 state; into a state. -/
def mmA (a b : FVec F S64x64 .bf16) : FVec F S64x64 .f32 :=
  matmul dot_S64x64_S64x64_S64x64_1_0_0_1_n_n none a b (constant S64x64 .f32 0x00000000#32)
def mmV (a : FVec F S64x64 .bf16) (b : FVec F S64x128 .bf16) : FVec F S64x128 .f32 :=
  matmul dot_S64x64_S64x128_S64x128_1_0_0_1_n_n none a b (constant S64x128 .f32 0x00000000#32)
def mmS (a : FVec F S64x128 .bf16) (b : FVec F S128x128 .bf16) : FVec F S64x128 .f32 :=
  matmul dot_S64x128_S128x128_S64x128_1_0_0_1_n_n none a b (constant S64x128 .f32 0x00000000#32)
def mmK (a : FVec F S128x64 .bf16) (b : FVec F S64x128 .bf16) : FVec F S128x128 .f32 :=
  matmul dot_S128x64_S64x128_S128x128_1_0_0_1_n_n none a b (constant S128x128 .f32 0x00000000#32)

def mmA3 (a b : FVec F S64x64 .f32) : FVec F S64x64 .f32 :=
  addf (addf (mmA (hi a) (hi b)) (mmA (hi a) (lo b))) (mmA (lo a) (hi b))
def mmV3 (a : FVec F S64x64 .f32) (b : FVec F S64x128 .f32) : FVec F S64x128 .f32 :=
  addf (addf (mmV (hi a) (hi b)) (mmV (hi a) (lo b))) (mmV (lo a) (hi b))

/-! ### Shared by the heads -/

/-- Which of the 64 rows hold a token: row < 8 and row mod 8 ≥ 4. -/
def validBit : IVec S64x1 1 :=
  let row : IVec S64x1 32 := iota .tc S64x1 32 [0] iota_S64x1_d0_w32
  let eight : BitVec 32 := Scalar.select (Scalar.cmpi .eq 8#32 0#32) 1#32 8#32
  let r : IVec S64x1 32 := remsi row (broadcast S64x1 eight)
  let neg : IVec S64x1 1 := xori (cmpi .slt r (broadcast S64x1 0#32))
    (broadcastTo S64x1 (broadcast S64x1 (Scalar.cmpi .slt eight 0#32)) broadcasts_S64x1_S64x1)
  let md : IVec S64x1 32 := select (andi neg (cmpi .ne r (broadcast S64x1 0#32))) (addi r (broadcast S64x1 eight)) r
  andi (cmpi .slt row (broadcast S64x1 8#32)) (cmpi .sge md (broadcast S64x1 4#32))
def valid : FVec F S64x1 .f32 := select validBit one zero

/-- Of a block's 8 rows, the first four come from the history. -/
def histBit : IVec S8x1 1 :=
  let row : IVec S8x1 32 := iota .tc S8x1 32 [0] iota_S8x1_d0_w32
  let eight : BitVec 32 := Scalar.select (Scalar.cmpi .eq 8#32 0#32) 1#32 8#32
  let r : IVec S8x1 32 := remsi row (broadcast S8x1 eight)
  let neg : IVec S8x1 1 := xori (cmpi .slt r (broadcast S8x1 0#32))
    (broadcastTo S8x1 (broadcast S8x1 (Scalar.cmpi .slt eight 0#32)) broadcasts_S8x1_S8x1)
  let md : IVec S8x1 32 := select (andi neg (cmpi .ne r (broadcast S8x1 0#32))) (addi r (broadcast S8x1 eight)) r
  cmpi .slt md (broadcast S8x1 4#32)
def xrows (x hist : FVec F S8x3072 .f32) : FVec F S8x3072 .f32 :=
  select (broadcastTo S8x3072 (shapeCast S8x1 histBit shapeCasts_S8x1_S8x1) broadcasts_S8x1_S8x3072) hist x

def small64 (s : FVec F S8x128 .f32) : FVec F S64x128 .f32 :=
  concatenate S64x128 0 [⟨S8x128, s⟩, ⟨S56x128, zero⟩] concatenates_S8x128_S56x128_S64x128_d0
def softplus (s : FVec F S64x128 .f32) : FVec F S64x128 .f32 :=
  addf (maximumf s zero) (log (addf one (exp (subf zero (absf s)))))
/-- The rows' log decay before the sum, by lane. -/
def decay (s misc : FVec F S8x128 .f32) : FVec F S64x128 .f32 :=
  mulf (broadcastTo S64x128 (subf zero (exp (extractStridedSlice S1x128 ![0, 0] misc slices_S8x128_o0_0_S1x128)))
      broadcasts_S1x128_S64x128)
    (softplus (addf (small64 s) (broadcastTo S64x128
      (extractStridedSlice S1x128 ![1, 0] misc slices_S8x128_o1_0_S1x128) broadcasts_S1x128_S64x128)))
def decayV (s misc : FVec F S8x128 .f32) : FVec F S64x128 .f32 :=
  mulf (decay s misc) (broadcastTo S64x128 valid broadcasts_S64x1_S64x128)
def betaV (s : FVec F S8x128 .f32) : FVec F S64x128 .f32 :=
  mulf (divf one (addf one (exp (subf zero (small64 s))))) (broadcastTo S64x128 valid broadcasts_S64x1_S64x128)
def rowI : IVec S64x64 32 := iota .tc S64x64 32 [0] iota_S64x64_d0_w32
def colI : IVec S64x64 32 := iota .tc S64x64 32 [1] iota_S64x64_d1_w32
def sumBit : IVec S64x64 1 :=
  andi (cmpi .eq (shrsi rowI (broadcast S64x64 6#32)) (shrsi colI (broadcast S64x64 6#32))) (cmpi .sge rowI colI)
/-- The log decay summed from the first row. -/
def decaySum (s misc : FVec F S8x128 .f32) : FVec F S64x128 .f32 :=
  matmul dot_S64x64_S64x128_S64x128_1_0_0_1_n_n (some .fp32) (select sumBit one zero) (decayV s misc)
    (constant S64x128 .f32 0x00000000#32)

/-- One tap of the convolution. -/
def tap (w : FVec F S4x3072 .f32) (k : ℕ) (hk : S4x3072.Slices ![k, 0] S1x3072) (x : FVec F S64x3072 .f32) :
    FVec F S64x3072 .f32 :=
  mulf (broadcastTo S64x3072 (extractStridedSlice S1x3072 ![k, 0] w hk) broadcasts_S1x3072_S64x3072) x
def silu {s : Shape} (y : FVec F s .f32) : FVec F s .f32 := mulf y (divf one (addf one (exp (subf zero y))))
def conv (w : FVec F S4x3072 .f32) (x8 x7 x6 x5 : FVec F S64x3072 .f32) : FVec F S64x3072 .f32 :=
  silu (addf (addf (addf (tap w 3 slices_S4x3072_o3_0_S1x3072 x8) (tap w 2 slices_S4x3072_o2_0_S1x3072 x7))
    (tap w 1 slices_S4x3072_o1_0_S1x3072 x6)) (tap w 0 slices_S4x3072_o0_0_S1x3072 x5))

/-! ### One head -/

theorem cut (h : Fin 24) : S64x3072.Slices ![0, 128 * h.val] S64x128 := by revert h; decide
theorem lane (l : Fin 128) : S64x128.Slices ![0, l.val] S64x1 := by revert l; decide

def part (y : FVec F S64x3072 .f32) (h : Fin 24) : FVec F S64x128 .f32 :=
  extractStridedSlice S64x128 ![0, 128 * h.val] y (cut h)
def laneOf (y : FVec F S64x128 .f32) (l : Fin 128) : FVec F S64x128 .f32 :=
  broadcastTo S64x128 (shapeCast S64x1 (extractStridedSlice S64x1 ![0, l.val] y (lane l)) shapeCasts_S64x1_S64x1)
    broadcasts_S64x1_S64x128

def unit (x : FVec F S64x128 .f32) : FVec F S64x128 .f32 :=
  mulf x (broadcastTo S64x128 (rsqrt (addf (shapeCast S64x1
    (multiReduction .add [1] S64 (mulf x x) 0x00000000#32 reduces_S64x128_S64 (.inl rfl) rfl) shapeCasts_S64_S64x1)
    (broadcast S64x1 (Scalar.ofBits .f32 0x358637BD#32)))) broadcasts_S64x1_S64x128)
def qOf (y : FVec F S64x128 .f32) : FVec F S64x128 .f32 :=
  mulf (unit y) (broadcast S64x128 (Scalar.ofBits .f32 0x3DB504F3#32))
def kOf (y : FVec F S64x128 .f32) : FVec F S64x128 .f32 :=
  mulf (unit y) (broadcastTo S64x128 valid broadcasts_S64x1_S64x128)
def vOf (y : FVec F S64x128 .f32) : FVec F S64x128 .f32 :=
  mulf y (broadcastTo S64x128 valid broadcasts_S64x1_S64x128)

def left (x : FVec F S64x128 .f32) : FVec F S64x64 .f32 :=
  extractStridedSlice S64x64 ![0, 0] x slices_S64x128_o0_0_S64x64
/-- `exp (g i - g j)` on and below the diagonal. -/
def decayMat (g : FVec F S64x128 .f32) : FVec F S64x64 .f32 :=
  select (cmpi .sge rowI colI) (exp (minimumf (subf (left g)
    (matmul dot_S64x64_S64x64_S64x64_1_0_0_1_n_n (some .fp32) one (select (cmpi .eq rowI colI) (left g) zero)
      (constant S64x64 .f32 0x00000000#32))) zero)) zero
def last (g : FVec F S64x128 .f32) : FVec F S1x128 .f32 :=
  extractStridedSlice S1x128 ![63, 0] g slices_S64x128_o63_0_S1x128
/-- The keys, decayed to the last row, transposed. -/
def keysT (k g : FVec F S64x128 .f32) : FVec F S128x64 .bf16 :=
  truncf .bf16 (extractStridedSlice S128x64 ![0, 0] (transpose S128x128 [1, 0] (concatenate S128x128 0
    [⟨S64x128, mulf k (exp (subf (broadcastTo S64x128 (last g) broadcasts_S1x128_S64x128) g))⟩, ⟨S64x128, zero⟩]
    concatenates_S64x128_S64x128_S128x128_d0) transposes_S128x128_p1_0_S128x128) slices_S128x128_o0_0_S128x64)
    bitsLt_bf16_f32

/-- The strictly lower triangular matrix of the chunk. -/
def aMat (k b g : FVec F S64x128 .f32) : FVec F S64x64 .f32 :=
  select (cmpi .sgt rowI colI) (mulf (mulf (left b)
    (addf (addf (mmT (hi k) (hi k)) (mmT (hi k) (lo k))) (mmT (lo k) (hi k)))) (decayMat g)) zero

/-- `1 + x` doubles its number of terms; the power squares. With the split product and with the plain one. -/
def grow3 (x p : FVec F S64x64 .f32) : FVec F S64x64 .f32 := addf (addf x p) (mmA3 x p)
def grow1 (x p : FVec F S64x64 .f32) : FVec F S64x64 .f32 := addf (addf x p) (mmA (hi x) (hi p))
def sq3 (p : FVec F S64x64 .f32) : FVec F S64x64 .f32 := mmA3 p p
def sq1 (p : FVec F S64x64 .f32) : FVec F S64x64 .f32 := mmA (hi p) (hi p)

def pow2 (a : FVec F S64x64 .f32) : FVec F S64x64 .f32 := sq3 a
def pow4 (a : FVec F S64x64 .f32) : FVec F S64x64 .f32 := sq3 (pow2 a)
def pow8 (a : FVec F S64x64 .f32) : FVec F S64x64 .f32 := sq3 (pow4 a)
def pow16 (a : FVec F S64x64 .f32) : FVec F S64x64 .f32 := sq1 (pow8 a)
def pow32 (a : FVec F S64x64 .f32) : FVec F S64x64 .f32 := sq1 (pow16 a)
def inv4 (a : FVec F S64x64 .f32) : FVec F S64x64 .f32 := grow3 (subf zero a) (pow2 a)
def inv8 (a : FVec F S64x64 .f32) : FVec F S64x64 .f32 := grow3 (inv4 a) (pow4 a)
def inv16 (a : FVec F S64x64 .f32) : FVec F S64x64 .f32 := grow1 (inv8 a) (pow8 a)
def inv32 (a : FVec F S64x64 .f32) : FVec F S64x64 .f32 := grow1 (inv16 a) (pow16 a)
/-- The inverse of `1 + a`, less 1. -/
def inv64 (a : FVec F S64x64 .f32) : FVec F S64x64 .f32 := grow1 (inv32 a) (pow32 a)

/-- The inverse applied to `r`. -/
def solve (a : FVec F S64x64 .f32) (r : FVec F S64x128 .f32) : FVec F S64x128 .f32 := addf r (mmV3 (inv64 a) r)

/-- The rows written into the state. -/
def uMat (k v b g : FVec F S64x128 .f32) (S : FVec F S128x128 .f32) : FVec F S64x128 .f32 :=
  subf (solve (aMat k b g) (mulf v b)) (mmS (hi (solve (aMat k b g) (mulf k (mulf b (exp g))))) (hi S))
def outMat (q k v b g : FVec F S64x128 .f32) (S : FVec F S128x128 .f32) : FVec F S64x128 .f32 :=
  addf (mmS (hi (mulf q (exp g))) (hi S))
    (mmV (hi (mulf (mmT (hi q) (hi k)) (decayMat g))) (hi (uMat k v b g S)))
def stateMat (k v b g : FVec F S64x128 .f32) (S : FVec F S128x128 .f32) : FVec F S128x128 .f32 :=
  addf (mulf S (broadcastTo S128x128 (exp (last g)) broadcasts_S1x128_S128x128))
    (mmK (keysT k g) (hi (uMat k v b g S)))

/-- The head's rows of the result: normalized, scaled, gated. -/
def gated (o : FVec F S64x128 .f32) (nw : FVec F S1x128 .f32) (gz : FVec F S8x128 .f32) : FVec F S8x128 .f32 :=
  let o8 : FVec F S8x128 .f32 := extractStridedSlice S8x128 ![0, 0] o slices_S64x128_o0_0_S8x128
  mulf (mulf (mulf o8 (broadcastTo S8x128 (rsqrt (addf (divf (shapeCast S8x1
      (multiReduction .add [1] S8 (mulf o8 o8) 0x00000000#32 reduces_S8x128_S8 (.inl rfl) rfl) shapeCasts_S8_S8x1)
      (broadcast S8x1 (Scalar.ofBits .f32 0x43000000#32))) (broadcast S8x1 (Scalar.ofBits .f32 0x358637BD#32))))
      broadcasts_S8x1_S8x128))
    (broadcastTo S8x128 nw broadcasts_S1x128_S8x128)) (silu gz)

/-! ### Head `h` of a block -/

variable (h : Fin 8) (y : FVec F S64x3072 .f32) (s misc : FVec F S8x128 .f32)

def qH : FVec F S64x128 .f32 := qOf (part y ⟨h.val, by omega⟩)
def kH : FVec F S64x128 .f32 := kOf (part y ⟨8 + h.val, by omega⟩)
def vH : FVec F S64x128 .f32 := vOf (part y ⟨16 + h.val, by omega⟩)
def bH : FVec F S64x128 .f32 := laneOf (betaV s) ⟨64 + h.val, by omega⟩
def gH : FVec F S64x128 .f32 := laneOf (decaySum s misc) ⟨72 + h.val, by omega⟩

def stateH (S : FVec F S128x128 .f32) : FVec F S128x128 .f32 :=
  stateMat (kH h y) (vH h y) (bH h s) (gH h s misc) S
def outH (S : FVec F S128x128 .f32) : FVec F S64x128 .f32 :=
  outMat (qH h y) (kH h y) (vH h y) (bH h s) (gH h s misc) S

end Cert.Proof.Stages

end
-- ==== Proof.Chunk.lean ====
/- The gated delta rule over the reals: the chunk's closed form (one triangular system solved for all rows) computes what
   the rule computes row by row. -/
module

public import Mathlib.Data.Matrix.Mul
public import Mathlib.Data.Real.Basic
public import Mathlib.Analysis.SpecialFunctions.Exp
public import Mathlib.Tactic.NoncommRing
public import Mathlib.Tactic.LinearCombination
public import Mathlib.Tactic.Linarith

@[expose] public section

noncomputable section

open scoped BigOperators

namespace Cert.Proof.Chunk

variable {n d e : ℕ}

/-! ### One row of the rule, and rows one after another -/

/-- The rule: decay the state, then write the key with what the value lacks, scaled. -/
def step (S : Matrix (Fin d) (Fin e) ℝ) (k : Fin d → ℝ) (v : Fin e → ℝ) (b g : ℝ) : Matrix (Fin d) (Fin e) ℝ :=
  fun a j => S a j * Real.exp g + k a * (b * (v j - ∑ l, k l * (S l j * Real.exp g)))

/-- A row with no key and no decay leaves the state. -/
theorem step_zero (S : Matrix (Fin d) (Fin e) ℝ) (v : Fin e → ℝ) (b : ℝ) : step S (fun _ => 0) v b 0 = S := by
  funext a j; simp [step]

/-- The sum of the first `t` of `n` terms. -/
def before (f : Fin n → ℝ) (t : ℕ) : ℝ := ∑ l : Fin n, if l.val < t then f l else 0

theorem before_succ (f : Fin n → ℝ) (i : Fin n) : before f (i.val + 1) = before f i.val + f i := by
  have h : ∀ l : Fin n, (if l.val < i.val + 1 then f l else 0)
      = (if l.val < i.val then f l else 0) + (if l = i then f l else 0) := fun l => by
    by_cases h1 : l = i
    · subst h1; simp
    · have h2 : l.val ≠ i.val := fun h => h1 (Fin.ext h)
      by_cases h3 : l.val < i.val
      · simp [h1, h3, Nat.lt_succ_of_lt h3]
      · have h4 : ¬ l.val < i.val + 1 := by omega
        simp [h1, h3, h4]
  simp only [before, h, Finset.sum_add_distrib, Finset.sum_ite_eq', Finset.mem_univ, if_true]

theorem before_zero (f : Fin n → ℝ) : before f 0 = 0 := by simp [before]

theorem before_all (f : Fin n → ℝ) : before f n = ∑ l, f l := by simp [before]

theorem before_mul_left (f : Fin n → ℝ) (c : ℝ) (t : ℕ) : c * before f t = before (fun l => c * f l) t := by
  simp only [before, Finset.mul_sum, mul_ite, mul_zero]

theorem before_mul_right (f : Fin n → ℝ) (c : ℝ) (t : ℕ) : before f t * c = before (fun l => f l * c) t := by
  simp only [before, Finset.sum_mul, ite_mul, zero_mul]

theorem before_congr {f f' : Fin n → ℝ} {t : ℕ} (h : ∀ l : Fin n, l.val < t → f l = f' l) : before f t = before f' t :=
  Finset.sum_congr rfl fun l _ => by by_cases hl : l.val < t <;> simp [hl, h]

theorem sum_before {α : Type*} [Fintype α] (f : α → Fin n → ℝ) (t : ℕ) :
    ∑ a, before (f a) t = before (fun l => ∑ a, f a l) t := by
  simp only [before]
  rw [Finset.sum_comm]
  exact Finset.sum_congr rfl fun l _ => by by_cases hl : l.val < t <;> simp [hl]

/-- Later prefixes of terms that are not positive are not larger. -/
theorem before_anti {f : Fin n → ℝ} (hf : ∀ l, f l ≤ 0) {s t : ℕ} (h : s ≤ t) : before f t ≤ before f s :=
  Finset.sum_le_sum fun l _ => by
    by_cases h1 : l.val < s
    · simp [h1, lt_of_lt_of_le h1 h]
    · by_cases h2 : l.val < t <;> simp [h1, h2, hf l]

section Rows

variable (K : Matrix (Fin n) (Fin d) ℝ) (V U : Matrix (Fin n) (Fin e) ℝ) (b g : Fin n → ℝ) (S : Matrix (Fin d) (Fin e) ℝ)

/-- The decay summed up to and including row `i`. -/
def upTo (i : Fin n) : ℝ := before g (i.val + 1)

/-- The state before row `t`, in closed form. -/
def closed (t : ℕ) : Matrix (Fin d) (Fin e) ℝ := fun a j =>
  Real.exp (before g t) * S a j + before (fun l => Real.exp (before g t - upTo g l) * (K l a * U l j)) t

/-- The triangular system the rows `U` solve. -/
def Solves : Prop := ∀ (i : Fin n) (j : Fin e),
  U i j + before (fun l => b i * (∑ a, K i a * K l a) * Real.exp (upTo g i - upTo g l) * U l j) i.val
    = b i * V i j - b i * Real.exp (upTo g i) * ∑ a, K i a * S a j

theorem closed_zero : closed K U g S 0 = S := by funext a j; simp [closed, before_zero]

theorem dot_closed (q : Fin d → ℝ) (c : ℝ) (t : ℕ) (j : Fin e) :
    ∑ a, q a * (closed K U g S t a j * c)
      = Real.exp (before g t) * c * (∑ a, q a * S a j)
        + before (fun l => (∑ a, q a * K l a) * (Real.exp (before g t - upTo g l) * c) * U l j) t := by
  have h : ∀ a, q a * (closed K U g S t a j * c) = Real.exp (before g t) * c * (q a * S a j)
      + before (fun l => (q a * K l a) * ((Real.exp (before g t - upTo g l) * c) * U l j)) t := fun a => by
    rw [closed, add_mul, mul_add, before_mul_right, before_mul_left]
    congr 1
    · ring
    · exact before_congr fun l _ => by ring
  simp only [h, Finset.sum_add_distrib, ← Finset.mul_sum]
  rw [sum_before]
  congr 1
  exact before_congr fun l _ => by rw [← Finset.sum_mul]; ring

/-- The closed form goes from row to row by the rule. -/
theorem closed_succ (h : Solves K V U b g S) (i : Fin n) :
    closed K U g S (i.val + 1) = step (closed K U g S i.val) (K i) (V i) (b i) (g i) := by
  funext a j
  have hu := h i j
  have hd := dot_closed K U g S (K i) (Real.exp (g i)) i.val j
  have hG : upTo g i = before g i.val + g i := before_succ g i
  have he : Real.exp (before g i.val) * Real.exp (g i) = Real.exp (upTo g i) := by rw [hG, Real.exp_add]
  have hl : ∀ l : Fin n, Real.exp (before g i.val - upTo g l) * Real.exp (g i) = Real.exp (upTo g i - upTo g l) := fun l => by
    rw [← Real.exp_add, hG]; congr 1; ring
  have hU : b i * (V i j - ∑ l, K i l * (closed K U g S i.val l j * Real.exp (g i))) = U i j := by
    rw [hd, he]
    have h2 : before (fun l => b i * (∑ a, K i a * K l a) * Real.exp (upTo g i - upTo g l) * U l j) i.val
        = b i * before (fun l => (∑ a, K i a * K l a) * (Real.exp (before g i.val - upTo g l) * Real.exp (g i)) * U l j) i.val := by
      rw [before_mul_left]
      exact before_congr fun l _ => by rw [hl]; ring
    rw [h2] at hu
    linear_combination -hu
  rw [step, hU, closed, closed, before_succ (fun l => Real.exp (before g (i.val + 1) - upTo g l) * (K l a * U l j)) i]
  have h0 : Real.exp (before g (i.val + 1) - upTo g i) = 1 := by rw [upTo, sub_self, Real.exp_zero]
  have h3 : before (fun l => Real.exp (before g (i.val + 1) - upTo g l) * (K l a * U l j)) i.val
      = before (fun l => Real.exp (before g i.val - upTo g l) * (K l a * U l j)) i.val * Real.exp (g i) := by
    rw [before_mul_right]
    exact before_congr fun l _ => by
      rw [show before g (i.val + 1) = upTo g i from rfl, ← hl]; ring
  rw [h0, h3, show before g (i.val + 1) = upTo g i from rfl, ← he]
  ring

/-- What a query reads from the state after row `i`. -/
theorem dot_closed_succ (q : Fin d → ℝ) (i : Fin n) (j : Fin e) :
    ∑ a, q a * closed K U g S (i.val + 1) a j
      = Real.exp (upTo g i) * (∑ a, q a * S a j)
        + before (fun l => (∑ a, q a * K l a) * Real.exp (upTo g i - upTo g l) * U l j) (i.val + 1) := by
  have := dot_closed K U g S q 1 (i.val + 1) j
  simp only [mul_one] at this
  exact this

end Rows

/-! ### The triangular inverse by doubling -/

section Inverse

variable (A X P : Matrix (Fin n) (Fin n) ℝ)

/-- Doubling the number of terms of the inverse. -/
theorem double (h : (1 + A) * (1 + X) = 1 - P) : (1 + A) * (1 + (X + P + X * P)) = 1 - P * P := by
  have : (1 + A) * (1 + (X + P + X * P)) = (1 + A) * (1 + X) * (1 + P) := by noncomm_ring
  rw [this, h]; noncomm_ring

theorem pow_lower (hA : ∀ i j : Fin n, i.val ≤ j.val → A i j = 0) (k : ℕ) :
    ∀ i j : Fin n, i.val < j.val + k → (A ^ k) i j = 0 := by
  induction k with
  | zero =>
    intro i j h
    have : i ≠ j := fun h' => by subst h'; omega
    simp [this]
  | succ k ih =>
    intro i j h
    rw [pow_succ, Matrix.mul_apply]
    refine Finset.sum_eq_zero fun l _ => ?_
    by_cases hl : l.val ≤ j.val
    · rw [hA l j hl, mul_zero]
    · rw [ih i l (by omega), zero_mul]

theorem pow_eq_zero (hA : ∀ i j : Fin n, i.val ≤ j.val → A i j = 0) (k : ℕ) (hk : n ≤ k) : A ^ k = 0 := by
  funext i j; exact pow_lower A hA k i j (by omega)

/-- The inverse of `1 + A`, less 1, by five doublings. -/
def inv : Matrix (Fin n) (Fin n) ℝ :=
  let p2 := A * A
  let p4 := p2 * p2
  let p8 := p4 * p4
  let p16 := p8 * p8
  let p32 := p16 * p16
  let x4 := -A + p2 + -A * p2
  let x8 := x4 + p4 + x4 * p4
  let x16 := x8 + p8 + x8 * p8
  let x32 := x16 + p16 + x16 * p16
  x32 + p32 + x32 * p32

theorem mul_inv (hn : n ≤ 64) (hA : ∀ i j : Fin n, i.val ≤ j.val → A i j = 0) : (1 + A) * (1 + inv A) = 1 := by
  have h2 : (1 + A) * (1 + -A) = 1 - A * A := by noncomm_ring
  have h := double A _ _ (double A _ _ (double A _ _ (double A _ _ (double A _ _ h2))))
  rw [inv, h]
  simp only [← pow_two, ← pow_mul]
  rw [pow_eq_zero A hA _ (by omega), sub_zero]

end Inverse

end Cert.Proof.Chunk

end
-- ==== Proof.Reals.lean ====
/- The head's functions of `Proof/Stages.lean` read over the reals: an array all of whose elements are real is a real
   matrix, and each function of such arrays is a function of the matrices. -/
module

public import proofs.«01_k».proof.Proof.Stages
public import proofs.«01_k».proof.Proof.Chunk
public import Idealize.ShloMosaic.Lib.Pointwise
public import Idealize.ShloMosaic.Lib.ValueIdx
public import Idealize.ShloMosaic.Lib.IdealHost
public import Idealize.ShloMosaic.Lib.Affine
public import Mathlib.LinearAlgebra.Matrix.Notation
public import Mathlib.Data.Matrix.Mul
public import Mathlib.Analysis.SpecialFunctions.Log.Basic
public import Mathlib.Tactic.Abel

@[expose] public section

noncomputable section

open scoped BigOperators

namespace Cert.Proof.Reals

open Cert.KernelIdeal Cert.KernelIdeal.Facts₀ Cert.KernelIdeal.Facts Idealize.ShloMosaic Cert.Proof.Stages

/-- `x` is the real matrix `X`. -/
def Is {n m : ℕ} {φ : FTy} (x : FVec Ideal ⟨2, ![n, m]⟩ φ) (X : Matrix (Fin n) (Fin m) ℝ) : Prop :=
  ∀ i j, x (ix2 i j) = ((X i j : ℝ) : EReal)

theorem Is.of_eq {n m : ℕ} {φ : FTy} {x : FVec Ideal ⟨2, ![n, m]⟩ φ} {X Y : Matrix (Fin n) (Fin m) ℝ} (h : Is x X)
    (e : X = Y) : Is x Y := e ▸ h

/-! ### Scalars -/

theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-- The small number under the root, and the queries' scale. -/
def eps : ℝ := 8796093 / 8796093022208
def scale : ℝ := 11863283 / 134217728
theorem eps_pos : 0 < eps := by norm_num [eps]
theorem eps_eq : Ideal.ofBits .f32 0x358637BD#32 = ((eps : ℝ) : EReal) := by
  rw [eps]; simp [Ideal.ofBits, Ideal.ieee, -EReal.coe_mul]; norm_num
theorem scale_eq : Ideal.ofBits .f32 0x3DB504F3#32 = ((scale : ℝ) : EReal) := by
  rw [scale]; simp [Ideal.ofBits, Ideal.ieee, -EReal.coe_mul]; norm_num

theorem rsqrt_pos {r : ℝ} (h : 0 < r) : Ideal.rsqrt (r : EReal) = (((Real.sqrt r)⁻¹ : ℝ) : EReal) := by
  rw [Ideal.rsqrt_coe, if_neg (not_lt.mpr h.le), if_neg h.ne']
theorem log_pos {r : ℝ} (h : 0 < r) : Ideal.log (r : EReal) = ((Real.log r : ℝ) : EReal) := by
  rw [Ideal.log_coe, if_neg (not_le.mpr h)]
theorem div_one {r : ℝ} (h : r ≠ 0) : Ideal.div 1 (r : EReal) = ((1 / r : ℝ) : EReal) := by
  rw [Ideal.div_coe h, one_mul]
theorem coe_max (x y : ℝ) : ((max x y : ℝ) : EReal) = max (x : EReal) (y : EReal) :=
  Monotone.map_max (fun _ _ h => EReal.coe_le_coe_iff.mpr h)
theorem coe_min (x y : ℝ) : ((min x y : ℝ) : EReal) = min (x : EReal) (y : EReal) :=
  Monotone.map_min (fun _ _ h => EReal.coe_le_coe_iff.mpr h)

def sigmoid (x : ℝ) : ℝ := 1 / (1 + Real.exp (-x))
def softplusR (x : ℝ) : ℝ := max x 0 + Real.log (1 + Real.exp (-|x|))

theorem sigmoid_eq (x : ℝ) : Ideal.div 1 (1 + Ideal.exp (0 - (x : EReal))) = ((sigmoid x : ℝ) : EReal) := by
  have h : (1 : ℝ) + Real.exp (-x) ≠ 0 := (add_pos one_pos (Real.exp_pos _)).ne'
  rw [zero_sub, ← EReal.coe_neg, Ideal.exp_coe, ← EReal.coe_one, ← EReal.coe_add, EReal.coe_one, div_one h]; rfl

theorem softplusR_nonneg (x : ℝ) : 0 ≤ softplusR x :=
  add_nonneg (le_max_right _ _) (Real.log_nonneg (by linarith [Real.exp_pos (-|x|)]))

/-- A word that is one exactly when `p`. -/
theorem sel_of {α : Type} {c : BitVec 1} {p : Prop} [Decidable p] (h : c = 1#1 ↔ p) (x y : α) :
    Scalar.select c x y = if p then x else y := by
  unfold Scalar.select
  by_cases hp : p
  · rw [if_pos hp]; exact if_pos (h.mpr hp)
  · rw [if_neg hp]; exact if_neg (fun hc => hp (h.mp hc))

/-! ### Elementwise operations, and products -/

section Elementwise

variable {n m : ℕ} {x y : FVec Ideal ⟨2, ![n, m]⟩ .f32} {X Y : Matrix (Fin n) (Fin m) ℝ}

theorem Is.hi (h : Is x X) : Is (hi x) X := h

theorem Is.lo (h : Is x X) : Is (lo x) 0 := fun i j => by
  show x (ix2 i j) - x (ix2 i j) = _
  rw [h i j, ← EReal.coe_sub]; simp

theorem Is.add (hx : Is x X) (hy : Is y Y) : Is (addf x y) (X + Y) := fun i j => by
  show x (ix2 i j) + y (ix2 i j) = _
  rw [hx i j, hy i j, ← EReal.coe_add]; rfl

theorem Is.sub (hx : Is x X) (hy : Is y Y) : Is (subf x y) (X - Y) := fun i j => by
  show x (ix2 i j) - y (ix2 i j) = _
  rw [hx i j, hy i j, ← EReal.coe_sub]; rfl

theorem Is.mul (hx : Is x X) (hy : Is y Y) : Is (mulf x y) (fun i j => X i j * Y i j) := fun i j => by
  show x (ix2 i j) * y (ix2 i j) = _
  rw [hx i j, hy i j, ← EReal.coe_mul]

theorem Is.exp (hx : Is x X) : Is (exp x) (fun i j => Real.exp (X i j)) := fun i j => by
  show Ideal.exp (x (ix2 i j)) = _
  rw [hx i j, Ideal.exp_coe]

theorem Is.zero : Is (zero (F := Ideal) (s := ⟨2, ![n, m]⟩)) 0 := fun i j => by
  show Ideal.ofBits .f32 0x00000000#32 = _
  rw [Ideal.ofBits_zero_f32]; rfl

/-- Zeros where a mask is off; where it is on the value is `X`. -/
theorem Is.mask {c : IVec ⟨2, ![n, m]⟩ 1} {p : Fin n → Fin m → Prop} [∀ i j, Decidable (p i j)]
    (hc : ∀ i j, c (ix2 i j) = 1#1 ↔ p i j) (hx : ∀ i j, p i j → x (ix2 i j) = ((X i j : ℝ) : EReal)) :
    Is (select c x Stages.zero) (fun i j => if p i j then X i j else 0) := fun i j => by
  show Scalar.select (c (ix2 i j)) (x (ix2 i j)) (Stages.zero (F := Ideal) (ix2 i j)) = _
  rw [sel_of (hc i j)]
  show _ = (((if p i j then X i j else 0 : ℝ)) : EReal)
  by_cases h : p i j
  · rw [if_pos h, if_pos h, hx i j h]
  · rw [if_neg h, if_neg h, Is.zero i j]; rfl

end Elementwise

/-- A sum of products of real elements. -/
theorem sum_mul_coe {k : ℕ} {a b : Fin k → EReal} {A B : Fin k → ℝ} (ha : ∀ l, a l = (A l : EReal)) (hb : ∀ l, b l = (B l : EReal)) :
    ∑ l, a l * b l = ((∑ l, A l * B l : ℝ) : EReal) := by
  rw [coe_sum]
  exact Finset.sum_congr rfl fun l _ => by rw [ha, hb, EReal.coe_mul]

theorem Is.mmT {a b : FVec Ideal S64x128 .bf16} {A B} (ha : Is a A) (hb : Is b B) : Is (mmT a b) (A * B.transpose) :=
  fun i j => by
  have : Stages.mmT a b (ix2 i j) = ∑ k : Fin 128, a (ix2 i k) * b (ix2 j k) := by unfold Stages.mmT; pointwise
  rw [this, sum_mul_coe (fun k => ha i k) (fun k => hb j k), Matrix.mul_apply]; rfl

theorem Is.mmA {a b : FVec Ideal S64x64 .bf16} {A B} (ha : Is a A) (hb : Is b B) : Is (mmA a b) (A * B) := fun i j => by
  have : Stages.mmA a b (ix2 i j) = ∑ k : Fin 64, a (ix2 i k) * b (ix2 k j) := by unfold Stages.mmA; pointwise
  rw [this, sum_mul_coe (fun k => ha i k) (fun k => hb k j), Matrix.mul_apply]

theorem Is.mmV {a : FVec Ideal S64x64 .bf16} {b : FVec Ideal S64x128 .bf16} {A B} (ha : Is a A) (hb : Is b B) :
    Is (mmV a b) (A * B) := fun i j => by
  have : Stages.mmV a b (ix2 i j) = ∑ k : Fin 64, a (ix2 i k) * b (ix2 k j) := by unfold Stages.mmV; pointwise
  rw [this, sum_mul_coe (fun k => ha i k) (fun k => hb k j), Matrix.mul_apply]

theorem Is.mmS {a : FVec Ideal S64x128 .bf16} {b : FVec Ideal S128x128 .bf16} {A B} (ha : Is a A) (hb : Is b B) :
    Is (mmS a b) (A * B) := fun i j => by
  have : Stages.mmS a b (ix2 i j) = ∑ k : Fin 128, a (ix2 i k) * b (ix2 k j) := by unfold Stages.mmS; pointwise
  rw [this, sum_mul_coe (fun k => ha i k) (fun k => hb k j), Matrix.mul_apply]

theorem Is.mmK {a : FVec Ideal S128x64 .bf16} {b : FVec Ideal S64x128 .bf16} {A B} (ha : Is a A) (hb : Is b B) :
    Is (mmK a b) (A * B) := fun i j => by
  have : Stages.mmK a b (ix2 i j) = ∑ k : Fin 64, a (ix2 i k) * b (ix2 k j) := by unfold Stages.mmK; pointwise
  rw [this, sum_mul_coe (fun k => ha i k) (fun k => hb k j), Matrix.mul_apply]

section Products

variable {a b : FVec Ideal S64x64 .f32} {A B : Matrix (Fin 64) (Fin 64) ℝ}

theorem Is.mmA3 (ha : Is a A) (hb : Is b B) : Is (mmA3 a b) (A * B) :=
  (((ha.hi.mmA hb.hi).add (ha.hi.mmA hb.lo)).add (ha.lo.mmA hb.hi)).of_eq (by simp)

theorem Is.mmV3 {r : FVec Ideal S64x128 .f32} {R} (ha : Is a A) (hr : Is r R) : Is (mmV3 a r) (A * R) :=
  (((ha.hi.mmV hr.hi).add (ha.hi.mmV hr.lo)).add (ha.lo.mmV hr.hi)).of_eq (by simp)

theorem Is.grow3 (ha : Is a A) (hb : Is b B) : Is (grow3 a b) (A + B + A * B) := (ha.add hb).add (ha.mmA3 hb)
theorem Is.grow1 (ha : Is a A) (hb : Is b B) : Is (grow1 a b) (A + B + A * B) := (ha.add hb).add (ha.hi.mmA hb.hi)
theorem Is.sq3 (ha : Is a A) : Is (sq3 a) (A * A) := ha.mmA3 ha
theorem Is.sq1 (ha : Is a A) : Is (sq1 a) (A * A) := ha.hi.mmA ha.hi

theorem Is.neg (ha : Is a A) : Is (subf Stages.zero a) (-A) := (Is.zero.sub ha).of_eq (zero_sub A)

theorem Is.inv64 (ha : Is a A) : Is (inv64 a) (Chunk.inv A) :=
  let p2 := ha.sq3
  let p4 := p2.sq3
  let p8 := p4.sq3
  let p16 := p8.sq1
  let p32 := p16.sq1
  ((((ha.neg.grow3 p2).grow3 p4).grow1 p8).grow1 p16).grow1 p32

theorem Is.solve {r : FVec Ideal S64x128 .f32} {R} (ha : Is a A) (hr : Is r R) : Is (solve a r) (R + Chunk.inv A * R) :=
  hr.add (ha.inv64.mmV3 hr)

end Products

/-! ### The chunk's matrices -/

theorem geBit (i j : Fin 64) : cmpi .sge rowI colI (ix2 i j) = 1#1 ↔ j.val ≤ i.val := by
  revert i j; decide +kernel
theorem gtBit (i j : Fin 64) : cmpi .sgt rowI colI (ix2 i j) = 1#1 ↔ j.val < i.val := by
  revert i j; decide +kernel
theorem eqBit (i j : Fin 64) : cmpi .eq rowI colI (ix2 i j) = 1#1 ↔ i = j := by
  revert i j; decide +kernel

/-- The first 64 columns. -/
def leftR (X : Matrix (Fin 64) (Fin 128) ℝ) : Matrix (Fin 64) (Fin 64) ℝ := fun i j => X i ⟨j.val, by omega⟩

theorem Is.left {x : FVec Ideal S64x128 .f32} {X} (hx : Is x X) : Is (left x) (leftR X) := fun i j => by
  have : Stages.left x (ix2 i j) = x (ix2 i ⟨j.val, by omega⟩) := by unfold Stages.left; pointwise
  rw [this, hx]; rfl

theorem Is.last {x : FVec Ideal S64x128 .f32} {X} (hx : Is x X) : Is (last x) (fun _ j => X 63 j) := fun i j => by
  have : Stages.last x (ix2 i j) = x (ix2 63 j) := by unfold Stages.last; pointwise
  rw [this, hx]

theorem Is.keysT {k g : FVec Ideal S64x128 .f32} {K G} (hk : Is k K) (hg : Is g G) :
    Is (keysT k g) (fun a l => K l a * Real.exp (G 63 a - G l a)) := fun i j => by
  have : Stages.keysT k g (ix2 i j) = k (ix2 j i) * Ideal.exp (g (ix2 63 i) - g (ix2 j i)) := by
    unfold Stages.keysT Stages.last Stages.zero; pointwise
  rw [this, hk, hg, hg, ← EReal.coe_sub, Ideal.exp_coe, ← EReal.coe_mul]

section Head

variable {q k v b g : FVec Ideal S64x128 .f32} {s : FVec Ideal S128x128 .f32}
variable {Q K V : Matrix (Fin 64) (Fin 128) ℝ} {β γ : Fin 64 → ℝ} {S : Matrix (Fin 128) (Fin 128) ℝ}

/-- Decay between two rows, on and below the diagonal. -/
def decayR (γ : Fin 64 → ℝ) : Matrix (Fin 64) (Fin 64) ℝ := fun i j =>
  if j.val ≤ i.val then Real.exp (Chunk.upTo γ i - Chunk.upTo γ j) else 0

theorem Is.decayMat (hγ : ∀ i, γ i ≤ 0) (hg : Is g (fun i _ => Chunk.upTo γ i)) : Is (decayMat g) (decayR γ) := by
  refine Is.mask (p := fun i j => j.val ≤ i.val) geBit fun i j hij => ?_
  have hm : matmul dot_S64x64_S64x64_S64x64_1_0_0_1_n_n (some .fp32) Stages.one (select (cmpi .eq rowI colI) (Stages.left g) Stages.zero)
      (constant S64x64 .f32 0x00000000#32) (ix2 i j) = ∑ l : Fin 64, (1 : EReal) * select (cmpi .eq rowI colI) (Stages.left g) Stages.zero (ix2 l j) := by
    unfold Stages.one; pointwise
  have hsel : Is (select (cmpi .eq rowI colI) (Stages.left g) Stages.zero) (fun i j => if i = j then Chunk.upTo γ i else 0) :=
    Is.mask (p := fun i j => i = j) eqBit fun i j _ => hg.left i j
  rw [sum_mul_coe (A := fun _ => 1) (fun _ => EReal.coe_one.symm) (fun l => hsel l j)] at hm
  show Ideal.exp (min (Stages.left g (ix2 i j) -
    (matmul dot_S64x64_S64x64_S64x64_1_0_0_1_n_n (some .fp32) Stages.one (select (cmpi .eq rowI colI) (Stages.left g) Stages.zero)
      (constant S64x64 .f32 0x00000000#32) : FVec Ideal S64x64 .f32) (ix2 i j)) (Stages.zero (F := Ideal) (s := S64x64) (ix2 i j))) = _
  rw [hm, hg.left i j, Is.zero i j, ← EReal.coe_sub]
  simp only [one_mul, Finset.sum_ite_eq', Finset.mem_univ, if_true, leftR]
  have h : Chunk.upTo γ i - Chunk.upTo γ j ≤ 0 := sub_nonpos.mpr (Chunk.before_anti hγ (by omega))
  rw [← coe_min, Ideal.exp_coe, Matrix.zero_apply, min_eq_left h]

/-- The chunk's strictly lower triangular matrix. -/
def aR (K : Matrix (Fin 64) (Fin 128) ℝ) (β γ : Fin 64 → ℝ) : Matrix (Fin 64) (Fin 64) ℝ := fun i j =>
  if j.val < i.val then β i * (∑ a, K i a * K j a) * Real.exp (Chunk.upTo γ i - Chunk.upTo γ j) else 0

theorem Is.aMat (hγ : ∀ i, γ i ≤ 0) (hk : Is k K) (hb : Is b (fun i _ => β i)) (hg : Is g (fun i _ => Chunk.upTo γ i)) :
    Is (aMat k b g) (aR K β γ) := by
  refine Is.mask (p := fun i j => j.val < i.val) gtBit fun i j hij => ?_
  have h := ((hb.left.mul (((hk.hi.mmT hk.hi).add (hk.hi.mmT hk.lo)).add (hk.lo.mmT hk.hi))).mul (Is.decayMat hγ hg)) i j
  refine h.trans (congrArg _ ?_)
  simp [leftR, decayR, Matrix.mul_apply, hij.le]

/-- The system's right-hand sides: the scaled values, and the scaled decayed keys. -/
def bV (V : Matrix (Fin 64) (Fin 128) ℝ) (β : Fin 64 → ℝ) : Matrix (Fin 64) (Fin 128) ℝ := fun i j => V i j * β i
def bK (K : Matrix (Fin 64) (Fin 128) ℝ) (β γ : Fin 64 → ℝ) : Matrix (Fin 64) (Fin 128) ℝ := fun i j =>
  K i j * (β i * Real.exp (Chunk.upTo γ i))

/-- The rows written into the state. -/
def uR (K V : Matrix (Fin 64) (Fin 128) ℝ) (β γ : Fin 64 → ℝ) (S : Matrix (Fin 128) (Fin 128) ℝ) : Matrix (Fin 64) (Fin 128) ℝ :=
  (1 + Chunk.inv (aR K β γ)) * (bV V β - bK K β γ * S)

theorem Is.uMat (hγ : ∀ i, γ i ≤ 0) (hk : Is k K) (hv : Is v V) (hb : Is b (fun i _ => β i))
    (hg : Is g (fun i _ => Chunk.upTo γ i)) (hs : Is s S) : Is (uMat k v b g s) (uR K V β γ S) :=
  (((Is.aMat hγ hk hb hg).solve (hv.mul hb)).sub (((Is.aMat hγ hk hb hg).solve (hk.mul (hb.mul hg.exp))).hi.mmS hs.hi)).of_eq <| by
    show (bV V β + Chunk.inv (aR K β γ) * bV V β) - (bK K β γ + Chunk.inv (aR K β γ) * bK K β γ) * S = _
    rw [uR, Matrix.add_mul, Matrix.add_mul, Matrix.one_mul, Matrix.mul_sub, Matrix.mul_assoc]
    abel

theorem uR_solves : Chunk.Solves K V (uR K V β γ S) β γ S := fun i j => by
  have hA : ∀ i j : Fin 64, i.val ≤ j.val → aR K β γ i j = 0 := fun i j h => if_neg (by omega)
  have h : (1 + aR K β γ) * uR K V β γ S = bV V β - bK K β γ * S := by
    rw [uR, ← Matrix.mul_assoc, Chunk.mul_inv _ (le_refl _) hA, Matrix.one_mul]
  have h2 := congrFun (congrFun h i) j
  rw [Matrix.add_mul, Matrix.one_mul, Matrix.add_apply, Matrix.sub_apply, Matrix.mul_apply, Matrix.mul_apply] at h2
  have h3 : Chunk.before (fun l => β i * (∑ a, K i a * K l a) * Real.exp (Chunk.upTo γ i - Chunk.upTo γ l) * uR K V β γ S l j) i.val
      = ∑ l, aR K β γ i l * uR K V β γ S l j := Finset.sum_congr rfl fun l _ => by
    rw [aR]; by_cases hl : l.val < i.val <;> simp [hl]
  rw [h3, h2, Finset.mul_sum]
  congr 1
  · exact mul_comm _ _
  · exact Finset.sum_congr rfl fun l _ => by rw [bK]; ring

/-- The state after the 64 rows. -/
theorem Is.stateMat (hγ : ∀ i, γ i ≤ 0) (hk : Is k K) (hv : Is v V) (hb : Is b (fun i _ => β i))
    (hg : Is g (fun i _ => Chunk.upTo γ i)) (hs : Is s S) :
    Is (stateMat k v b g s) (Chunk.closed K (uR K V β γ S) γ S 64) := fun i j => by
  have h1 : broadcastTo S128x128 (Idealize.ShloMosaic.exp (Stages.last g)) broadcasts_S1x128_S128x128 (ix2 i j)
      = Idealize.ShloMosaic.exp (Stages.last g) (ix2 0 j) := by pointwise
  rw [hg.last.exp 0 j] at h1
  show s (ix2 i j) * broadcastTo _ _ _ (ix2 i j) + Stages.mmK _ _ (ix2 i j) = _
  rw [h1, hs i j, (hk.keysT hg).mmK (Is.uMat hγ hk hv hb hg hs).hi i j, ← EReal.coe_mul, ← EReal.coe_add]
  refine congrArg _ ?_
  show S i j * Real.exp (Chunk.upTo γ 63) + (∑ l, K l i * Real.exp (Chunk.upTo γ 63 - Chunk.upTo γ l) * uR K V β γ S l j)
    = Real.exp (Chunk.upTo γ 63) * S i j
      + Chunk.before (fun l => Real.exp (Chunk.upTo γ 63 - Chunk.upTo γ l) * (K l i * uR K V β γ S l j)) 64
  rw [Chunk.before_all, mul_comm]
  exact congrArg _ (Finset.sum_congr rfl fun l _ => by ring)

/-- What the queries read: row `i` from the state after that row. -/
theorem Is.outMat (hγ : ∀ i, γ i ≤ 0) (hq : Is q Q) (hk : Is k K) (hv : Is v V) (hb : Is b (fun i _ => β i))
    (hg : Is g (fun i _ => Chunk.upTo γ i)) (hs : Is s S) :
    Is (outMat q k v b g s) (fun i j => ∑ a, Q i a * Chunk.closed K (uR K V β γ S) γ S (i.val + 1) a j) := by
  have hu := Is.uMat hγ hk hv hb hg hs
  refine (((hq.mul hg.exp).hi.mmS hs.hi).add (((hq.hi.mmT hk.hi).mul (Is.decayMat hγ hg)).hi.mmV hu.hi)).of_eq ?_
  funext i j
  rw [Chunk.dot_closed_succ, Finset.mul_sum]
  show (∑ l, Q i l * Real.exp (Chunk.upTo γ i) * S l j) + (∑ l, (∑ a, Q i a * K l a) * decayR γ i l * uR K V β γ S l j) = _
  congr 1
  · exact Finset.sum_congr rfl fun l _ => by ring
  · refine Finset.sum_congr rfl fun l _ => ?_
    rw [decayR]
    by_cases h : l.val ≤ i.val
    · rw [if_pos h, if_pos (by omega)]
    · rw [if_neg h, if_neg (by omega), mul_zero, zero_mul]

end Head

end Cert.Proof.Reals

end
-- ==== Proof.Inputs.lean ====
/- One head's inputs over the reals: the convolution's rows and their silu, the normalized queries and keys, the values,
   the write strengths and the summed log decays, from one sequence's block of rows. -/
module

public import proofs.«01_k».proof.Proof.Reals

@[expose] public section

noncomputable section

open scoped BigOperators

namespace Cert.Proof.Reals

open Cert.KernelIdeal Cert.KernelIdeal.Facts₀ Cert.KernelIdeal.Facts Idealize.ShloMosaic Cert.Proof.Stages

def siluR (y : ℝ) : ℝ := y * sigmoid y

section Elementwise

variable {n m : ℕ} {x : FVec Ideal ⟨2, ![n, m]⟩ .f32} {X : Matrix (Fin n) (Fin m) ℝ}

theorem Is.one : Is (one (F := Ideal) (s := ⟨2, ![n, m]⟩)) (fun _ _ => 1) := fun i j => by
  show Ideal.ofBits .f32 0x3F800000#32 = _
  rw [Ideal.ofBits_one_f32]; rfl

theorem Is.gate (hx : Is x X) : Is (divf Stages.one (addf Stages.one (Idealize.ShloMosaic.exp (subf Stages.zero x)))) (fun i j => sigmoid (X i j)) := fun i j => by
  rw [← sigmoid_eq, ← hx i j]
  show Ideal.div (Ideal.ofBits .f32 0x3F800000#32) (Ideal.ofBits .f32 0x3F800000#32 + Ideal.exp (Ideal.ofBits .f32 0x00000000#32 - x (ix2 i j))) = _
  rw [Ideal.ofBits_one_f32, Ideal.ofBits_zero_f32]

theorem Is.silu (hx : Is x X) : Is (silu x) (fun i j => siluR (X i j)) := hx.mul hx.gate

end Elementwise

theorem Is.softplus {x : FVec Ideal S64x128 .f32} {X} (hx : Is x X) : Is (softplus x) (fun i j => softplusR (X i j)) := fun i j => by
  show max (x (ix2 i j)) (Ideal.ofBits .f32 0x00000000#32) + Ideal.log (Ideal.ofBits .f32 0x3F800000#32 +
    Ideal.exp (Ideal.ofBits .f32 0x00000000#32 - max (x (ix2 i j)) (-(x (ix2 i j))))) = _
  rw [Ideal.ofBits_one_f32, Ideal.ofBits_zero_f32, hx i j, zero_sub, ← EReal.coe_neg, ← coe_max, ← EReal.coe_neg, Ideal.exp_coe,
    ← EReal.coe_one, ← EReal.coe_add, log_pos (add_pos one_pos (Real.exp_pos _)), ← EReal.coe_zero, ← coe_max, ← EReal.coe_add]
  rfl

/-! ### The convolution -/

section Conv

variable {x hist : FVec Ideal S8x3072 .f32} {X H : Matrix (Fin 8) (Fin 3072) ℝ}

/-- A block's rows: the history's first four, then the new tokens. -/
def xrowsR (X H : Matrix (Fin 8) (Fin 3072) ℝ) : Matrix (Fin 8) (Fin 3072) ℝ := fun r c => if r.val < 4 then H r c else X r c

theorem histBit_iff (i : Fin 8) : histBit (ix2 i 0) = 1#1 ↔ i.val < 4 := by revert i; decide +kernel

theorem Is.xrows (hx : Is x X) (hh : Is hist H) : Is (xrows x hist) (xrowsR X H) := fun i c => by
  have : Stages.xrows x hist (ix2 i c) = Scalar.select (histBit (ix2 i 0)) (hist (ix2 i c)) (x (ix2 i c)) := by
    unfold Stages.xrows; pointwise
  rw [this, sel_of (histBit_iff i), hx, hh, xrowsR]
  split <;> rfl

variable {w : FVec Ideal S4x3072 .f32} {W : Matrix (Fin 4) (Fin 3072) ℝ} {x8 x7 x6 x5 : FVec Ideal S64x3072 .f32}
  {X8 X7 X6 X5 : Matrix (Fin 64) (Fin 3072) ℝ}

theorem Is.conv (hw : Is w W) (h8 : Is x8 X8) (h7 : Is x7 X7) (h6 : Is x6 X6) (h5 : Is x5 X5) : Is (conv w x8 x7 x6 x5)
    (fun i c => siluR (W 3 c * X8 i c + W 2 c * X7 i c + W 1 c * X6 i c + W 0 c * X5 i c)) := by
  refine Is.silu (X := fun i c => W 3 c * X8 i c + W 2 c * X7 i c + W 1 c * X6 i c + W 0 c * X5 i c) fun i c => ?_
  unfold tap
  pointwise
  rw [hw, hw, hw, hw, h8, h7, h6, h5]
  simp only [EReal.coe_add, EReal.coe_mul]

end Conv

/-! ### Lanes -/

/-- 1 on the rows of new tokens. -/
def vR (i : Fin 64) : ℝ := if 4 ≤ i.val ∧ i.val < 8 then 1 else 0

theorem validBit_iff (i : Fin 64) (j : Fin 1) : validBit (ix2 i j) = 1#1 ↔ 4 ≤ i.val ∧ i.val < 8 := by revert i j; decide +kernel

theorem Is.valid : Is (valid (F := Ideal)) (fun i _ => vR i) :=
  Is.mask (p := fun i _ => 4 ≤ i.val ∧ i.val < 8) (X := fun _ _ => 1) validBit_iff fun i j _ => Is.one i j

theorem Is.masked {x : FVec Ideal S64x128 .f32} {X} (hx : Is x X) :
    Is (mulf x (broadcastTo S64x128 Stages.valid broadcasts_S64x1_S64x128)) (fun i j => X i j * vR i) :=
  hx.mul fun i j => by
    have : broadcastTo S64x128 (Stages.valid (F := Ideal)) broadcasts_S64x1_S64x128 (ix2 i j) = Stages.valid (F := Ideal) (ix2 i 0) := by pointwise
    rw [this]; exact Is.valid i 0

section Lanes

variable {s misc : FVec Ideal S8x128 .f32} {A M : Matrix (Fin 8) (Fin 128) ℝ}

def small64R (A : Matrix (Fin 8) (Fin 128) ℝ) : Matrix (Fin 64) (Fin 128) ℝ := fun i l => if h : i.val < 8 then A ⟨i.val, h⟩ l else 0

theorem Is.small64 (hs : Is s A) : Is (small64 s) (small64R A) := fun i l => by
  unfold Stages.small64 Stages.zero
  pointwise
  unfold small64R
  by_cases h : i.val < 8
  · rw [dif_pos h, dif_pos h, hs]
  · rw [dif_neg h, dif_neg h]; rfl

def betaR (A : Matrix (Fin 8) (Fin 128) ℝ) (l : Fin 128) (i : Fin 64) : ℝ := sigmoid (small64R A i l) * vR i

theorem Is.betaV (hs : Is s A) : Is (betaV s) (fun i l => betaR A l i) := hs.small64.gate.masked

/-- A row's log decay. -/
def gammaR (A M : Matrix (Fin 8) (Fin 128) ℝ) (l : Fin 128) (i : Fin 64) : ℝ :=
  -Real.exp (M 0 l) * softplusR (small64R A i l + M 1 l) * vR i

theorem gammaR_nonpos (l : Fin 128) (i : Fin 64) : gammaR A M l i ≤ 0 := by
  have h : 0 ≤ Real.exp (M 0 l) * softplusR (small64R A i l + M 1 l) * vR i := by
    refine mul_nonneg (mul_nonneg (Real.exp_pos _).le (softplusR_nonneg _)) ?_
    unfold vR; split <;> norm_num
  have e : gammaR A M l i = -(Real.exp (M 0 l) * softplusR (small64R A i l + M 1 l) * vR i) := by unfold gammaR; ring
  rw [e]; exact neg_nonpos.mpr h

theorem Is.decayV (hs : Is s A) (hm : Is misc M) : Is (decayV s misc) (fun i l => gammaR A M l i) := by
  have h1 : Is (broadcastTo S64x128 (subf Stages.zero (Idealize.ShloMosaic.exp (extractStridedSlice S1x128 ![0, 0] misc slices_S8x128_o0_0_S1x128)))
      broadcasts_S1x128_S64x128) (fun _ l => -Real.exp (M 0 l)) := fun i l => by
    unfold Stages.zero
    pointwise
    rw [hm, Ideal.exp_coe, zero_sub, EReal.coe_neg]
  have h2 : Is (broadcastTo S64x128 (extractStridedSlice S1x128 ![1, 0] misc slices_S8x128_o1_0_S1x128) broadcasts_S1x128_S64x128)
      (fun _ l => M 1 l) := fun i l => by
    pointwise
    rw [hm]
  exact (h1.mul (hs.small64.add h2).softplus).masked

theorem sumBit_iff (i j : Fin 64) : sumBit (ix2 i j) = 1#1 ↔ j.val < i.val + 1 := by revert i j; decide +kernel

theorem Is.decaySum (hs : Is s A) (hm : Is misc M) : Is (decaySum s misc) (fun i l => Chunk.upTo (gammaR A M l) i) := fun i l => by
  have h1 : Is (select sumBit Stages.one Stages.zero) (fun i j => if j.val < i.val + 1 then 1 else 0) :=
    Is.mask (p := fun i j => j.val < i.val + 1) (X := fun _ _ => 1) sumBit_iff fun i j _ => Is.one i j
  have h2 : Stages.decaySum s misc (ix2 i l) = ∑ k : Fin 64, select sumBit Stages.one Stages.zero (ix2 i k) * Stages.decayV s misc (ix2 k l) := by
    unfold Stages.decaySum; pointwise
  rw [h2, sum_mul_coe (fun k => h1 i k) (fun k => Is.decayV hs hm k l)]
  refine congrArg _ ?_
  show _ = Chunk.before (gammaR A M l) (i.val + 1)
  unfold Chunk.before
  exact Finset.sum_congr rfl fun k _ => by
    show (if k.val < i.val + 1 then (1 : ℝ) else 0) * gammaR A M l k = if k.val < i.val + 1 then gammaR A M l k else 0
    by_cases h : k.val < i.val + 1
    · rw [if_pos h, if_pos h, one_mul]
    · rw [if_neg h, if_neg h, zero_mul]

theorem Is.laneOf {y : FVec Ideal S64x128 .f32} {Y} (hy : Is y Y) (l : Fin 128) : Is (laneOf y l) (fun i _ => Y i l) := fun i j => by
  have : Stages.laneOf y l (ix2 i j) = y (ix2 i l) := by
    unfold Stages.laneOf
    pointwise
  rw [this, hy]

end Lanes

/-! ### Queries, keys and values -/

/-- A row over its length. -/
def unitR (f : Fin 128 → ℝ) (j : Fin 128) : ℝ := f j * (Real.sqrt (∑ l, f l * f l + eps))⁻¹

theorem unit_coe {x : Fin 128 → EReal} {f : Fin 128 → ℝ} (h : ∀ l, x l = (f l : EReal)) (j : Fin 128) :
    x j * Ideal.rsqrt (∑ l, x l * x l + Ideal.ofBits .f32 0x358637BD#32) = ((unitR f j : ℝ) : EReal) := by
  have hp : 0 < ∑ l, f l * f l + eps := add_pos_of_nonneg_of_pos (Finset.sum_nonneg fun l _ => mul_self_nonneg _) eps_pos
  rw [sum_mul_coe h h, h, eps_eq, ← EReal.coe_add, rsqrt_pos hp, ← EReal.coe_mul]; rfl

section Heads

variable {y : FVec Ideal S64x3072 .f32} {Y : Matrix (Fin 64) (Fin 3072) ℝ}

def partR (Y : Matrix (Fin 64) (Fin 3072) ℝ) (h : Fin 24) : Matrix (Fin 64) (Fin 128) ℝ := fun i j => Y i ⟨128 * h.val + j.val, by omega⟩

theorem Is.part (hy : Is y Y) (h : Fin 24) : Is (part y h) (partR Y h) := fun i j => by
  have : Stages.part y h (ix2 i j) = y (ix2 i ⟨128 * h.val + j.val, by omega⟩) := by
    unfold Stages.part
    pointwise
  rw [this, hy]; rfl

theorem Is.unit {x : FVec Ideal S64x128 .f32} {X} (hx : Is x X) : Is (unit x) (fun i j => unitR (X i) j) := fun i j => by
  have : Stages.unit x (ix2 i j) = x (ix2 i j) * Ideal.rsqrt (∑ l, x (ix2 i l) * x (ix2 i l) + Ideal.ofBits .f32 0x358637BD#32) := by
    unfold Stages.unit
    pointwise
  rw [this, unit_coe (hx i)]

theorem Is.qOf {x : FVec Ideal S64x128 .f32} {X} (hx : Is x X) : Is (qOf x) (fun i j => unitR (X i) j * scale) :=
  hx.unit.mul fun _ _ => scale_eq

theorem Is.kOf {x : FVec Ideal S64x128 .f32} {X} (hx : Is x X) : Is (kOf x) (fun i j => unitR (X i) j * vR i) := hx.unit.masked

theorem Is.vOf {x : FVec Ideal S64x128 .f32} {X} (hx : Is x X) : Is (vOf x) (fun i j => X i j * vR i) := hx.masked

end Heads

end Cert.Proof.Reals

end
-- ==== Proof.Block.lean ====
module

public import proofs.«01_k».proof.Proof.Gen.KernelIdeal.Value
public import proofs.«01_k».proof.Proof.Stages
public import Idealize.ShloMosaic.Lib.Pipeline.ValueKit

@[expose] public section

set_option maxRecDepth 16384
set_option maxHeartbeats 1000000

noncomputable section

namespace Cert.Proof.Block

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block's rows at offset `o` of the buffer that holds them after 8 rows of zeros. -/
def rowsAt (o : Nat) (ho : ∀ a, (![o, 0] : Fin 2 → Nat) a + S64x3072.size a ≤ S72x3072.size a)
    (x hist : FVec F S8x3072 .f32) : FVec F S64x3072 .f32 :=
  (View.whole cc0_scratch0).readCov (Val := Elt F)
    [⟨Rect.unit ![8, 0] ![8, 3072] inb_S72x3072_S8x3072_8_0, k0_pay21 (k0_pay15 x hist)⟩,
      ⟨Rect.unit ![0, 0] ![72, 3072] inb_S72x3072_S72x3072_0_0, k0_pay1⟩]
    (Rect.unit (s := S72x3072) ![o, 0] S64x3072.size ho).toLoadRect

def yBlk (c : Dev nD) (t : Fin cfg0.N) : FVec F S64x3072 .f32 :=
  Stages.conv (iblk m c 5 t) (rowsAt 8 inb_S72x3072_S64x3072_8_0 (iblk m c 0 t) (iblk m c 1 t))
   (rowsAt 7 inb_S72x3072_S64x3072_7_0 (iblk m c 0 t) (iblk m c 1 t))
   (rowsAt 6 inb_S72x3072_S64x3072_6_0 (iblk m c 0 t) (iblk m c 1 t))
   (rowsAt 5 inb_S72x3072_S64x3072_5_0 (iblk m c 0 t) (iblk m c 1 t))

theorem headInb (h : Fin 8) : ∀ a, (![0, h.val, 0, 0] : Fin 4 → Nat) a + S1x1x128x128.size a ≤ S1x8x128x128.size a := by
  revert h; decide

/-- Head `h`'s matrix of a block of states. -/
def stateIn (S : FVec F S1x8x128x128 .f32) (h : Fin 8) : FVec F S128x128 .f32 :=
  shapeCast S128x128 (shapeCast S128x128 (View.ld (Val := Elt F) (e' := .f32) S (Rect.unit (s := S1x8x128x128) ![0, h.val, 0, 0] S1x1x128x128.size (headInb h)))
    shapeCasts_S1x1x128x128_S128x128) shapeCasts_S128x128_S128x128

def stateOut (c : Dev nD) (t : Fin cfg0.N) (h : Fin 8) : FVec F S128x128 .f32 :=
   Stages.stateH h (yBlk m c t) (iblk m c 2 t) (iblk m c 6 t) (stateIn (iblk m c 4 t) h)

/-- What the block writes back as head `h`'s state. -/
theorem stateOut_apply (c : Dev nD) (t : Fin cfg0.N) (h : Fin 8) (x : S1x1x128x128.Idx) (y : S1x8x128x128.Idx)
    (h1 : (y 1).val = h.val) (h2 : (y 2).val = (x 2).val) (h3 : (y 3).val = (x 3).val) :
    shapeCast S1x1x128x128 (shapeCast S128x128 (stateOut m c t h) shapeCasts_S128x128_S128x128)
      shapeCasts_S128x128_S1x1x128x128 x = stateOut m c t (y 1) (ix2 (y 2) (y 3)) := by
  obtain rfl : y 1 = h := Fin.ext h1
  rw [shapeCast_self]
  have hx0 : (x 0).val < 1 := (x 0).isLt
  have hx1 : (x 1).val < 1 := (x 1).isLt
  refine shapeCast_apply _ _ x (ix2 (y 2) (y 3)) ?_
  rewrite [Shape.rowMajor_val_two, Shape.rowMajor_val_four]
  show (y 2).val * 128 + (y 3).val = (((x 0).val * 1 + (x 1).val) * 128 + (x 2).val) * 128 + (x 3).val
  omega

theorem state_block (c : Dev nD) (t : Fin cfg0.N) (y : S1x8x128x128.Idx) :
    (outsAt0 m c t).2 y = stateOut m c t (y 1) (ix2 (y 2) (y 3)) := by
  simp only [outsAt0]
  frame_out
  canon_tiles x h
  · exact stateOut_apply m c t 7 x y (by simp only [Fin.isValue]; omega) h2 h3
  · exact stateOut_apply m c t 6 x y (by simp only [Fin.isValue]; omega) h2 h3
  · exact stateOut_apply m c t 5 x y (by simp only [Fin.isValue]; omega) h2 h3
  · exact stateOut_apply m c t 4 x y (by simp only [Fin.isValue]; omega) h2 h3
  · exact stateOut_apply m c t 3 x y (by simp only [Fin.isValue]; omega) h2 h3
  · exact stateOut_apply m c t 2 x y (by simp only [Fin.isValue]; omega) h2 h3
  · exact stateOut_apply m c t 1 x y (by simp only [Fin.isValue]; omega) h2 h3
  · exact stateOut_apply m c t 0 x y (by simp only [Fin.isValue]; omega) h2 h3

theorem gateInb (h : Fin 8) : ∀ a, (![0, 128 * h.val] : Fin 2 → Nat) a + S8x128.size a ≤ S8x1024.size a := by
  revert h; decide

/-- Head `h`'s lanes of a block of gates. -/
def gateIn (z : FVec F S8x1024 .f32) (h : Fin 8) : FVec F S8x128 .f32 :=
  View.ld (Val := Elt F) (e' := .f32) z (Rect.unit (s := S8x1024) ![0, 128 * h.val] S8x128.size (gateInb h))

def outOut (c : Dev nD) (t : Fin cfg0.N) (h : Fin 8) : FVec F S8x128 .f32 :=
  Stages.gated (Stages.outH h (yBlk m c t) (iblk m c 2 t) (iblk m c 6 t) (stateIn (iblk m c 4 t) h))
    (iblk m c 7 t) (gateIn (iblk m c 3 t) h)

theorem outOut_apply (c : Dev nD) (t : Fin cfg0.N) (p h : Fin 8) (l : Fin 128) (x : S8x128.Idx) (y : S8x1024.Idx)
    (hy : (y 1).val = 128 * h.val + l.val) (h0 : (y 0).val = (x 0).val) (h1 : (y 1).val = 128 * p.val + (x 1).val) :
    outOut m c t p x = outOut m c t h (ix2 (y 0) l) := by
  have hx : (x 1).val < 128 := (x 1).isLt
  obtain rfl : p = h := Fin.ext (by omega)
  congr 1
  funext a
  refine Fin.ext ?_
  match a with
  | 0 => exact h0.symm
  | 1 => show (x 1).val = l.val; omega

theorem out_block (c : Dev nD) (t : Fin cfg0.N) (y : S8x1024.Idx) (h : Fin 8) (l : Fin 128)
    (hy : (y 1).val = 128 * h.val + l.val) : (outsAt0 m c t).1 y = outOut m c t h (ix2 (y 0) l) := by
  simp only [outsAt0]
  frame_out
  canon_tiles x h
  · exact outOut_apply m c t 7 h l x y hy h0 (by simp only [Fin.isValue]; omega)
  · exact outOut_apply m c t 6 h l x y hy h0 (by simp only [Fin.isValue]; omega)
  · exact outOut_apply m c t 5 h l x y hy h0 (by simp only [Fin.isValue]; omega)
  · exact outOut_apply m c t 4 h l x y hy h0 (by simp only [Fin.isValue]; omega)
  · exact outOut_apply m c t 3 h l x y hy h0 (by simp only [Fin.isValue]; omega)
  · exact outOut_apply m c t 2 h l x y hy h0 (by simp only [Fin.isValue]; omega)
  · exact outOut_apply m c t 1 h l x y hy h0 (by simp only [Fin.isValue]; omega)
  · exact outOut_apply m c t 0 h l x y hy h0 (by simp only [Fin.isValue]; omega)

end Cert.Proof.Block

end
-- ==== Proof.Sequence.lean ====
/- One sequence's block over the reals: what the kernel computes for a head is the gated delta rule taken over the four new
   tokens, one after another. -/
module

public import proofs.«01_k».proof.Proof.Inputs
public import proofs.«01_k».proof.Proof.Block
public import Idealize.ShloMosaic.Lib.Writes

@[expose] public section

noncomputable section

open scoped BigOperators

namespace Cert.Proof.Reals

open Cert.KernelIdeal Cert.KernelIdeal.Gen Idealize.ShloMosaic Cert.Proof.Stages

/-! ### The rule over four tokens -/

section Rule

variable {d e : ℕ} (k : Fin 4 → Fin d → ℝ) (v : Fin 4 → Fin e → ℝ) (b g : Fin 4 → ℝ) (S : Matrix (Fin d) (Fin e) ℝ)

/-- The state after `t` tokens. -/
def rule : ℕ → Matrix (Fin d) (Fin e) ℝ
  | 0 => S
  | t + 1 => if h : t < 4 then Chunk.step (rule t) (k ⟨t, h⟩) (v ⟨t, h⟩) (b ⟨t, h⟩) (g ⟨t, h⟩) else rule t

theorem rule_succ (t : Fin 4) : rule k v b g S (t.val + 1) = Chunk.step (rule k v b g S t.val) (k t) (v t) (b t) (g t) := by
  rw [rule, dif_pos t.isLt]

variable {K : Matrix (Fin 64) (Fin d) ℝ} {V U : Matrix (Fin 64) (Fin e) ℝ} {β γ : Fin 64 → ℝ}

/-- Rows without a token leave the state. -/
theorem closed_skip (hs : Chunk.Solves K V U β γ S) (hout : ∀ i : Fin 64, ¬ (4 ≤ i.val ∧ i.val < 8) → K i = (fun _ => 0) ∧ γ i = 0) (s : ℕ) :
    ∀ t : ℕ, s + t ≤ 64 → (∀ i, s ≤ i → i < s + t → ¬ (4 ≤ i ∧ i < 8)) → Chunk.closed K U γ S (s + t) = Chunk.closed K U γ S s
  | 0, _, _ => rfl
  | t + 1, h, hn => by
    have e := Chunk.closed_succ K V U β γ S hs ⟨s + t, by omega⟩
    obtain ⟨hk, hg⟩ := hout ⟨s + t, by omega⟩ (hn (s + t) (by omega) (by omega))
    rw [hk, hg, Chunk.step_zero] at e
    exact e.trans (closed_skip hs hout s t (by omega) fun i h1 h2 => hn i h1 (by omega))

variable (hs : Chunk.Solves K V U β γ S) (hout : ∀ i : Fin 64, ¬ (4 ≤ i.val ∧ i.val < 8) → K i = (fun _ => 0) ∧ γ i = 0)
  (hin : ∀ t : Fin 4, K ⟨4 + t.val, by omega⟩ = k t ∧ V ⟨4 + t.val, by omega⟩ = v t ∧ β ⟨4 + t.val, by omega⟩ = b t ∧ γ ⟨4 + t.val, by omega⟩ = g t)

include hs hout hin in
theorem closed_rule : ∀ t : ℕ, t ≤ 4 → Chunk.closed K U γ S (4 + t) = rule k v b g S t
  | 0, _ => by
    have := closed_skip S hs hout 0 4 (by omega) (by omega)
    rw [Nat.zero_add, Chunk.closed_zero] at this
    exact this
  | t + 1, ht => by
    have e := Chunk.closed_succ K V U β γ S hs ⟨4 + t, by omega⟩
    obtain ⟨h1, h2, h3, h4⟩ := hin ⟨t, by omega⟩
    rw [h1, h2, h3, h4] at e
    refine e.trans ?_
    rw [rule_succ k v b g S ⟨t, by omega⟩]
    exact congrArg (fun s => Chunk.step s _ _ _ _) (closed_rule t (by omega))

include hs hout hin in
theorem closed_end : Chunk.closed K U γ S 64 = rule k v b g S 4 := by
  rw [← closed_rule k v b g S hs hout hin 4 (le_refl _)]
  exact closed_skip S hs hout 8 56 (by omega) (by omega)

end Rule

/-! ### The buffer of rows -/

section Rows

variable {x hist : FVec Ideal S8x3072 .f32} {X H : Matrix (Fin 8) (Fin 3072) ℝ}

/-- The buffer's rows: 8 of zeros, the block's, zeros. -/
def bufR (X H : Matrix (Fin 8) (Fin 3072) ℝ) (n : ℕ) (c : Fin 3072) : ℝ :=
  if h : 8 ≤ n ∧ n < 16 then xrowsR X H ⟨n - 8, by omega⟩ c else 0

theorem pay_rows : k0_pay21 (k0_pay15 x hist) = xrows x hist := by
  show shapeCast S8x3072 (xrows x hist) _ = _
  rw [shapeCast_self]

theorem pay_zero (y : S72x3072.Idx) : k0_pay1 (F := Ideal) y = 0 := by
  show shapeCast S72x3072 (Stages.zero (F := Ideal) (s := S72x3072)) _ y = _
  rw [shapeCast_self]
  exact Ideal.ofBits_zero_f32

theorem Is.rowsAt (hx : Is x X) (hh : Is hist H) (o : ℕ) (ho) : Is (Block.rowsAt o ho x hist) (fun i c => bufR X H (i.val + o) c) := fun i c => by
  unfold Block.rowsAt View.readCov
  rw [pay_rows, View.readAt_apply]
  generalize hB : (Rect.unit (s := S72x3072) ![o, 0] S64x3072.size ho).toLoadRect.idx (ix2 i c) = B
  have h0 : (B 0).val = o + i.val := by rw [← hB]; show o + 1 * i.val = _; omega
  have h1 : (B 1).val = c.val := by rw [← hB]; show 0 + 1 * c.val = _; omega
  show _ = ((bufR X H (i.val + o) c : ℝ) : EReal)
  unfold bufR
  by_cases h : 8 ≤ i.val + o ∧ i.val + o < 16
  · rw [dif_pos h, View.read_writes_cons_hit _ _ _ _ _ (ix2 (⟨i.val + o - 8, by omega⟩ : Fin 8) c)]
    · exact hx.xrows hh _ _
    · funext a
      refine Fin.ext ?_
      match a with
      | 0 => show 8 + 1 * (i.val + o - 8) = (B 0).val; omega
      | 1 => show 0 + 1 * c.val = (B 1).val; omega
  · rw [dif_neg h, View.read_writes_cons_miss_of_axis _ _ _ _ _ 0 8 8 rfl rfl rfl (by omega), View.read_writes_cons_hit _ _ _ _ _ B]
    · exact pay_zero B
    · funext a
      refine Fin.ext ?_
      match a with
      | 0 => show 0 + 1 * (B 0).val = (B 0).val; omega
      | 1 => show 0 + 1 * (B 1).val = (B 1).val; omega

/-! ### The tokens of a sequence -/

variable (X H) (W : Matrix (Fin 4) (Fin 3072) ℝ) (A M : Matrix (Fin 8) (Fin 128) ℝ)

/-- A new token's convolution and silu. -/
def tokY (t : Fin 4) (c : Fin 3072) : ℝ :=
  siluR (W 3 c * xrowsR X H ⟨t.val + 4, by omega⟩ c + W 2 c * xrowsR X H ⟨t.val + 3, by omega⟩ c
    + W 1 c * xrowsR X H ⟨t.val + 2, by omega⟩ c + W 0 c * xrowsR X H ⟨t.val + 1, by omega⟩ c)

def tokQ (h : Fin 8) (t : Fin 4) (j : Fin 128) : ℝ := unitR (fun l => tokY X H W t ⟨128 * h.val + l.val, by omega⟩) j * scale
def tokK (h : Fin 8) (t : Fin 4) (j : Fin 128) : ℝ := unitR (fun l => tokY X H W t ⟨128 * (8 + h.val) + l.val, by omega⟩) j
def tokV (h : Fin 8) (t : Fin 4) (j : Fin 128) : ℝ := tokY X H W t ⟨128 * (16 + h.val) + j.val, by omega⟩
def tokB (h : Fin 8) (t : Fin 4) : ℝ := sigmoid (A ⟨4 + t.val, by omega⟩ ⟨64 + h.val, by omega⟩)
def tokG (h : Fin 8) (t : Fin 4) : ℝ := -Real.exp (M 0 ⟨72 + h.val, by omega⟩)
  * softplusR (A ⟨4 + t.val, by omega⟩ ⟨72 + h.val, by omega⟩ + M 1 ⟨72 + h.val, by omega⟩)

/-- The state after the sequence's first `t` new tokens. -/
def tokS (h : Fin 8) (S : Matrix (Fin 128) (Fin 128) ℝ) (t : ℕ) : Matrix (Fin 128) (Fin 128) ℝ :=
  rule (tokK X H W h) (tokV X H W h) (tokB A h) (tokG A M h) S t

/-- The 64 rows after the convolution. -/
def rowsY (i : Fin 64) (c : Fin 3072) : ℝ :=
  siluR (W 3 c * bufR X H (i.val + 8) c + W 2 c * bufR X H (i.val + 7) c + W 1 c * bufR X H (i.val + 6) c + W 0 c * bufR X H (i.val + 5) c)

theorem rowsY_token (t : Fin 4) (c : Fin 3072) : rowsY X H W ⟨4 + t.val, by omega⟩ c = tokY X H W t c := by
  have hb : ∀ (n : ℕ) (r : Fin 8), n = 8 + r.val → bufR X H n c = xrowsR X H r c := fun n r hn => by
    unfold bufR
    rw [dif_pos (by omega)]
    exact congrArg (fun r => xrowsR X H r c) (Fin.ext (by show n - 8 = r.val; omega))
  unfold rowsY tokY
  rw [hb (4 + t.val + 8) ⟨t.val + 4, by omega⟩ (by show _ = 8 + (t.val + 4); omega),
    hb (4 + t.val + 7) ⟨t.val + 3, by omega⟩ (by show _ = 8 + (t.val + 3); omega),
    hb (4 + t.val + 6) ⟨t.val + 2, by omega⟩ (by show _ = 8 + (t.val + 2); omega),
    hb (4 + t.val + 5) ⟨t.val + 1, by omega⟩ (by show _ = 8 + (t.val + 1); omega)]

variable {X H W A M}
variable {w : FVec Ideal S4x3072 .f32} {s misc : FVec Ideal S8x128 .f32}

/-- The block's rows after the convolution, from the rows loaded at the four offsets. -/
theorem Is.rowsY (hx : Is x X) (hh : Is hist H) (hw : Is w W) :
    Is (Stages.conv w (Block.rowsAt 8 inb_S72x3072_S64x3072_8_0 x hist) (Block.rowsAt 7 inb_S72x3072_S64x3072_7_0 x hist)
      (Block.rowsAt 6 inb_S72x3072_S64x3072_6_0 x hist) (Block.rowsAt 5 inb_S72x3072_S64x3072_5_0 x hist)) (rowsY X H W) :=
  hw.conv (hx.rowsAt hh 8 _) (hx.rowsAt hh 7 _) (hx.rowsAt hh 6 _) (hx.rowsAt hh 5 _)

variable {y : FVec Ideal S64x3072 .f32} {S0 : FVec Ideal S128x128 .f32} {S : Matrix (Fin 128) (Fin 128) ℝ}

/-- The matrices of head `h`. -/
def headK (X H : Matrix (Fin 8) (Fin 3072) ℝ) (W : Matrix (Fin 4) (Fin 3072) ℝ) (h : Fin 8) : Matrix (Fin 64) (Fin 128) ℝ := fun i j => unitR (partR (Reals.rowsY X H W) ⟨8 + h.val, by omega⟩ i) j * vR i
def headV (X H : Matrix (Fin 8) (Fin 3072) ℝ) (W : Matrix (Fin 4) (Fin 3072) ℝ) (h : Fin 8) : Matrix (Fin 64) (Fin 128) ℝ := fun i j => partR (Reals.rowsY X H W) ⟨16 + h.val, by omega⟩ i j * vR i

theorem vR_token (t : Fin 4) : vR ⟨4 + t.val, by omega⟩ = 1 := if_pos ⟨by show 4 ≤ 4 + t.val; omega, by show 4 + t.val < 8; omega⟩

theorem head_out (h : Fin 8) (i : Fin 64) (hi : ¬ (4 ≤ i.val ∧ i.val < 8)) :
    headK X H W h i = (fun _ => 0) ∧ gammaR A M ⟨72 + h.val, by omega⟩ i = 0 := by
  have h0 : vR i = 0 := if_neg hi
  refine ⟨funext fun j => ?_, ?_⟩
  · unfold headK; rw [h0, mul_zero]
  · unfold gammaR; rw [h0, mul_zero]

theorem small64R_token (t : Fin 4) (l : Fin 128) : small64R A ⟨4 + t.val, by omega⟩ l = A ⟨4 + t.val, by omega⟩ l := by
  unfold small64R
  rw [dif_pos (by show 4 + t.val < 8; omega)]

theorem head_in (h : Fin 8) (t : Fin 4) : headK X H W h ⟨4 + t.val, by omega⟩ = tokK X H W h t
    ∧ headV X H W h ⟨4 + t.val, by omega⟩ = tokV X H W h t
    ∧ betaR A ⟨64 + h.val, by omega⟩ ⟨4 + t.val, by omega⟩ = tokB A h t
    ∧ gammaR A M ⟨72 + h.val, by omega⟩ ⟨4 + t.val, by omega⟩ = tokG A M h t := by
  have hp : ∀ p : Fin 24, partR (Reals.rowsY X H W) p ⟨4 + t.val, by omega⟩ = fun l => tokY X H W t ⟨128 * p.val + l.val, by omega⟩ :=
    fun p => funext fun l => rowsY_token X H W t _
  refine ⟨funext fun j => ?_, funext fun j => ?_, ?_, ?_⟩
  · unfold headK tokK; rw [vR_token, mul_one, hp]
  · unfold headV tokV; rw [vR_token, mul_one, hp]
  · unfold betaR tokB; rw [vR_token, mul_one, small64R_token]
  · unfold gammaR tokG; rw [vR_token, mul_one, small64R_token]

variable (h : Fin 8) (hy : Is y (Reals.rowsY X H W)) (hs : Is s A) (hm : Is misc M) (hS : Is S0 S)
include hy hs hm hS

/-- The state that head `h` leaves. -/
theorem Is.stateH : Is (Stages.stateH h y s misc S0) (tokS X H W A M h S 4) := by
  have hc := closed_end (tokK X H W h) (tokV X H W h) (tokB A h) (tokG A M h) S uR_solves (head_out h) (head_in h)
  have e := Is.stateMat (fun i => gammaR_nonpos _ i) (hy.part ⟨8 + h.val, by omega⟩).kOf (hy.part ⟨16 + h.val, by omega⟩).vOf
    (hs.betaV.laneOf ⟨64 + h.val, by omega⟩) ((hs.decaySum hm).laneOf ⟨72 + h.val, by omega⟩) hS
  exact e.of_eq hc

/-- What head `h` reads for a new token. -/
theorem outH_token (t : Fin 4) (i : Fin 64) (hi : i.val = 4 + t.val) (j : Fin 128) : Stages.outH h y s misc S0 (ix2 i j)
    = ((∑ a, tokQ X H W h t a * tokS X H W A M h S (t.val + 1) a j : ℝ) : EReal) := by
  rw [show i = ⟨4 + t.val, by omega⟩ from Fin.ext hi]
  refine (Is.outMat (fun i => gammaR_nonpos _ i) (hy.part _).qOf (hy.part _).kOf (hy.part _).vOf (hs.betaV.laneOf ⟨64 + h.val, by omega⟩)
    ((hs.decaySum hm).laneOf ⟨72 + h.val, by omega⟩) hS ⟨4 + t.val, by omega⟩ j).trans (congrArg _ ?_)
  have hc := closed_rule (tokK X H W h) (tokV X H W h) (tokB A h) (tokG A M h) S uR_solves (head_out h) (head_in h) (t.val + 1) (by omega)
  refine Finset.sum_congr rfl fun a _ => ?_
  refine congrArg₂ (· * ·) ?_ (congrFun (congrFun hc a) j)
  unfold tokQ
  exact congrArg (fun f => unitR f a * scale) (funext fun l => rowsY_token X H W t _)

end Rows

end Cert.Proof.Reals

end
-- ==== Proof.Reference.lean ====
/- The reference's arrays over the reals: the rows after the convolution, the normalized queries and keys, the two gates, and
   the state after each of the four tokens. -/
module

public import proofs.«01_k».proof.Proof.Gen.ReferenceIdeal.Read
public import proofs.«01_k».proof.Proof.Sequence
public import Idealize.ShloMosaic.Lib.Pointwise
public import Idealize.ShloMosaic.Lib.KernelVsHost

@[expose] public section

noncomputable section

open scoped BigOperators

namespace Cert.Proof.Plain

open Cert.ReferenceIdeal Cert.ReferenceIdeal.Gen Cert.ReferenceIdeal.Read Idealize.ShloMosaic Idealize.ShloMosaic.StableHlo Cert.Proof.Reals

/-- Row `8b + r` of the 256. -/
def rowOf (b : Fin 32) (r : Fin 8) : Fin 256 := ⟨8 * b.val + r.val, by omega⟩

/-- One sequence's eight rows. -/
def seqOf {n : ℕ} (X : Matrix (Fin 256) (Fin n) ℝ) (b : Fin 32) : Matrix (Fin 8) (Fin n) ℝ := fun r c => X (rowOf b r) c

theorem at_row {n : ℕ} {x : FVec Ideal ⟨2, ![256, n]⟩ .f32} {X : Matrix (Fin 256) (Fin n) ℝ} (hx : Is x X) (b : Fin 32) (r : Fin 8) (i : Fin 256)
    (hi : i.val = 8 * b.val + r.val) (c : Fin n) : x (ix2 i c) = ((seqOf X b r c : ℝ) : EReal) :=
  (hx i c).trans (by rw [show i = rowOf b r from Fin.ext hi]; rfl)

theorem sigmoid_neg (x : ℝ) : Ideal.div 1 (1 + Ideal.exp (-(x : EReal))) = ((sigmoid x : ℝ) : EReal) := by
  rw [← sigmoid_eq, zero_sub]

theorem softplus_neg (x : ℝ) : max (x : EReal) 0 + Ideal.log (1 + Ideal.exp (-(max (x : EReal) (-(x : EReal))))) = ((softplusR x : ℝ) : EReal) := by
  rw [← EReal.coe_neg, ← coe_max, ← EReal.coe_neg, Ideal.exp_coe,
    ← EReal.coe_one, ← EReal.coe_add, log_pos (add_pos one_pos (Real.exp_pos _)), ← EReal.coe_zero, ← coe_max, ← EReal.coe_add]
  rfl

section Tokens

variable {x0 x1 : FVec Ideal S256x3072 .f32} {x2 : FVec Ideal S256x128 .f32} {x5 : FVec Ideal S4x3072 .f32} {x6 : FVec Ideal S8x128 .f32}
variable {C H : Matrix (Fin 256) (Fin 3072) ℝ} {A : Matrix (Fin 256) (Fin 128) ℝ} {W : Matrix (Fin 4) (Fin 3072) ℝ} {M : Matrix (Fin 8) (Fin 128) ℝ}

/-- The seven rows the convolution reads: three of the history, then the tokens. -/
theorem padded (hC : Is x0 C) (hH : Is x1 H) (b : Fin 32) (t : Fin 7) (c : Fin 3072) :
    val_main_v16 (F := Ideal) x0 x1 (ix3 b t c) = ((xrowsR (seqOf C b) (seqOf H b) ⟨t.val + 1, by omega⟩ c : ℝ) : EReal) := by
  unfold val_main_v16 val_main_v3 val_main_v2 val_main_v1 val_main_v0
  pointwise
  unfold xrowsR
  by_cases h : t.val < 3
  · rw [dif_pos h]
    exact (at_row hH b ⟨t.val + 1, by omega⟩ _ (by show b.val * 8 + (1 + t.val) = 8 * b.val + (t.val + 1); omega) c).trans
      (congrArg _ (if_pos (by show t.val + 1 < 4; omega)).symm)
  · rw [dif_neg h]
    exact (at_row hC b ⟨t.val + 1, by omega⟩ _ (by show b.val * 8 + (4 + (t.val - 3)) = 8 * b.val + (t.val + 1); omega) c).trans
      (congrArg _ (if_neg (by show ¬ t.val + 1 < 4; omega)).symm)

theorem convolved (hC : Is x0 C) (hH : Is x1 H) (hW : Is x5 W) (b : Fin 32) (t : Fin 4) (c : Fin 3072) :
    val_main_v44 (F := Ideal) x0 x1 x5 (ix3 b t c) = ((tokY (seqOf C b) (seqOf H b) W t c : ℝ) : EReal) := by
  have e : val_main_v43 (F := Ideal) x0 x1 x5 (ix3 b t c)
      = val_main_v16 (F := Ideal) x0 x1 (ix3 b ⟨t.val, by omega⟩ c) * x5 (ix2 0 c)
        + val_main_v16 (F := Ideal) x0 x1 (ix3 b ⟨1 + t.val, by omega⟩ c) * x5 (ix2 1 c)
        + val_main_v16 (F := Ideal) x0 x1 (ix3 b ⟨2 + t.val, by omega⟩ c) * x5 (ix2 2 c)
        + val_main_v16 (F := Ideal) x0 x1 (ix3 b ⟨3 + t.val, by omega⟩ c) * x5 (ix2 3 c) := by
    unfold val_main_v43 val_main_v42 val_main_v41 val_main_v40 val_main_v39 val_main_v38 val_main_v37 val_main_v36 val_main_v35 val_main_v34 val_main_v33
      val_main_v32 val_main_v31 val_main_v30 val_main_v29 val_main_v28 val_main_v27 val_main_v26 val_main_v25 val_main_v24 val_main_v23 val_main_v22
      val_main_v21 val_main_v20 val_main_v19 val_main_v18 val_main_v17
    pointwise
  rw [padded hC hH, padded hC hH, padded hC hH, padded hC hH, hW, hW, hW, hW, ← EReal.coe_mul, ← EReal.coe_mul, ← EReal.coe_mul, ← EReal.coe_mul,
    ← EReal.coe_add, ← EReal.coe_add, ← EReal.coe_add] at e
  unfold val_main_v44 val_main_call0_v5 val_main_call0_v4 val_main_call0_cst_0 val_main_call0_v3 val_main_call0_v2 val_main_call0_cst val_main_call0_v1 val_main_call0_v0
  pointwise
  rw [e, sigmoid_neg, ← EReal.coe_mul]
  refine congrArg _ ?_
  show siluR _ = tokY _ _ _ _ _
  unfold tokY
  refine congrArg _ ?_
  have r : ∀ (n k : ℕ) (hn : n < 8) (hk : k < 8), n = k → xrowsR (seqOf C b) (seqOf H b) ⟨n, hn⟩ c = xrowsR (seqOf C b) (seqOf H b) ⟨k, hk⟩ c :=
    fun n k hn hk e => by subst e; rfl
  rw [r (1 + t.val + 1) (t.val + 2) (by omega) (by omega) (by omega), r (2 + t.val + 1) (t.val + 3) (by omega) (by omega) (by omega),
    r (3 + t.val + 1) (t.val + 4) (by omega) (by omega) (by omega)]
  ring

theorem lane (t : Fin 4) (X Y : Matrix (Fin 8) (Fin 3072) ℝ) (n k : ℕ) (hn : n < 3072) (hk : k < 3072) (e : n = k) :
    tokY X Y W t ⟨n, hn⟩ = tokY X Y W t ⟨k, hk⟩ := by subst e; rfl

theorem queries (hC : Is x0 C) (hH : Is x1 H) (hW : Is x5 W) (b : Fin 32) (t : Fin 4) (h : Fin 8) (j : Fin 128) :
    val_main_v58 (F := Ideal) x0 x1 x5 (ix4 b t h j) = ((tokQ (seqOf C b) (seqOf H b) W h t j : ℝ) : EReal) := by
  have e : ∀ l : Fin 128, val_main_v48 (F := Ideal) x0 x1 x5 (ix4 b t h l) = ((tokY (seqOf C b) (seqOf H b) W t ⟨128 * h.val + l.val, by omega⟩ : ℝ) : EReal) := fun l => by
    unfold val_main_v48 val_main_v45
    pointwise
    rw [convolved hC hH hW]
    exact congrArg _ (lane t _ _ _ _ _ _ (by omega))
  have u : val_main_v58 (F := Ideal) x0 x1 x5 (ix4 b t h j) = val_main_v48 (F := Ideal) x0 x1 x5 (ix4 b t h j) * Ideal.rsqrt
      (∑ l, val_main_v48 (F := Ideal) x0 x1 x5 (ix4 b t h l) * val_main_v48 (F := Ideal) x0 x1 x5 (ix4 b t h l) + Ideal.ofBits .f32 0x358637BD#32)
      * Ideal.ofBits .f32 0x3DB504F3#32 := by
    unfold val_main_v58 val_main_v57 val_main_v56 val_main_v55 val_main_v54 val_main_v53 val_main_v52 val_main_v51 val_main_v50 val_main_v49 val_main_cst_1 val_main_cst_0 val_main_cst
    pointwise
  rw [u, unit_coe (f := fun l => tokY (seqOf C b) (seqOf H b) W t ⟨128 * h.val + l.val, by omega⟩) e, scale_eq, ← EReal.coe_mul]
  rfl

theorem keys (hC : Is x0 C) (hH : Is x1 H) (hW : Is x5 W) (b : Fin 32) (t : Fin 4) (h : Fin 8) (j : Fin 128) :
    val_main_v67 (F := Ideal) x0 x1 x5 (ix4 b t h j) = ((tokK (seqOf C b) (seqOf H b) W h t j : ℝ) : EReal) := by
  have e : ∀ l : Fin 128, val_main_v59 (F := Ideal) x0 x1 x5 (ix4 b t h l) = ((tokY (seqOf C b) (seqOf H b) W t ⟨128 * (8 + h.val) + l.val, by omega⟩ : ℝ) : EReal) := fun l => by
    unfold val_main_v59 val_main_v46
    pointwise
    rw [convolved hC hH hW]
    exact congrArg _ (lane t _ _ _ _ _ _ (by omega))
  have u : val_main_v67 (F := Ideal) x0 x1 x5 (ix4 b t h j) = val_main_v59 (F := Ideal) x0 x1 x5 (ix4 b t h j) * Ideal.rsqrt
      (∑ l, val_main_v59 (F := Ideal) x0 x1 x5 (ix4 b t h l) * val_main_v59 (F := Ideal) x0 x1 x5 (ix4 b t h l) + Ideal.ofBits .f32 0x358637BD#32) := by
    unfold val_main_v67 val_main_v66 val_main_v65 val_main_v64 val_main_v63 val_main_v62 val_main_v61 val_main_v60 val_main_cst_3 val_main_cst_2
    pointwise
  rw [u, unit_coe (f := fun l => tokY (seqOf C b) (seqOf H b) W t ⟨128 * (8 + h.val) + l.val, by omega⟩) e]
  rfl

theorem values (hC : Is x0 C) (hH : Is x1 H) (hW : Is x5 W) (b : Fin 32) (t : Fin 4) (h : Fin 8) (j : Fin 128) :
    val_main_v68 (F := Ideal) x0 x1 x5 (ix4 b t h j) = ((tokV (seqOf C b) (seqOf H b) W h t j : ℝ) : EReal) := by
  unfold val_main_v68 val_main_v47
  pointwise
  rw [convolved hC hH hW]
  exact congrArg _ (lane t _ _ _ _ _ _ (by omega))

theorem gates (hA : Is x2 A) (b : Fin 32) (t : Fin 4) (h : Fin 8) :
    val_main_v74 (F := Ideal) x2 (ix3 b t h) = ((tokB (seqOf A b) h t : ℝ) : EReal) := by
  unfold val_main_v74 val_main_v73 val_main_v72 val_main_v71 val_main_v70 val_main_v69 val_main_cst_4 val_main_cst_5 val_main_v6 val_main_v5 val_main_v4
  pointwise
  rw [at_row hA b ⟨4 + t.val, by omega⟩ ⟨b.val * 8 + (4 + t.val), by omega⟩ (by show b.val * 8 + (4 + t.val) = 8 * b.val + (4 + t.val); omega), sigmoid_neg]
  rfl

theorem decays (hA : Is x2 A) (hM : Is x6 M) (b : Fin 32) (t : Fin 4) (h : Fin 8) :
    val_main_v83 (F := Ideal) x2 x6 (ix3 b t h) = ((tokG (seqOf A b) M h t : ℝ) : EReal) := by
  have e : val_main_v79 (F := Ideal) x2 x6 (ix3 b t h) = ((seqOf A b ⟨4 + t.val, by omega⟩ ⟨72 + h.val, by omega⟩ + M 1 ⟨72 + h.val, by omega⟩ : ℝ) : EReal) := by
    unfold val_main_v79 val_main_v78 val_main_v77 val_main_v9 val_main_v8 val_main_v7 val_main_v15 val_main_v14
    pointwise
    rw [at_row hA b ⟨4 + t.val, by omega⟩ ⟨b.val * 8 + (4 + t.val), by omega⟩ (by show b.val * 8 + (4 + t.val) = 8 * b.val + (4 + t.val); omega), hM, ← EReal.coe_add]
  unfold val_main_v83 val_main_v82 val_main_v81 val_main_v76 val_main_v75 val_main_v13 val_main_v12 val_main_v80 val_main_call1_v11 val_main_call1_v10 val_main_call1_v9
    val_main_call1_v8 val_main_call1_v7 val_main_call1_v6 val_main_call1_v4 val_main_call1_v5 val_main_call1_v3 val_main_call1_v2 val_main_call1_v1 val_main_call1_v0 val_main_call1_cst
  pointwise
  rw [if_neg (not_not.mpr rfl), e, hM, Ideal.exp_coe, ← EReal.coe_neg]
  refine (congrArg _ (softplus_neg _)).trans ?_
  rw [← EReal.coe_mul]
  rfl

end Tokens

/-! ### One token of the rule on the arrays -/

/-- The rows of token `t`. -/
def pick (t : Fin 4) (hs : S32x4x8x128.Slices ![0, t.val, 0, 0] S32x1x8x128) (x : FVec Ideal S32x4x8x128 .f32) : FVec Ideal S32x8x128 .f32 :=
  shapeCast S32x8x128 (extractStridedSlice S32x1x8x128 ![0, t.val, 0, 0] x hs) shapeCasts_S32x1x8x128_S32x8x128

/-- The scalars of token `t`. -/
def pickG (t : Fin 4) (hs : S32x4x8.Slices ![0, t.val, 0] S32x1x8) (x : FVec Ideal S32x4x8 .f32) : FVec Ideal S32x8 .f32 :=
  shapeCast S32x8 (extractStridedSlice S32x1x8 ![0, t.val, 0] x hs) shapeCasts_S32x1x8_S32x8

theorem pick_apply (t : Fin 4) (hs) (x : FVec Ideal S32x4x8x128 .f32) (b : Fin 32) (h : Fin 8) (j : Fin 128) : pick t hs x (ix3 b h j) = x (ix4 b t h j) := by
  unfold pick
  pointwise

theorem pickG_apply (t : Fin 4) (hs) (x : FVec Ideal S32x4x8 .f32) (b : Fin 32) (h : Fin 8) : pickG t hs x (ix2 b h) = x (ix3 b t h) := by
  unfold pickG
  pointwise

def decayed (g : FVec Ideal S32x8 .f32) (S : FVec Ideal S32x8x128x128 .f32) : FVec Ideal S32x8x128x128 .f32 :=
  mulf S (broadcastInDim S32x8x128x128 ![0, 1, 2, 3] bcast_S32x8x1x1_S32x8x128x128_0_1_2_3 (broadcastInDim S32x8x1x1 ![0, 1] bcast_S32x8_S32x8x1x1_0_1 (Host.exp g)))

def readState (q : FVec Ideal S32x8x128 .f32) (S : FVec Ideal S32x8x128x128 .f32) : FVec Ideal S32x8x128 .f32 :=
  Host.dotGeneral (F := Ideal) dot_S32x8x128_S32x8x128x128_S32x8x128_2_2_n_3_01_01 none q S

def next (k v : FVec Ideal S32x8x128 .f32) (g b : FVec Ideal S32x8 .f32) (S : FVec Ideal S32x8x128x128 .f32) : FVec Ideal S32x8x128x128 .f32 :=
  addf (decayed g S) (mulf
    (broadcastInDim S32x8x128x128 ![0, 1, 2, 3] bcast_S32x8x128x1_S32x8x128x128_0_1_2_3 (broadcastInDim S32x8x128x1 ![0, 1, 2] bcast_S32x8x128_S32x8x128x1_0_1_2 k))
    (broadcastInDim S32x8x128x128 ![0, 1, 2, 3] bcast_S32x8x1x128_S32x8x128x128_0_1_2_3 (broadcastInDim S32x8x1x128 ![0, 1, 3] bcast_S32x8x128_S32x8x1x128_0_1_3
      (mulf (broadcastInDim S32x8x128 ![0, 1, 2] bcast_S32x8x1_S32x8x128_0_1_2 (broadcastInDim S32x8x1 ![0, 1] bcast_S32x8_S32x8x1_0_1 b)) (subf v (readState k (decayed g S)))))))

theorem next_apply (k v : FVec Ideal S32x8x128 .f32) (g b : FVec Ideal S32x8 .f32) (S : FVec Ideal S32x8x128x128 .f32) (p : Fin 32) (h : Fin 8) (a j : Fin 128) :
    next k v g b S (ix4 p h a j) = S (ix4 p h a j) * Ideal.exp (g (ix2 p h)) +
      k (ix3 p h a) * (b (ix2 p h) * (v (ix3 p h j) - ∑ l, k (ix3 p h l) * (S (ix4 p h l j) * Ideal.exp (g (ix2 p h))))) := by
  unfold next readState decayed
  pointwise

/-- A token's step on the arrays is the rule's step, sequence by sequence and head by head. -/
theorem next_coe {k v : FVec Ideal S32x8x128 .f32} {g b : FVec Ideal S32x8 .f32} {S : FVec Ideal S32x8x128x128 .f32} {p : Fin 32} {h : Fin 8}
    {kR vR : Fin 128 → ℝ} {gR bR : ℝ} {SR : Matrix (Fin 128) (Fin 128) ℝ} (hk : ∀ l, k (ix3 p h l) = (kR l : EReal)) (hv : ∀ l, v (ix3 p h l) = (vR l : EReal))
    (hg : g (ix2 p h) = (gR : EReal)) (hb : b (ix2 p h) = (bR : EReal)) (hS : ∀ a j, S (ix4 p h a j) = (SR a j : EReal)) (a j : Fin 128) :
    next k v g b S (ix4 p h a j) = ((Chunk.step SR kR vR bR gR a j : ℝ) : EReal) := by
  have e : ∀ a j, S (ix4 p h a j) * Ideal.exp (g (ix2 p h)) = ((SR a j * Real.exp gR : ℝ) : EReal) := fun a j => by
    rw [hS, hg, Ideal.exp_coe, ← EReal.coe_mul]
  rw [next_apply, sum_mul_coe hk (fun l => e l j), e, hk, hb, hv, ← EReal.coe_sub, ← EReal.coe_mul, ← EReal.coe_mul, ← EReal.coe_add]
  rfl

theorem read_apply (q : FVec Ideal S32x8x128 .f32) (S : FVec Ideal S32x8x128x128 .f32) (p : Fin 32) (h : Fin 8) (j : Fin 128) :
    readState q S (ix3 p h j) = ∑ a, q (ix3 p h a) * S (ix4 p h a j) := by
  unfold readState
  pointwise

section States

variable {x0 x1 : FVec Ideal S256x3072 .f32} {x2 : FVec Ideal S256x128 .f32} {x4 : FVec Ideal S32x8x128x128 .f32} {x5 : FVec Ideal S4x3072 .f32} {x6 : FVec Ideal S8x128 .f32}
variable {C H : Matrix (Fin 256) (Fin 3072) ℝ} {A : Matrix (Fin 256) (Fin 128) ℝ} {W : Matrix (Fin 4) (Fin 3072) ℝ} {M : Matrix (Fin 8) (Fin 128) ℝ}
  {St : Fin 32 → Fin 8 → Matrix (Fin 128) (Fin 128) ℝ}

/-- The state of one sequence's head after `t` tokens. -/
def seqS (C H : Matrix (Fin 256) (Fin 3072) ℝ) (W : Matrix (Fin 4) (Fin 3072) ℝ) (A : Matrix (Fin 256) (Fin 128) ℝ) (M : Matrix (Fin 8) (Fin 128) ℝ)
    (St : Fin 32 → Fin 8 → Matrix (Fin 128) (Fin 128) ℝ) (b : Fin 32) (h : Fin 8) (t : ℕ) : Matrix (Fin 128) (Fin 128) ℝ :=
  tokS (seqOf C b) (seqOf H b) W (seqOf A b) M h (St b h) t

variable (hC : Is x0 C) (hH : Is x1 H) (hA : Is x2 A) (hS : ∀ b h a j, x4 (ix4 b h a j) = (St b h a j : EReal)) (hW : Is x5 W) (hM : Is x6 M)
include hC hH hA hW hM

theorem next_token {S : FVec Ideal S32x8x128x128 .f32} (t : Fin 4) (hs) (hg)
    (ih : ∀ b h a j, S (ix4 b h a j) = (seqS C H W A M St b h t.val a j : EReal)) (b : Fin 32) (h : Fin 8) (a j : Fin 128) :
    next (pick t hs (val_main_v67 (F := Ideal) x0 x1 x5)) (pick t hs (val_main_v68 (F := Ideal) x0 x1 x5)) (pickG t hg (val_main_v83 (F := Ideal) x2 x6))
      (pickG t hg (val_main_v74 (F := Ideal) x2)) S (ix4 b h a j) = (seqS C H W A M St b h (t.val + 1) a j : EReal) := by
  rw [next_coe (fun l => (pick_apply t hs _ b h l).trans (keys hC hH hW b t h l)) (fun l => (pick_apply t hs _ b h l).trans (values hC hH hW b t h l))
    ((pickG_apply t hg _ b h).trans (decays hA hM b t h)) ((pickG_apply t hg _ b h).trans (gates hA b t h)) (ih b h)]
  unfold seqS tokS
  rw [rule_succ]

theorem read_token {S : FVec Ideal S32x8x128x128 .f32} (t : Fin 4) (hs)
    (ih : ∀ b h a j, S (ix4 b h a j) = (seqS C H W A M St b h (t.val + 1) a j : EReal)) (b : Fin 32) (h : Fin 8) (j : Fin 128) :
    readState (pick t hs (val_main_v58 (F := Ideal) x0 x1 x5)) S (ix3 b h j)
      = ((∑ a, tokQ (seqOf C b) (seqOf H b) W h t a * seqS C H W A M St b h (t.val + 1) a j : ℝ) : EReal) := by
  rw [read_apply]
  exact sum_mul_coe (fun a => (pick_apply t hs _ b h a).trans (queries hC hH hW b t h a)) (fun a => ih b h a j)

include hS

theorem state1 (b : Fin 32) (h : Fin 8) (a j : Fin 128) : val_main_v108 (F := Ideal) x0 x1 x2 x4 x5 x6 (ix4 b h a j) = (seqS C H W A M St b h 1 a j : EReal) :=
  next_token hC hH hA hW hM 0 slices_S32x4x8x128_S32x1x8x128_0_0_0_0 slices_S32x4x8_S32x1x8_0_0_0 (S := x4) hS b h a j
theorem state2 (b : Fin 32) (h : Fin 8) (a j : Fin 128) : val_main_v134 (F := Ideal) x0 x1 x2 x4 x5 x6 (ix4 b h a j) = (seqS C H W A M St b h 2 a j : EReal) :=
  next_token hC hH hA hW hM 1 slices_S32x4x8x128_S32x1x8x128_0_1_0_0 slices_S32x4x8_S32x1x8_0_1_0 (state1 hC hH hA hS hW hM) b h a j
theorem state3 (b : Fin 32) (h : Fin 8) (a j : Fin 128) : val_main_v160 (F := Ideal) x0 x1 x2 x4 x5 x6 (ix4 b h a j) = (seqS C H W A M St b h 3 a j : EReal) :=
  next_token hC hH hA hW hM 2 slices_S32x4x8x128_S32x1x8x128_0_2_0_0 slices_S32x4x8_S32x1x8_0_2_0 (state2 hC hH hA hS hW hM) b h a j
theorem state4 (b : Fin 32) (h : Fin 8) (a j : Fin 128) : val_main_v186 (F := Ideal) x0 x1 x2 x4 x5 x6 (ix4 b h a j) = (seqS C H W A M St b h 4 a j : EReal) :=
  next_token hC hH hA hW hM 3 slices_S32x4x8x128_S32x1x8x128_0_3_0_0 slices_S32x4x8_S32x1x8_0_3_0 (state3 hC hH hA hS hW hM) b h a j

/-- What head `h` reads at token `t`. -/
theorem reads (b : Fin 32) (t : Fin 4) (h : Fin 8) (j : Fin 128) : val_main_v192 (F := Ideal) x0 x1 x2 x4 x5 x6 (ix4 b t h j)
    = ((∑ a, tokQ (seqOf C b) (seqOf H b) W h t a * seqS C H W A M St b h (t.val + 1) a j : ℝ) : EReal) := by
  have r0 := read_token hC hH hA hW hM 0 slices_S32x4x8x128_S32x1x8x128_0_0_0_0 (state1 hC hH hA hS hW hM) b h j
  have r1 := read_token hC hH hA hW hM 1 slices_S32x4x8x128_S32x1x8x128_0_1_0_0 (state2 hC hH hA hS hW hM) b h j
  have r2 := read_token hC hH hA hW hM 2 slices_S32x4x8x128_S32x1x8x128_0_2_0_0 (state3 hC hH hA hS hW hM) b h j
  have r3 := read_token hC hH hA hW hM 3 slices_S32x4x8x128_S32x1x8x128_0_3_0_0 (state4 hC hH hA hS hW hM) b h j
  unfold val_main_v192 val_main_v191 val_main_v190 val_main_v189 val_main_v188
  pointwise
  fin_cases t
  · exact r0
  · exact r1
  · exact r2
  · exact r3

end States

/-! ### The gated result -/

section Gated

variable (x0 x1 : FVec Ideal S256x3072 .f32) (x2 : FVec Ideal S256x128 .f32) (x3 : FVec Ideal S256x1024 .f32) (x4 : FVec Ideal S32x8x128x128 .f32)
  (x5 : FVec Ideal S4x3072 .f32) (x6 : FVec Ideal S8x128 .f32) (x7 : FVec Ideal S1x128 .f32)

/-- A head's row of the result from the read `o`, the gate `z` and the norm's weight `w`. -/
def gate (o : Fin 128 → EReal) (w z : EReal) (l : Fin 128) : EReal :=
  o l * Ideal.rsqrt (Ideal.div (∑ x, o x * o x) (Ideal.ofBits .f32 0x43000000#32) + Ideal.ofBits .f32 0x358637BD#32) * w
    * (z * Ideal.div 1 (1 + Ideal.exp (-z)))

theorem result (b : Fin 32) (t : Fin 4) (h : Fin 8) (l : Fin 128) (i : Fin 256) (hi : i.val = 8 * b.val + (4 + t.val)) (c : Fin 1024) (hc : c.val = 128 * h.val + l.val) :
    val_main_v212 (F := Ideal) x0 x1 x2 x3 x4 x5 x6 x7 (ix2 i c)
      = gate (fun x => val_main_v192 (F := Ideal) x0 x1 x2 x4 x5 x6 (ix4 b t h x)) (x7 (ix2 0 l)) (x3 (ix2 i c)) l := by
  have e : val_main_v209 (F := Ideal) x0 x1 x2 x3 x4 x5 x6 x7 (ix4 b t h l)
      = gate (fun x => val_main_v192 (F := Ideal) x0 x1 x2 x4 x5 x6 (ix4 b t h x)) (x7 (ix2 0 l)) (x3 (ix2 i c)) l := by
    unfold val_main_v209 val_main_v208 val_main_v207 val_main_v206 val_main_v205 val_main_v204 val_main_v193 val_main_v203 val_main_v202 val_main_v201 val_main_v200 val_main_v199 val_main_cst_8 val_main_v198 val_main_v197 val_main_cst_7
      val_main_v196 val_main_v195 val_main_v194 val_main_cst_6 val_main_call2_v5 val_main_call2_v4 val_main_call2_cst_0 val_main_call2_v3 val_main_call2_v2 val_main_call2_cst val_main_call2_v1 val_main_call2_v0 val_main_v207 val_main_v11 val_main_v10
    pointwise
    have hz : ∀ (r : Fin 256) (s : Fin 1024), r.val = i.val → s.val = c.val → x3 (ix2 r s) = x3 (ix2 i c) := fun r s hr hs => by
      rw [Fin.ext hr, Fin.ext hs]
    rw [hz _ _ (by dsimp only; omega) (by dsimp only; omega)]
    rfl
  rw [← e]
  unfold val_main_v212
  pointwise
  unfold val_main_v211
  rw [pad_apply_of_inside _ _ _ _ _ _ _ _ (ix3 b t c) (by
    intro a
    fin_cases a
    · show i.val / 8 = 0 + b.val * (0 + 1); omega
    · show i.val % 8 = 4 + t.val * (0 + 1); omega
    · show c.val = 0 + c.val * (0 + 1); omega)]
  unfold val_main_v210
  pointwise
  have hq : ∀ (p : Fin 8) (q : Fin 128), p.val = h.val → q.val = l.val → val_main_v209 (F := Ideal) x0 x1 x2 x3 x4 x5 x6 x7 (ix4 b t p q)
      = val_main_v209 (F := Ideal) x0 x1 x2 x3 x4 x5 x6 x7 (ix4 b t h l) := fun p q hp hq => by rw [Fin.ext hp, Fin.ext hq]
  exact hq _ _ (by dsimp only; omega) (by dsimp only; omega)

end Gated

end Cert.Proof.Plain

end
-- ==== Proof.Arrays.lean ====
/- The kernel's arrays over the reals: its blocks of the arguments, and its two results after the run at the new tokens' rows
   and at every state. -/
module

public import proofs.«01_k».proof.Proof.Reference
public import Idealize.ShloMosaic.Lib.Pipeline.ValueKit
public import Idealize.ShloMosaic.Lib.Pointwise

@[expose] public section

noncomputable section

open scoped BigOperators

namespace Cert.Proof.Arrays

open Cert.KernelIdeal Cert.KernelIdeal.Gen Idealize.ShloMosaic Idealize.ShloMosaic.TcCoe Idealize.SL.Sem
open Idealize.ShloMosaic.Pipeline (Dat)
open Cert.Proof.Reals Cert.Proof.Plain

variable (m : (ℓ : Loc nD τ sig) → Buf (Elt Ideal) ℓ) (c : Dev nD)

theorem index : ∀ t : Fin cfg0.N, win0_0.index t = ![t.val, 0] ∧ win0_1.index t = ![t.val, 0] ∧ win0_2.index t = ![t.val, 0]
    ∧ win0_3.index t = ![t.val, 0] ∧ win0_4.index t = ![t.val, 0, 0, 0] ∧ win0_5.index t = ![0, 0] ∧ win0_6.index t = ![0, 0]
    ∧ win0_7.index t = ![0, 0] ∧ win0_8.index t = ![t.val, 0] ∧ win0_9.index t = ![t.val, 0, 0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0, 0, 0] ∧ win0_5.index t = ![0, 0] ∧ win0_6.index t = ![0, 0]
    ∧ win0_7.index t = ![0, 0] ∧ win0_8.index t = ![t.val, 0] ∧ win0_9.index t = ![t.val, 0, 0, 0])

section Blocks

variable (t : Fin cfg0.N) (b : Fin 32) (hb : t.val = b.val)
include hb

theorem convBlk (r : Fin 8) (j : Fin 3072) : iblk m c 0 t (ix2 r j) = m ((c.tc : Thread nD τ).loc main_arg0) (ix2 (rowOf b r) j) := by
  have h := (index t).1
  blk_ext [iblk, V_main_arg0, h, rowOf]

theorem histBlk (r : Fin 8) (j : Fin 3072) : iblk m c 1 t (ix2 r j) = m ((c.tc : Thread nD τ).loc main_arg1) (ix2 (rowOf b r) j) := by
  have h := (index t).2.1
  blk_ext [iblk, V_main_arg1, h, rowOf]

theorem smallBlk (r : Fin 8) (j : Fin 128) : iblk m c 2 t (ix2 r j) = m ((c.tc : Thread nD τ).loc main_arg2) (ix2 (rowOf b r) j) := by
  have h := (index t).2.2.1
  blk_ext [iblk, V_main_arg2, h, rowOf]

theorem gateBlk (r : Fin 8) (j : Fin 1024) : iblk m c 3 t (ix2 r j) = m ((c.tc : Thread nD τ).loc main_arg3) (ix2 (rowOf b r) j) := by
  have h := (index t).2.2.2.1
  blk_ext [iblk, V_main_arg3, h, rowOf]

theorem stateBlk (h : Fin 8) (i j : Fin 128) : iblk m c 4 t (ix4 0 h i j) = m ((c.tc : Thread nD τ).loc main_arg4) (ix4 b h i j) := by
  have h := (index t).2.2.2.2.1
  blk_ext [iblk, V_main_arg4, h]

omit hb

theorem convWBlk (i : Fin 4) (j : Fin 3072) : iblk m c 5 t (ix2 i j) = m ((c.tc : Thread nD τ).loc main_arg5) (ix2 i j) := by
  have h := (index t).2.2.2.2.2.1
  blk_ext [iblk, V_main_arg5, h]

theorem miscBlk (i : Fin 8) (j : Fin 128) : iblk m c 6 t (ix2 i j) = m ((c.tc : Thread nD τ).loc main_arg6) (ix2 i j) := by
  have h := (index t).2.2.2.2.2.2.1
  blk_ext [iblk, V_main_arg6, h]

theorem normBlk (j : Fin 128) : iblk m c 7 t (ix2 0 j) = m ((c.tc : Thread nD τ).loc main_arg7) (ix2 0 j) := by
  have h := (index t).2.2.2.2.2.2.2.1
  blk_ext [iblk, V_main_arg7, h]

end Blocks

/-! ### Reads of a head's lanes and of its state -/

theorem stateIn_apply (S : FVec Ideal S1x8x128x128 .f32) (h : Fin 8) (i j : Fin 128) : Block.stateIn S h (ix2 i j) = S (ix4 0 h i j) := by
  unfold Block.stateIn
  rw [shapeCast_self]
  refine (shapeCast_apply _ _ (ix2 i j) (ix4 0 0 i j) ?_).trans ?_
  · rewrite [Shape.rowMajor_val_two, Shape.rowMajor_val_four]
    show ((0 * 1 + 0) * 128 + i.val) * 128 + j.val = i.val * 128 + j.val
    omega
  · pointwise

theorem gateIn_apply (z : FVec Ideal S8x1024 .f32) (h : Fin 8) (r : Fin 8) (l : Fin 128) :
    Block.gateIn z h (ix2 r l) = z (ix2 r ⟨128 * h.val + l.val, by omega⟩) := by
  unfold Block.gateIn
  pointwise

theorem gated_apply (o : FVec Ideal S64x128 .f32) (w : FVec Ideal S1x128 .f32) (z : FVec Ideal S8x128 .f32) (r : Fin 8) (l : Fin 128) :
    Stages.gated o w z (ix2 r l) = gate (fun x => o (ix2 ⟨r.val, by omega⟩ x)) (w (ix2 0 l)) (z (ix2 r l)) l := by
  unfold Stages.gated Stages.silu Stages.one Stages.zero gate
  pointwise
  rw [zero_sub]

/-! ### The two results -/

section Results

variable {C H : Matrix (Fin 256) (Fin 3072) ℝ} {A : Matrix (Fin 256) (Fin 128) ℝ} {W : Matrix (Fin 4) (Fin 3072) ℝ} {M : Matrix (Fin 8) (Fin 128) ℝ}
  {St : Fin 32 → Fin 8 → Matrix (Fin 128) (Fin 128) ℝ}
variable (hC : Is (φ := .f32) (m ((c.tc : Thread nD τ).loc main_arg0)) C) (hH : Is (φ := .f32) (m ((c.tc : Thread nD τ).loc main_arg1)) H)
  (hA : Is (φ := .f32) (m ((c.tc : Thread nD τ).loc main_arg2)) A) (hS : ∀ b h i j, m ((c.tc : Thread nD τ).loc main_arg4) (ix4 b h i j) = (St b h i j : EReal))
  (hW : Is (φ := .f32) (m ((c.tc : Thread nD τ).loc main_arg5)) W) (hM : Is (φ := .f32) (m ((c.tc : Thread nD τ).loc main_arg6)) M)
include hC hH hA hS hW hM

theorem stateOut_coe (t : Fin cfg0.N) (b : Fin 32) (hb : t.val = b.val) (h : Fin 8) (i j : Fin 128) :
    Block.stateOut m c t h (ix2 i j) = (seqS C H W A M St b h 4 i j : EReal) := by
  have x0 : Is (φ := .f32) (iblk m c 0 t) (seqOf C b) := fun r j => (convBlk m c t b hb r j).trans (hC _ j)
  have x1 : Is (φ := .f32) (iblk m c 1 t) (seqOf H b) := fun r j => (histBlk m c t b hb r j).trans (hH _ j)
  have x2 : Is (φ := .f32) (iblk m c 2 t) (seqOf A b) := fun r j => (smallBlk m c t b hb r j).trans (hA _ j)
  have x5 : Is (φ := .f32) (iblk m c 5 t) W := fun r j => (convWBlk m c t r j).trans (hW r j)
  have x6 : Is (φ := .f32) (iblk m c 6 t) M := fun r j => (miscBlk m c t r j).trans (hM r j)
  have s : Is (Block.stateIn (iblk m c 4 t) h) (St b h) := fun i j => (stateIn_apply _ h i j).trans ((stateBlk m c t b hb h i j).trans (hS b h i j))
  exact Is.stateH h (Is.rowsY x0 x1 x5) x2 x6 s i j

theorem outOut_coe (t : Fin cfg0.N) (b : Fin 32) (hb : t.val = b.val) (h : Fin 8) (r : Fin 4) (l : Fin 128) :
    Block.outOut m c t h (ix2 ⟨4 + r.val, by omega⟩ l)
      = gate (fun x => ((∑ a, tokQ (seqOf C b) (seqOf H b) W h r a * seqS C H W A M St b h (r.val + 1) a x : ℝ) : EReal))
        (m ((c.tc : Thread nD τ).loc main_arg7) (ix2 0 l))
        (m ((c.tc : Thread nD τ).loc main_arg3) (ix2 (rowOf b ⟨4 + r.val, by omega⟩) ⟨128 * h.val + l.val, by omega⟩)) l := by
  have x0 : Is (φ := .f32) (iblk m c 0 t) (seqOf C b) := fun r j => (convBlk m c t b hb r j).trans (hC _ j)
  have x1 : Is (φ := .f32) (iblk m c 1 t) (seqOf H b) := fun r j => (histBlk m c t b hb r j).trans (hH _ j)
  have x2 : Is (φ := .f32) (iblk m c 2 t) (seqOf A b) := fun r j => (smallBlk m c t b hb r j).trans (hA _ j)
  have x5 : Is (φ := .f32) (iblk m c 5 t) W := fun r j => (convWBlk m c t r j).trans (hW r j)
  have x6 : Is (φ := .f32) (iblk m c 6 t) M := fun r j => (miscBlk m c t r j).trans (hM r j)
  have s : Is (Block.stateIn (iblk m c 4 t) h) (St b h) := fun i j => (stateIn_apply _ h i j).trans ((stateBlk m c t b hb h i j).trans (hS b h i j))
  unfold Block.outOut
  rw [gated_apply, gateIn_apply, gateBlk m c t b hb, normBlk]
  exact congrArg (fun o => gate o _ _ l) (funext fun x => outH_token h (Is.rowsY x0 x1 x5) x2 x6 s r _ rfl x)

omit hC hH hA hS hW hM

theorem point_lt (n : ℕ) (h : n < 32) : n < cfg0.N := by have : cfg0.N = 32 := N_0; omega

def statesArr : Buf (Elt Ideal) ((c.tc : Thread nD τ).loc main_v0_1) := fun i : S32x8x128x128.Idx =>
  (outsAt0 m c ⟨(i 0).val, point_lt _ (i 0).isLt⟩).2 (ix4 0 (i 1) (i 2) (i 3))

def rowsArr : Buf (Elt Ideal) ((c.tc : Thread nD τ).loc main_v0_0) := fun i : S256x1024.Idx =>
  (outsAt0 m c ⟨(i 0).val / 8, point_lt _ (Nat.div_lt_of_lt_mul (i 0).isLt)⟩).1 (ix2 ⟨(i 0).val % 8, Nat.mod_lt _ (by decide)⟩ (i 1))

theorem same {ι κ α : Type} (f : ι → κ → α) {a b : ι} {y z : κ} (ha : a = b) (hy : y = z) : f a y = f b z := by rw [ha, hy]

theorem states_eq : (dats m 0 c).arrAt 9 cfg0.N = statesArr m c := by
  refine (dats m 0 c).arrAt_eq_of_covers 9 _ (by decide +kernel) fun t hf y => ?_
  have h := (index t).2.2.2.2.2.2.2.2.2
  have y0 : (y 0).val < 1 := (y 0).isLt
  blk_simp [h]
  rw [after0_9]
  unfold statesArr
  refine same (fun t => (outsAt0 m c t).2) (Fin.ext ?_) (funext fun a => Fin.ext ?_)
  · blk_simp [h]
  · match a with
    | 0 => show (y 0).val = 0; omega
    | 1 => show (y 1).val = ((win0_9.blk t).view.emb y 1).val; blk_simp [h]
    | 2 => show (y 2).val = ((win0_9.blk t).view.emb y 2).val; blk_simp [h]
    | 3 => show (y 3).val = ((win0_9.blk t).view.emb y 3).val; blk_simp [h]

theorem rows_eq : (dats m 0 c).arrAt 8 cfg0.N = rowsArr m c := by
  refine (dats m 0 c).arrAt_eq_of_covers 8 _ (by decide +kernel) fun t hf y => ?_
  have h := (index t).2.2.2.2.2.2.2.2.1
  have y0 : (y 0).val < 8 := (y 0).isLt
  have e0 : ((win0_8.blk t).view.emb y 0).val = t.val * 8 + (y 0).val := by blk_simp [h]
  have e1 : ((win0_8.blk t).view.emb y 1).val = (y 1).val := by blk_simp [h]
  blk_simp [h]
  rw [after0_8]
  unfold rowsArr
  refine same (fun t => (outsAt0 m c t).1) (Fin.ext ?_) (funext fun a => Fin.ext ?_)
  · show t.val = ((win0_8.blk t).view.emb y 0).val / 8
    rw [e0]; omega
  · match a with
    | 0 => show (y 0).val = ((win0_8.blk t).view.emb y 0).val % 8
           rw [e0]; omega
    | 1 => show (y 1).val = ((win0_8.blk t).view.emb y 1).val
           exact e1.symm

include hC hH hA hS hW hM

/-- The states: the kernel's array is the reference's. -/
theorem states_agree (i : S32x8x128x128.Idx) : Cert.ReferenceIdeal.Read.val_main_v186 (F := Ideal) (m ((c.tc : Thread nD τ).loc main_arg0))
    (m ((c.tc : Thread nD τ).loc main_arg1)) (m ((c.tc : Thread nD τ).loc main_arg2)) (m ((c.tc : Thread nD τ).loc main_arg4))
    (m ((c.tc : Thread nD τ).loc main_arg5)) (m ((c.tc : Thread nD τ).loc main_arg6)) i = statesArr m c i := by
  have hi : i = ix4 (i 0) (i 1) (i 2) (i 3) := funext fun a => match a with | 0 => rfl | 1 => rfl | 2 => rfl | 3 => rfl
  unfold statesArr
  rw [Block.state_block]
  refine (congrArg _ hi).trans ((state4 hC hH hA hS hW hM (i 0) (i 1) (i 2) (i 3)).trans ?_)
  exact (stateOut_coe m c hC hH hA hS hW hM _ (i 0) rfl (i 1) (i 2) (i 3)).symm

/-- The new tokens' rows: the kernel's array is the reference's. -/
theorem rows_agree (b : Fin 32) (r : Fin 4) (h : Fin 8) (l : Fin 128) (i : S256x1024.Idx) (h0 : (i 0).val = 8 * b.val + (4 + r.val))
    (h1 : (i 1).val = 128 * h.val + l.val) : Cert.ReferenceIdeal.Read.val_main_v212 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) i = rowsArr m c i := by
  have hi : i = ix2 (i 0) (i 1) := funext fun a => match a with | 0 => rfl | 1 => rfl
  have i0 : i 0 = rowOf b ⟨4 + r.val, by omega⟩ := Fin.ext h0
  have i1 : i 1 = ⟨128 * h.val + l.val, by omega⟩ := Fin.ext h1
  unfold rowsArr
  rw [Block.out_block m c _ _ h l h1]
  refine (congrArg _ hi).trans ((result _ _ _ _ _ _ _ _ b r h l (i 0) h0 (i 1) h1).trans ?_)
  rw [show (fun x => Cert.ReferenceIdeal.Read.val_main_v192 (F := Ideal) (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))
    (m ((c.tc : Thread nD τ).loc main_arg6)) (ix4 b r h x)) = _ from funext fun x => reads hC hH hA hS hW hM b r h x]
  refine (congrArg (fun z => gate _ _ z l) (congrArg (m ((c.tc : Thread nD τ).loc main_arg3)) (congrArg₂ ix2 i0 i1))).trans ?_
  refine (outOut_coe m c hC hH hA hS hW hM ⟨b.val, point_lt _ b.isLt⟩ b rfl h r l).symm.trans ?_
  refine same (fun t => Block.outOut m c t h) (Fin.ext ?_) (congrArg (fun p => ix2 p l) (Fin.ext ?_))
  · show b.val = (i 0).val / 8; rw [h0]; omega
  · show 4 + r.val = (i 0).val % 8; rw [h0]; omega

end Results

end Cert.Proof.Arrays

end
-- ==== Proof.Hidden.lean ====
/- The input projection, read at a row and a column: the normalized row, its product with a column of the weight, and the
   normalized indexer key, first of the reference and then of one block of the kernel. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent
public import Idealize.ShloMosaic.Lib.Pipeline.ValueKit
public import Idealize.ShloMosaic.Lib.Pointwise
public import Idealize.ShloMosaic.Lib.StableHlo.ReadAt
public import Idealize.ShloMosaic.Lib.IdealHost
public import Idealize.ShloMosaic.Lib.KernelVsHost

@[expose] public section

noncomputable section

open scoped BigOperators

namespace Cert.Proof.InProj

open Cert.Kernel2Ideal Cert.Kernel2Ideal.Gen Idealize.ShloMosaic Idealize.ShloMosaic.TcCoe Idealize.SL.Sem

/-- The small constant under both square roots. -/
def eps : EReal := Ideal.ofBits .f32 0x358637BD#32

/-- One entry of a row divided by its root mean square, then scaled and shifted. -/
def hidden (x nw sc sh : Fin 1024 → EReal) (k : Fin 1024) : EReal :=
  x k * Ideal.rsqrt (Ideal.div (∑ l, x l * x l) (Ideal.ofBits .f32 0x44800000#32) + eps) * nw k * (1 + sc k) + sh k

/-- A row of 64 less its mean, divided by its deviation, then scaled and shifted. -/
def centred (z : Fin 64 → EReal) (i : Fin 64) : EReal := z i - Ideal.div (∑ l, z l) (Ideal.ofBits .f32 0x42800000#32)

def normal (z w b : Fin 64 → EReal) (i : Fin 64) : EReal :=
  centred z i * Ideal.rsqrt (Ideal.div (∑ l, centred z l * centred z l) (Ideal.ofBits .f32 0x42800000#32) + eps) * w i + b i

def logistic (x : EReal) : EReal := Ideal.div 1 (1 + Ideal.exp (-x))

/-! ### The reference -/

section Reference

open Cert.Reference2Ideal.Read

variable (x0 : FVec Ideal S1x16384x1024 .f32) (x1 x2 x3 : FVec Ideal S1x1024 .f32) (x4 : FVec Ideal S1x1024x9816 .f32) (x5 x6 : FVec Ideal S1x64 .f32)

def zRow (p : Fin 16384) (j : Fin 9816) : EReal :=
  ∑ k, hidden (fun l => x0 (ix3 0 p l)) (fun l => x3 (ix2 0 l)) (fun l => x2 (ix2 0 l)) (fun l => x1 (ix2 0 l)) k * x4 (ix3 0 k j)

theorem hidden_apply (p : Fin 16384) (k : Fin 1024) : val_main_v21 (F := Ideal) x0 x1 x2 x3 (ix3 0 p k)
    = hidden (fun l => x0 (ix3 0 p l)) (fun l => x3 (ix2 0 l)) (fun l => x2 (ix2 0 l)) (fun l => x1 (ix2 0 l)) k := by
  unfold val_main_v21 val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2 hidden eps
  pointwise

theorem z_apply (p : Fin 16384) (j : Fin 9816) : val_main_v24 (F := Ideal) x0 x1 x2 x3 x4 (ix2 p j) = zRow x0 x1 x2 x3 x4 p j := by
  have e : val_main_v24 (F := Ideal) x0 x1 x2 x3 x4 (ix2 p j) = ∑ k, val_main_v21 (F := Ideal) x0 x1 x2 x3 (ix3 0 p k) * x4 (ix3 0 k j) := by
    unfold val_main_v24 val_main_v23 val_main_v22
    generalize val_main_v21 (F := Ideal) x0 x1 x2 x3 = h
    pointwise
  rw [e]
  unfold zRow
  simp only [hidden_apply]

variable (p : Fin 16384)

section Parts

variable (q : Fin 9816)

theorem conv_apply (j : Fin 3072) (hq : q.val = j.val) : val_main_v25 (F := Ideal) x0 x1 x2 x3 x4 (ix2 p j) = zRow x0 x1 x2 x3 x4 p q := by
  rw [← z_apply]
  unfold val_main_v25
  generalize val_main_v24 (F := Ideal) x0 x1 x2 x3 x4 = z
  pointwise
  exact congrArg (fun q => z (ix2 p q)) (Fin.ext hq.symm)

theorem gz_apply (j : Fin 1024) (hq : q.val = 3072 + j.val) : val_main_v26 (F := Ideal) x0 x1 x2 x3 x4 (ix2 p j) = zRow x0 x1 x2 x3 x4 p q := by
  rw [← z_apply]
  unfold val_main_v26
  generalize val_main_v24 (F := Ideal) x0 x1 x2 x3 x4 = z
  pointwise
  exact congrArg (fun q => z (ix2 p q)) (Fin.ext hq.symm)

theorem q_apply (j : Fin 1024) (hq : q.val = 4112 + j.val) :
    val_main_v65 (F := Ideal) x0 x1 x2 x3 x4 (ix2 p j) = zRow x0 x1 x2 x3 x4 p q * Ideal.ofBits .f32 0x3DB504F3#32 := by
  rw [← z_apply]
  unfold val_main_v65 val_main_v64 val_main_v63 val_main_cst_8 val_main_v29
  generalize val_main_v24 (F := Ideal) x0 x1 x2 x3 x4 = z
  pointwise
  exact congrArg (fun q => z (ix2 p q) * _) (Fin.ext hq.symm)

theorem k_apply (j : Fin 1024) (hq : q.val = 5136 + j.val) : val_main_v30 (F := Ideal) x0 x1 x2 x3 x4 (ix2 p j) = zRow x0 x1 x2 x3 x4 p q := by
  rw [← z_apply]
  unfold val_main_v30
  generalize val_main_v24 (F := Ideal) x0 x1 x2 x3 x4 = z
  pointwise
  exact congrArg (fun q => z (ix2 p q)) (Fin.ext hq.symm)

theorem v_apply (j : Fin 1024) (hq : q.val = 6160 + j.val) : val_main_v31 (F := Ideal) x0 x1 x2 x3 x4 (ix2 p j) = zRow x0 x1 x2 x3 x4 p q := by
  rw [← z_apply]
  unfold val_main_v31
  generalize val_main_v24 (F := Ideal) x0 x1 x2 x3 x4 = z
  pointwise
  exact congrArg (fun q => z (ix2 p q)) (Fin.ext hq.symm)

theorem qi_apply (j : Fin 512) (hq : q.val = 7184 + j.val) : val_main_v80 (F := Ideal) x0 x1 x2 x3 x4 (ix2 p j) = zRow x0 x1 x2 x3 x4 p q := by
  rw [← z_apply]
  unfold val_main_v80 val_main_v32
  generalize val_main_v24 (F := Ideal) x0 x1 x2 x3 x4 = z
  pointwise
  exact congrArg (fun q => z (ix2 p q)) (Fin.ext hq.symm)

theorem ga_apply (j : Fin 1024) (hq : q.val = 7768 + j.val) :
    val_main_v73 (F := Ideal) x0 x1 x2 x3 x4 (ix2 p j) = logistic (zRow x0 x1 x2 x3 x4 p q) := by
  rw [← z_apply]
  unfold val_main_v73 val_main_v72 val_main_v71 val_main_v70 val_main_v69 val_main_v68 val_main_cst_9 val_main_cst_10 val_main_v35 logistic
  generalize val_main_v24 (F := Ideal) x0 x1 x2 x3 x4 = z
  pointwise
  exact congrArg (fun q => Ideal.div 1 (1 + Ideal.exp (-z (ix2 p q)))) (Fin.ext hq.symm)

theorem gb_apply (j : Fin 1024) (hq : q.val = 8792 + j.val) :
    val_main_v79 (F := Ideal) x0 x1 x2 x3 x4 (ix2 p j) = logistic (zRow x0 x1 x2 x3 x4 p q) := by
  rw [← z_apply]
  unfold val_main_v79 val_main_v78 val_main_v77 val_main_v76 val_main_v75 val_main_v74 val_main_cst_11 val_main_cst_12 val_main_v36 logistic
  generalize val_main_v24 (F := Ideal) x0 x1 x2 x3 x4 = z
  pointwise
  exact congrArg (fun q => Ideal.div 1 (1 + Ideal.exp (-z (ix2 p q)))) (Fin.ext hq.symm)

end Parts

/-- Which column of the projection a lane of the small parts holds. -/
def Lane (j q : ℕ) : Prop := (j < 64 ∧ q = 7696 + j) ∨ (64 ≤ j ∧ j < 80 ∧ q = 4032 + j) ∨ (80 ≤ j ∧ j < 88 ∧ q = 7680 + j)

/-- The entry written where there is none. -/
theorem no_entry : FloatOps.sitofp (F := Ideal) .f32 0#32 = 0 := by
  show ((BitVec.toInt 0#32 : ℝ) : EReal) = 0
  simp

theorem small_apply (j : Fin 128) (q : Fin 9816) (hq : Lane j.val q.val) :
    val_main_v62 (F := Ideal) x0 x1 x2 x3 x4 (ix2 p j) = zRow x0 x1 x2 x3 x4 p q := by
  rw [← z_apply]
  have hj : j.val < 88 := by unfold Lane at hq; omega
  unfold val_main_v62 val_main_v61 val_main_v33 val_main_v27 val_main_v28 val_main_v34
  generalize val_main_v24 (F := Ideal) x0 x1 x2 x3 x4 = z
  pointwise
  unfold Lane at hq
  rw [dif_pos hj]
  split_ifs <;> exact congrArg (fun q => z (ix2 p q)) (Fin.ext (by simp only; omega))

theorem small_zero (j : Fin 128) (hj : 88 ≤ j.val) : val_main_v62 (F := Ideal) x0 x1 x2 x3 x4 (ix2 p j) = 0 := by
  unfold val_main_v62 val_main_call0_v0 val_main_c
  generalize val_main_v61 (F := Ideal) x0 x1 x2 x3 x4 = z
  pointwise
  rw [dif_neg (by omega)]
  exact no_entry

theorem normal_apply (i : Fin 64) (z : Fin 64 → EReal) (hz : ∀ l, val_main_v33 (F := Ideal) x0 x1 x2 x3 x4 (ix2 p l) = z l) :
    val_main_v60 (F := Ideal) x0 x1 x2 x3 x4 x5 x6 (ix2 p i) = normal z (fun l => x5 (ix2 0 l)) (fun l => x6 (ix2 0 l)) i := by
  unfold val_main_v60 val_main_v59 val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41 val_main_v40 val_main_v39 val_main_v38
    val_main_v37 val_main_cst_3 val_main_cst_4 val_main_cst_5 val_main_cst_6 val_main_cst_7 normal centred eps
  generalize val_main_v33 (F := Ideal) x0 x1 x2 x3 x4 = k at hz
  pointwise
  simp only [hz]

theorem padded_low (j : Fin 128) (i : Fin 64) (hj : j.val = i.val) :
    val_main_v82 (F := Ideal) x0 x1 x2 x3 x4 x5 x6 (ix2 p j) = val_main_v60 (F := Ideal) x0 x1 x2 x3 x4 x5 x6 (ix2 p i) := by
  unfold val_main_v82 val_main_v81
  generalize val_main_v60 (F := Ideal) x0 x1 x2 x3 x4 x5 x6 = z
  pointwise
  rw [dif_pos (by omega)]
  exact congrArg (fun q => z (ix2 p q)) (Fin.ext hj)

theorem padded_low_rest (j : Fin 128) (hj : 64 ≤ j.val) : val_main_v82 (F := Ideal) x0 x1 x2 x3 x4 x5 x6 (ix2 p j) = 0 := by
  unfold val_main_v82 val_main_v81 val_main_call1_v0 val_main_c_13
  generalize val_main_v60 (F := Ideal) x0 x1 x2 x3 x4 x5 x6 = z
  pointwise
  rw [dif_neg (by omega)]
  exact no_entry

theorem padded_high (j : Fin 128) (i : Fin 64) (hj : j.val = 64 + i.val) :
    val_main_v84 (F := Ideal) x0 x1 x2 x3 x4 x5 x6 (ix2 p j) = val_main_v60 (F := Ideal) x0 x1 x2 x3 x4 x5 x6 (ix2 p i) := by
  unfold val_main_v84 val_main_v83
  generalize val_main_v60 (F := Ideal) x0 x1 x2 x3 x4 x5 x6 = z
  pointwise
  rw [dif_pos (by omega)]
  exact congrArg (fun q => z (ix2 p q)) (Fin.ext (by simp only; omega))

theorem padded_high_rest (j : Fin 128) (hj : j.val < 64) : val_main_v84 (F := Ideal) x0 x1 x2 x3 x4 x5 x6 (ix2 p j) = 0 := by
  unfold val_main_v84 val_main_v83 val_main_call2_v0 val_main_c_14
  generalize val_main_v60 (F := Ideal) x0 x1 x2 x3 x4 x5 x6 = z
  pointwise
  rw [dif_neg (by omega)]
  exact no_entry

theorem turned (j : Fin 128) : val_main_v85 (F := Ideal) x0 x1 x2 x3 x4 (ix2 j p) = val_main_v62 (F := Ideal) x0 x1 x2 x3 x4 (ix2 p j) := by
  unfold val_main_v85
  generalize val_main_v62 (F := Ideal) x0 x1 x2 x3 x4 = z
  pointwise

theorem ki_apply (l : Fin 64) (q : Fin 9816) (hq : q.val = 7696 + l.val) : val_main_v33 (F := Ideal) x0 x1 x2 x3 x4 (ix2 p l) = zRow x0 x1 x2 x3 x4 p q := by
  rw [← z_apply]
  unfold val_main_v33
  generalize val_main_v24 (F := Ideal) x0 x1 x2 x3 x4 = z
  pointwise
  exact congrArg (fun q => z (ix2 p q)) (Fin.ext hq.symm)

end Reference

/-! ### One block of the kernel -/

section Block

variable (x0 : FVec Ideal S256x1024 .f32) (x1 x2 x3 : FVec Ideal S1x1024 .f32) (x4 : FVec Ideal S1024x9984 .bf16) (x5 : FVec Ideal S128x1024 .bf16)
  (x6 x7 : FVec Ideal S2x128 .f32)

theorem hidden_block (r : Fin 256) (k : Fin 1024) : k0_pay23 (F := Ideal) x0 x1 x2 x3 x4 x5 x6 x7 (ix2 r k)
    = hidden (fun l => x0 (ix2 r l)) (fun l => x3 (ix2 0 l)) (fun l => x2 (ix2 0 l)) (fun l => x1 (ix2 0 l)) k := by
  unfold k0_pay23 k0_pay1 hidden eps
  pointwise

end Block

/-! ### The kernel's columns -/

section Columns

variable (H : FVec Ideal S256x1024 .bf16) (W : FVec Ideal S1024x9984 .bf16) (r : Fin 256) (q : Fin 9984)

/-- A row of the block against a column of the weight. -/
def dotCol (q : Fin 9984) : EReal := ∑ k, H (ix2 r k) * W (ix2 k q)

theorem dotCol_of (u : Fin 9984) (h : u.val = q.val) : ∑ k, H (ix2 r k) * W (ix2 k u) = dotCol H W r q := by
  obtain rfl : u = q := Fin.ext h
  rfl

theorem pay2_apply (v : FVec Ideal S256x1024 .f32) (g a b : FVec Ideal S1x1024 .f32) (j : Fin 1024) (hq : j.val = q.val) :
    k0_pay2 (F := Ideal) v g a b (View.ld W r0_2) (ix2 r j) = dotCol (k0_pay1 (F := Ideal) v g a b) W r q := by
  unfold k0_pay2
  generalize k0_pay1 (F := Ideal) v g a b = H
  pointwise; exact dotCol_of H W r q _ hq

theorem pay3_apply (v : FVec Ideal S256x1024 .f32) (g a b : FVec Ideal S1x1024 .f32) (j : Fin 1024) (hq : 1024 + j.val = q.val) :
    k0_pay3 (F := Ideal) v g a b (View.ld W r0_4) (ix2 r j) = dotCol (k0_pay1 (F := Ideal) v g a b) W r q := by
  unfold k0_pay3
  generalize k0_pay1 (F := Ideal) v g a b = H
  pointwise; exact dotCol_of H W r q _ hq

theorem pay4_apply (j : Fin 1024) (hq : 2048 + j.val = q.val) : k0_pay4 (F := Ideal) H (View.ld W r0_6) (ix2 r j) = dotCol H W r q := by
  unfold k0_pay4; pointwise; exact dotCol_of H W r q _ hq

theorem pay5_apply (j : Fin 1024) (hq : 3072 + j.val = q.val) : k0_pay5 (F := Ideal) H (View.ld W r0_8) (ix2 r j) = dotCol H W r q := by
  unfold k0_pay5; pointwise; exact dotCol_of H W r q _ hq

theorem pay6_apply (j : Fin 1024) (hq : 4096 + j.val = q.val) :
    k0_pay6 (F := Ideal) H (View.ld W r0_9) (ix2 r j) = dotCol H W r q * Ideal.ofBits .f32 0x3DB504F3#32 := by
  unfold k0_pay6; pointwise; exact congrArg (· * _) (dotCol_of H W r q _ hq)

theorem pay7_apply (j : Fin 1024) (hq : 5120 + j.val = q.val) : k0_pay7 (F := Ideal) H (View.ld W r0_10) (ix2 r j) = dotCol H W r q := by
  unfold k0_pay7; pointwise; exact dotCol_of H W r q _ hq

theorem pay8_apply (j : Fin 1024) (hq : 5120 + j.val = q.val) : k0_pay8 (F := Ideal) H (View.ld W r0_10) (ix2 r j) = dotCol H W r q := by
  unfold k0_pay8 k0_pay7; pointwise; exact dotCol_of H W r q _ hq

theorem pay9_apply (j : Fin 1024) (hq : 6144 + j.val = q.val) : k0_pay9 (F := Ideal) H (View.ld W r0_11) (ix2 r j) = dotCol H W r q := by
  unfold k0_pay9; pointwise; exact dotCol_of H W r q _ hq

theorem pay10_apply (j : Fin 1024) (hq : 6144 + j.val = q.val) : k0_pay10 (F := Ideal) H (View.ld W r0_11) (ix2 r j) = dotCol H W r q := by
  unfold k0_pay10 k0_pay9; pointwise; exact dotCol_of H W r q _ hq

theorem pay11_apply (j : Fin 1024) (hq : 7168 + j.val = q.val) :
    k0_pay11 (F := Ideal) H (View.ld W r0_12) (ix2 r j) = logistic (dotCol H W r q) := by
  unfold k0_pay11 logistic; pointwise; rw [zero_sub]; exact congrArg (fun x => Ideal.div 1 (1 + Ideal.exp (-x))) (dotCol_of H W r q _ hq)

theorem pay12_apply (j : Fin 1024) (hq : 8192 + j.val = q.val) :
    k0_pay12 (F := Ideal) H (View.ld W r0_13) (ix2 r j) = logistic (dotCol H W r q) := by
  unfold k0_pay12 logistic; pointwise; rw [zero_sub]; exact congrArg (fun x => Ideal.div 1 (1 + Ideal.exp (-x))) (dotCol_of H W r q _ hq)

theorem pay13_apply (j : Fin 512) (hq : 9216 + j.val = q.val) : k0_pay13 (F := Ideal) H (View.ld W r0_14) (ix2 r j) = dotCol H W r q := by
  unfold k0_pay13; pointwise; exact dotCol_of H W r q _ hq

theorem pay14_apply (j : Fin 128) (hq : 9728 + j.val = q.val) : k0_pay14 (F := Ideal) H (View.ld W r0_16) (ix2 r j) = dotCol H W r q := by
  unfold k0_pay14; pointwise; exact dotCol_of H W r q _ hq

theorem pay16_apply (j : Fin 128) (hq : 9856 + j.val = q.val) : k0_pay16 (F := Ideal) H (View.ld W r0_20) (ix2 r j) = dotCol H W r q := by
  unfold k0_pay16; pointwise; exact dotCol_of H W r q _ hq

theorem pay15_apply (U : FVec Ideal S128x1024 .bf16) (i : Fin 128) :
    k0_pay15 (F := Ideal) H (View.ld U r0_18) (ix2 i r) = ∑ k, H (ix2 r k) * U (ix2 i k) := by
  unfold k0_pay15; pointwise
  exact Finset.sum_congr rfl fun k _ => mul_comm _ _

end Columns

/-! ### The normalized key, kept in one half of 128 lanes -/

theorem low (j : Fin 128) : IntOp.cmpi .slt (BitVec.ofNat 32 j.val) 64#32 = if j.val < 64 then 1#1 else 0#1 := by revert j; decide +kernel

theorem high (j : Fin 128) : IntOp.cmpi .sge (BitVec.ofNat 32 j.val) 64#32 = if 64 ≤ j.val then 1#1 else 0#1 := by revert j; decide +kernel

theorem pick (a b : EReal) (P : Prop) [Decidable P] : Scalar.select (if P then 1#1 else 0#1) a b = if P then a else b := by
  by_cases h : P <;> simp [h, Scalar.select]

theorem pick_zero (a b : EReal) : Scalar.select 0#1 a b = b := rfl

theorem pick_one (a b : EReal) : Scalar.select 1#1 a b = a := rfl

theorem sum_low (f : Fin 128 → EReal) : (∑ x : Fin 128, if x.val < 64 then f x else 0) = ∑ l : Fin 64, f ⟨l.val, by omega⟩ := by
  rw [Fin.sum_univ_two_halves 64 64 rfl]
  have a : ∀ l : Fin 64, (l.val < 64) = True := fun l => eq_true l.isLt
  have b : ∀ l : Fin 64, (64 + l.val < 64) = False := fun l => eq_false (by omega)
  simp only [a, b, if_true, if_false, Finset.sum_const_zero, add_zero]

theorem sum_high (f : Fin 128 → EReal) : (∑ x : Fin 128, if 64 ≤ x.val then f x else 0) = ∑ l : Fin 64, f ⟨64 + l.val, by omega⟩ := by
  rw [Fin.sum_univ_two_halves 64 64 rfl]
  have a : ∀ l : Fin 64, (64 ≤ l.val) = False := fun l => eq_false (by omega)
  have b : ∀ l : Fin 64, (64 ≤ 64 + l.val) = True := fun l => eq_true (by omega)
  simp only [a, b, if_true, if_false, Finset.sum_const_zero, zero_add]

/-- Dividing by 64 is multiplying by its reciprocal. -/
theorem div_64 (x : EReal) : Ideal.div x (Ideal.ofBits .f32 0x42800000#32) = x * Ideal.ofBits .f32 0x3C800000#32 := by
  have h : Ideal.ofBits .f32 0x42800000#32 = ((64 : ℝ) : EReal) := by simp [Ideal.ofBits, Ideal.ieee, ← EReal.coe_mul]; norm_num
  have h' : Ideal.ofBits .f32 0x3C800000#32 = ((1 / 64 : ℝ) : EReal) := by simp [Ideal.ofBits, Ideal.ieee, ← EReal.coe_mul]; norm_num
  rw [h, h', Ideal.div, if_neg (by simp), ← EReal.coe_inv]
  norm_num

section Half

variable (v : FVec Ideal S256x128 .f32) (w b : FVec Ideal S2x128 .f32) (r : Fin 256)

theorem low_half (j : Fin 128) (i : Fin 64) (hj : j.val = i.val) (z g h : Fin 64 → EReal) (hz : ∀ (l : Fin 64) (x : Fin 128), x.val = l.val → v (ix2 r x) = z l)
    (hg : w (ix2 0 j) = g i) (hh : b (ix2 0 j) = h i) :
    k0_pay19 (F := Ideal) (k0_pay17 (F := Ideal) v (View.ld w r0_21)) (k0_pay18 (F := Ideal) (View.ld b r0_21)) (ix2 r j) = normal z g h i := by
  unfold k0_pay19 k0_pay18 k0_pay17 normal centred eps
  pointwise
  have hl : j.val < 64 := by omega
  have hs : ∀ (l : Fin 64) (p), v (ix2 r (⟨l.val, p⟩ : Fin 128)) = z l := fun l p => hz l _ rfl
  simp only [low, pick, ite_self, sum_low, hs, hz i j hj, div_64, hg, hh, if_pos hl, pick_one, Fin.is_lt, if_true]

theorem low_rest (j : Fin 128) (hj : 64 ≤ j.val) (hh : b (ix2 0 j) = 0) :
    k0_pay19 (F := Ideal) (k0_pay17 (F := Ideal) v (View.ld w r0_21)) (k0_pay18 (F := Ideal) (View.ld b r0_21)) (ix2 r j) = 0 := by
  unfold k0_pay19 k0_pay18 k0_pay17
  pointwise
  have hl : ¬ j.val < 64 := by omega
  simp only [low, pick, if_neg hl, hh, pick_zero, add_zero]

theorem high_half (j : Fin 128) (i : Fin 64) (hj : j.val = 64 + i.val) (z g h : Fin 64 → EReal)
    (hz : ∀ (l : Fin 64) (x : Fin 128), x.val = 64 + l.val → v (ix2 r x) = z l) (hg : w (ix2 1 j) = g i) (hh : b (ix2 1 j) = h i) :
    k0_pay22 (F := Ideal) (iota .tc S256x128 32 [1] iota_S256x128_d1_w32) v (View.ld w r0_23) (View.ld b r0_23) (ix2 r j) = normal z g h i := by
  unfold k0_pay22 normal centred eps
  pointwise
  have hl : 64 ≤ j.val := by omega
  have hs : ∀ (l : Fin 64) (p), v (ix2 r (⟨64 + l.val, p⟩ : Fin 128)) = z l := fun l p => hz l _ rfl
  simp only [high, pick, ite_self, sum_high, hs, hz i j hj, div_64, hg, hh, if_pos hl, pick_one, Nat.le_add_right, if_true]

theorem high_rest (j : Fin 128) (hj : j.val < 64) (hh : b (ix2 1 j) = 0) :
    k0_pay22 (F := Ideal) (iota .tc S256x128 32 [1] iota_S256x128_d1_w32) v (View.ld w r0_23) (View.ld b r0_23) (ix2 r j) = 0 := by
  unfold k0_pay22
  pointwise
  have hl : ¬ 64 ≤ j.val := by omega
  simp only [high, pick, if_neg hl, hh, pick_zero, add_zero]

end Half

end Cert.Proof.InProj

end
-- ==== Proof.Columns.lean ====
/- The input projection's weight as the host rearranges it, column by column. -/
module

public import proofs.«01_k».proof.Proof.Hidden

@[expose] public section

noncomputable section

open scoped BigOperators

namespace Cert.Proof.InProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ### What the host hands to the call -/

/-- Which column of the projection's weight a column of the rearranged weight is. -/
def From (q j : ℕ) : Prop := (q < 4096 ∧ j = q) ∨ (4096 ≤ q ∧ q < 7168 ∧ j = q + 16) ∨ (7168 ≤ q ∧ q < 9216 ∧ j = q + 600)
  ∨ (9216 ≤ q ∧ q < 9792 ∧ j = q - 2032) ∨ (9792 ≤ q ∧ q < 9808 ∧ j = q - 5696) ∨ (9808 ≤ q ∧ q < 9816 ∧ j = q - 2048)
  ∨ (9920 ≤ q ∧ q < 9984 ∧ j = q - 2224)

/-- The host's values once the weight's ten pieces are cut. -/
def cut (b : Ref sig .tc) : Buf (Elt Ideal) ((c : Thread nD τ).loc b) := StableHlo.upto hostOps0 (fun b => m (c, b)) 13 (Proc.tc.devRef b)

/-- The ten pieces, in their order. -/
def pieces : List ((s : Shape) × (s.Idx → EReal)) :=
  [⟨S1024x4096, cut m c main_v1⟩, ⟨S1024x3072, cut m c main_v2⟩, ⟨S1024x2048, cut m c main_v3⟩, ⟨S1024x512, cut m c main_v4⟩,
    ⟨S1024x64, cut m c main_v5⟩, ⟨S1024x16, cut m c main_v6⟩, ⟨S1024x8, cut m c main_v7⟩, ⟨S1024x40, cut m c main_v8⟩,
    ⟨S1024x64, cut m c main_v9⟩, ⟨S1024x64, cut m c main_v10⟩]

set_option maxHeartbeats 4000000 in
theorem joined : V m c main_v12 = concatenate S1024x9984 1 (pieces m c)
    concatenates_S1024x4096_S1024x3072_S1024x2048_S1024x512_S1024x64_S1024x16_S1024x8_S1024x40_S1024x64_S1024x64_S1024x9984_d1 := by
  unfold V
  after_reads_simp
  rfl

/-- A column that falls into a piece is that piece's, whatever the ten pieces hold. -/
theorem concat_at (ps : List ((s : Shape) × (s.Idx → EReal)))
    (hs : ps.map (·.1) = [S1024x4096, S1024x3072, S1024x2048, S1024x512, S1024x64, S1024x16, S1024x8, S1024x40, S1024x64, S1024x64])
    (hc : Shape.Concatenates (ps.map (·.1)) S1024x9984 1) (k : Fin 1024) (q : Fin 9984) {w n : ℕ} (hn : n < ps.length)
    (x : (⟨2, ![1024, w]⟩ : Shape).Idx → EReal) (hx : ps[n] = ⟨⟨2, ![1024, w]⟩, x⟩) (pre : ℕ)
    (hpre : ([4096, 3072, 2048, 512, 64, 16, 8, 40, 64, 64].take n).sum = pre)
    (h : pre ≤ q.val) (h' : q.val < pre + w) : concatenate S1024x9984 1 ps hc (ix2 k q) = x (ix2 k ⟨q.val - pre, by omega⟩) := by
  have e : (ps.map (·.1)).map (fun s : Shape => if h : s.rank = S1024x9984.rank then s.size ((1 : Fin S1024x9984.rank).cast h.symm) else 0)
      = [4096, 3072, 2048, 512, 64, 16, 8, 40, 64, 64] := by rw [hs]; rfl
  exact concatenate_apply_piece (t := S1024x9984) 1 ps _ (ix2 k q) n hn (⟨2, ![1024, w]⟩ : Shape) x hx rfl pre (by rw [List.map_take, List.map_take, e, hpre]) (ix2 k ⟨q.val - pre, by omega⟩)
    (fun b hb => match b, hb with
      | 0, _ => rfl
      | 1, hb => absurd rfl hb) (show pre + (q.val - pre) = q.val by omega)

theorem joined_at (k : Fin 1024) (q : Fin 9984) {w n : ℕ} (hn : n < (pieces m c).length) (x : (⟨2, ![1024, w]⟩ : Shape).Idx → EReal)
    (hx : (pieces m c)[n] = ⟨⟨2, ![1024, w]⟩, x⟩) (pre : ℕ) (hpre : ([4096, 3072, 2048, 512, 64, 16, 8, 40, 64, 64].take n).sum = pre)
    (h : pre ≤ q.val) (h' : q.val < pre + w) : V m c main_v12 (ix2 k q) = x (ix2 k ⟨q.val - pre, by omega⟩) := by
  rw [joined]
  exact concat_at (pieces m c) rfl _ k q hn x hx pre hpre h h'

section Pieces

variable (k : Fin 1024) (j : Fin 9816)

theorem piece1 (q : Fin 4096) (h : q.val = j.val) : cut m c main_v1 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece2 (q : Fin 3072) (h : 4112 + q.val = j.val) : cut m c main_v2 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece3 (q : Fin 2048) (h : 7768 + q.val = j.val) : cut m c main_v3 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece4 (q : Fin 512) (h : 7184 + q.val = j.val) : cut m c main_v4 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece5 (q : Fin 64) (h : 7696 + q.val = j.val) : cut m c main_v5 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece6 (q : Fin 16) (h : 4096 + q.val = j.val) : cut m c main_v6 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece7 (q : Fin 8) (h : 7760 + q.val = j.val) : cut m c main_v7 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece10 (q : Fin 64) (h : 7696 + q.val = j.val) : cut m c main_v10 (ix2 k q) = m ((c.tc : Thread nD τ).loc main_arg4) (ix3 0 k j) := by
  unfold cut; after_reads_at
  exact congrArg (fun j : Fin 9816 => m ((c.tc : Thread nD τ).loc main_arg4) (ix3 0 k j)) (Fin.ext h)

theorem piece8 (q : Fin 40) : cut m c main_v8 (ix2 k q) = (0 : EReal) := by
  unfold cut; after_reads_at

theorem piece9 (q : Fin 64) : cut m c main_v9 (ix2 k q) = (0 : EReal) := by
  unfold cut; after_reads_at

theorem column (q : Fin 9984) (h : From q.val j.val) :
    V m c main_v12 (ix2 k q) = m ((c.tc : Thread nD τ).loc main_arg4) (ix3 0 k j) := by
  have hq := q.isLt
  rcases h with h | h | h | h | h | h | h
  · exact (joined_at m c k q (w := 4096) (n := 0) (by show 0 < 10; omega) _ rfl 0 (by decide) (by omega) (by omega)).trans (piece1 m c k j _ (show (q.val - 0) = _ by omega))
  · exact (joined_at m c k q (w := 3072) (n := 1) (by show 1 < 10; omega) _ rfl 4096 (by decide) (by omega) (by omega)).trans (piece2 m c k j _ (show 4112 + (q.val - 4096) = _ by omega))
  · exact (joined_at m c k q (w := 2048) (n := 2) (by show 2 < 10; omega) _ rfl 7168 (by decide) (by omega) (by omega)).trans (piece3 m c k j _ (show 7768 + (q.val - 7168) = _ by omega))
  · by_cases h9 : q.val < 9728
    · exact (joined_at m c k q (w := 512) (n := 3) (by show 3 < 10; omega) _ rfl 9216 (by decide) (by omega) (by omega)).trans (piece4 m c k j _ (show 7184 + (q.val - 9216) = _ by omega))
    · exact (joined_at m c k q (w := 64) (n := 4) (by show 4 < 10; omega) _ rfl 9728 (by decide) (by omega) (by omega)).trans (piece5 m c k j _ (show 7696 + (q.val - 9728) = _ by omega))
  · exact (joined_at m c k q (w := 16) (n := 5) (by show 5 < 10; omega) _ rfl 9792 (by decide) (by omega) (by omega)).trans (piece6 m c k j _ (show 4096 + (q.val - 9792) = _ by omega))
  · exact (joined_at m c k q (w := 8) (n := 6) (by show 6 < 10; omega) _ rfl 9808 (by decide) (by omega) (by omega)).trans (piece7 m c k j _ (show 7760 + (q.val - 9808) = _ by omega))
  · exact (joined_at m c k q (w := 64) (n := 9) (by show 9 < 10; omega) _ rfl 9920 (by decide) (by omega) (by omega)).trans (piece10 m c k j _ (show 7696 + (q.val - 9920) = _ by omega))

theorem column_zero (q : Fin 9984) (h : 9816 ≤ q.val) (h' : q.val < 9920) : V m c main_v12 (ix2 k q) = (0 : EReal) := by
  by_cases h9 : q.val < 9856
  · exact (joined_at m c k q (w := 40) (n := 7) (by show 7 < 10; omega) _ rfl 9816 (by decide) (by omega) (by omega)).trans (piece8 m c k _)
  · exact (joined_at m c k q (w := 64) (n := 8) (by show 8 < 10; omega) _ rfl 9856 (by decide) (by omega) (by omega)).trans (piece9 m c k _)

theorem turn (w : FVec Ideal S1024x9984 .bf16) (i : Fin 128) (q : Fin 9984) (h : 9728 + i.val = q.val) :
    transpose S128x1024 [1, 0] (extractStridedSlice S1024x128 ![0, 9728] w slices_S1024x9984_S1024x128_0_9728)
      transposes_S1024x128_S128x1024_1_0 (ix2 i k) = w (ix2 k q) := by
  pointwise
  exact congrArg (fun q : Fin 9984 => w (ix2 k q)) (Fin.ext h)

set_option maxHeartbeats 4000000 in
theorem turnedW (i : Fin 128) (q : Fin 9984) (h : 9728 + i.val = q.val) : V m c main_v14 (ix2 i k) = V m c main_v12 (ix2 k q) := by
  unfold V
  after_reads_simp
  exact turn k _ i q h

end Pieces

end Cert.Proof.InProj

end
-- ==== Proof.Projected.lean ====
/- The input projection's arrays after the run: each of the fifteen results is the reference's. -/
module

public import proofs.«01_k».proof.Proof.Columns

@[expose] public section

noncomputable section

open scoped BigOperators

namespace Cert.Proof.InProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ### What the host hands to the call -/

theorem normW (k : Fin 1024) : V m c main_v31 (ix2 0 k) = m ((c.tc : Thread nD τ).loc main_arg3) (ix2 0 k) := by
  unfold V; after_reads_at

theorem rowsX (i : Fin 16384) (j : Fin 1024) : V m c main_v32 (ix2 i j) = m ((c.tc : Thread nD τ).loc main_arg0) (ix3 0 i j) := by
  unfold V; after_reads_at

theorem scale0 (j : Fin 128) (i : Fin 64) (h : j.val = i.val) : V m c main_v22 (ix2 0 j) = m ((c.tc : Thread nD τ).loc main_arg5) (ix2 0 i) := by
  unfold V; after_reads_at
  rw [dif_pos (by omega)]
  after_reads_at
  exact congrArg (fun j : Fin 64 => m ((c.tc : Thread nD τ).loc main_arg5) (ix2 (0 : Fin 1) j)) (Fin.ext h : (⟨j.val, by omega⟩ : Fin 64) = i)

theorem scale1 (j : Fin 128) (i : Fin 64) (h : j.val = 64 + i.val) : V m c main_v22 (ix2 1 j) = m ((c.tc : Thread nD τ).loc main_arg5) (ix2 0 i) := by
  unfold V; after_reads_at
  rw [dif_neg (by omega)]
  after_reads_at
  exact congrArg (fun j : Fin 64 => m ((c.tc : Thread nD τ).loc main_arg5) (ix2 (0 : Fin 1) j)) (Fin.ext (show j.val - 64 = i.val by omega) : (⟨j.val - 64, by omega⟩ : Fin 64) = i)

theorem shift0 (j : Fin 128) (i : Fin 64) (h : j.val = i.val) : V m c main_v29 (ix2 0 j) = m ((c.tc : Thread nD τ).loc main_arg6) (ix2 0 i) := by
  unfold V; after_reads_at
  rw [dif_pos (by omega)]
  after_reads_at
  exact congrArg (fun j : Fin 64 => m ((c.tc : Thread nD τ).loc main_arg6) (ix2 (0 : Fin 1) j)) (Fin.ext h : (⟨j.val, by omega⟩ : Fin 64) = i)

theorem shift1 (j : Fin 128) (i : Fin 64) (h : j.val = 64 + i.val) : V m c main_v29 (ix2 1 j) = m ((c.tc : Thread nD τ).loc main_arg6) (ix2 0 i) := by
  unfold V; after_reads_at
  rw [dif_neg (by omega)]
  after_reads_at
  exact congrArg (fun j : Fin 64 => m ((c.tc : Thread nD τ).loc main_arg6) (ix2 (0 : Fin 1) j)) (Fin.ext (show j.val - 64 = i.val by omega) : (⟨j.val - 64, by omega⟩ : Fin 64) = i)

theorem shift0_zero (j : Fin 128) (h : 64 ≤ j.val) : V m c main_v29 (ix2 0 j) = (0 : EReal) := by
  unfold V; after_reads_at
  rw [dif_neg (by omega)]
  after_reads_at

theorem shift1_zero (j : Fin 128) (h : j.val < 64) : V m c main_v29 (ix2 1 j) = (0 : EReal) := by
  unfold V; after_reads_at
  rw [dif_pos (by omega)]
  after_reads_at

/-! ### The blocks -/

theorem index_rows : ∀ t : Fin cfg0.N, win0_0.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] ∧ win0_21.index t = ![t.val, 0]
    ∧ win0_22.index t = ![0, t.val] :=
  (by decide +kernel : ∀ t : Fin grid0.N, win0_0.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] ∧ win0_21.index t = ![t.val, 0]
    ∧ win0_22.index t = ![0, t.val])

theorem index_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0])

section Blocks

variable (t : Fin cfg0.N) (r : Fin 256) (p : Fin 16384) (hp : p.val = t.val * 256 + r.val)

include hp in
theorem xBlk (k : Fin 1024) : iblk m c 0 t (ix2 r k) = m ((c.tc : Thread nD τ).loc main_arg0) (ix3 0 p k) := by
  have h := (index_rows t).1
  refine Eq.trans ?_ (rowsX m c p k)
  blk_ext [iblk, h, hp]

theorem scBlk (k : Fin 1024) : iblk m c 1 t (ix2 0 k) = m ((c.tc : Thread nD τ).loc main_arg1) (ix2 0 k) := by
  have h := (index_whole t).1
  blk_ext [iblk, V_main_arg1, h]

theorem shBlk (k : Fin 1024) : iblk m c 2 t (ix2 0 k) = m ((c.tc : Thread nD τ).loc main_arg2) (ix2 0 k) := by
  have h := (index_whole t).2.1
  blk_ext [iblk, V_main_arg2, h]

theorem nwBlk (k : Fin 1024) : iblk m c 3 t (ix2 0 k) = m ((c.tc : Thread nD τ).loc main_arg3) (ix2 0 k) := by
  have h := (index_whole t).2.2.1
  refine Eq.trans ?_ (normW m c k)
  blk_ext [iblk, h]

theorem wBlk (k : Fin 1024) (q : Fin 9984) : iblk m c 4 t (ix2 k q) = V m c main_v12 (ix2 k q) := by
  have h := (index_whole t).2.2.2.1
  blk_ext [iblk, h]

theorem uBlk (i : Fin 128) (k : Fin 1024) : iblk m c 5 t (ix2 i k) = V m c main_v14 (ix2 i k) := by
  have h := (index_whole t).2.2.2.2.1
  blk_ext [iblk, h]

theorem gBlk (i : Fin 2) (j : Fin 128) : iblk m c 6 t (ix2 i j) = V m c main_v22 (ix2 i j) := by
  have h := (index_whole t).2.2.2.2.2.1
  blk_ext [iblk, h]

theorem bBlk (i : Fin 2) (j : Fin 128) : iblk m c 7 t (ix2 i j) = V m c main_v29 (ix2 i j) := by
  have h := (index_whole t).2.2.2.2.2.2
  blk_ext [iblk, h]

/-- The normed and modulated rows of a block. -/
def H : FVec Ideal S256x1024 .bf16 := k0_pay23 (F := Ideal) (iblk m c 0 t) (iblk m c 1 t) (iblk m c 2 t) (iblk m c 3 t) (iblk m c 4 t) (iblk m c 5 t)
  (iblk m c 6 t) (iblk m c 7 t)

/-- The reference's projected rows, of the kernel's own arguments. -/
def Z (p : Fin 16384) (j : Fin 9816) : EReal := zRow (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) p j

include hp in
theorem H_apply (k : Fin 1024) : H m c t (ix2 r k) = hidden (fun l => m ((c.tc : Thread nD τ).loc main_arg0) (ix3 0 p l))
    (fun l => m ((c.tc : Thread nD τ).loc main_arg3) (ix2 0 l)) (fun l => m ((c.tc : Thread nD τ).loc main_arg2) (ix2 0 l))
    (fun l => m ((c.tc : Thread nD τ).loc main_arg1) (ix2 0 l)) k := by
  refine (hidden_block _ _ _ _ _ _ _ _ r k).trans ?_
  simp only [xBlk m c t r p hp, scBlk m c t, shBlk m c t, nwBlk m c t]

include hp in
theorem zcol (q : Fin 9984) (j : Fin 9816) (h : From q.val j.val) : dotCol (H m c t) (iblk m c 4 t) r q = Z m c p j := by
  unfold dotCol Z zRow
  refine Finset.sum_congr rfl fun k _ => ?_
  rw [H_apply m c t r p hp k, wBlk m c t k q, column m c k j q h]

theorem zcol_zero (q : Fin 9984) (h : 9816 ≤ q.val) (h' : q.val < 9920) : dotCol (H m c t) (iblk m c 4 t) r q = 0 :=
  Finset.sum_eq_zero fun k _ => by rw [wBlk m c t k q, column_zero m c k q h h', mul_zero]

theorem zturn (i : Fin 128) (q : Fin 9984) (h : 9728 + i.val = q.val) :
    (∑ k, H m c t (ix2 r k) * (iblk m c 5 t : FVec Ideal S128x1024 .bf16) (ix2 i k)) = dotCol (H m c t) (iblk m c 4 t) r q :=
  Finset.sum_congr rfl fun k _ => by rw [uBlk m c t i k, turnedW m c k i q h, wBlk m c t k q]

end Blocks

/-- Where a block's entry lies in an array of as many columns. -/
theorem rows_of {N : ℕ} (t : Fin cfg0.N) (y : (⟨2, ![256, N]⟩ : Shape).Idx) (e : (⟨2, ![16384, N]⟩ : Shape).Idx)
    (e0 : (e 0).val = t.val * 256 + (y 0).val) (e1 : (e 1).val = (y 1).val) :
    ∃ (r : Fin 256) (p : Fin 16384) (j : Fin N), p.val = t.val * 256 + r.val ∧ y = ix2 r j ∧ e = ix2 p j :=
  ⟨y 0, e 0, y 1, e0, funext fun a => match a with | 0 => rfl | 1 => rfl, funext fun a => match a with | 0 => rfl | 1 => Fin.ext e1⟩

/-! ### The results -/

section Targets

open Cert.Reference2Ideal.Read

def conv : Buf (Elt Ideal) ((c.tc : Thread nD τ).loc main_v33_0) := val_main_v25 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def gz : Buf (Elt Ideal) ((c.tc : Thread nD τ).loc main_v33_1) := val_main_v26 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def q : Buf (Elt Ideal) ((c.tc : Thread nD τ).loc main_v33_2) := val_main_v65 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def kk : Buf (Elt Ideal) ((c.tc : Thread nD τ).loc main_v33_3) := val_main_v30 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def vv : Buf (Elt Ideal) ((c.tc : Thread nD τ).loc main_v33_4) := val_main_v31 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def kHalf : Buf (Elt Ideal) ((c.tc : Thread nD τ).loc main_v33_5) := val_main_v66 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def vHalf : Buf (Elt Ideal) ((c.tc : Thread nD τ).loc main_v33_6) := val_main_v67 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def ga : Buf (Elt Ideal) ((c.tc : Thread nD τ).loc main_v33_7) := val_main_v73 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def gb : Buf (Elt Ideal) ((c.tc : Thread nD τ).loc main_v33_8) := val_main_v79 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def qi : Buf (Elt Ideal) ((c.tc : Thread nD τ).loc main_v33_9) := val_main_v80 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def small : Buf (Elt Ideal) ((c.tc : Thread nD τ).loc main_v33_10) := val_main_v62 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

def ki : Buf (Elt Ideal) ((c.tc : Thread nD τ).loc main_v33_11) := val_main_v60 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))

def kiLow : Buf (Elt Ideal) ((c.tc : Thread nD τ).loc main_v33_12) := val_main_v82 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))

def kiHigh : Buf (Elt Ideal) ((c.tc : Thread nD τ).loc main_v33_13) := val_main_v84 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))

def turnedSmall : Buf (Elt Ideal) ((c.tc : Thread nD τ).loc main_v33_14) := val_main_v85 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4))

end Targets

theorem lane_of (j : ℕ) (h : j < 88) : ∃ q : Fin 9816, Lane j q.val ∧ From (9728 + j) q.val := by
  unfold Lane From
  by_cases h6 : j < 64
  · exact ⟨⟨7696 + j, by omega⟩, by dsimp only; omega, by dsimp only; omega⟩
  · by_cases h7 : j < 80
    · exact ⟨⟨4032 + j, by omega⟩, by dsimp only; omega, by dsimp only; omega⟩
    · exact ⟨⟨7680 + j, by omega⟩, by dsimp only; omega, by dsimp only; omega⟩

theorem ki_normal (p : Fin 16384) (i : Fin 64) : ki m c (ix2 p i) = normal (fun l => Z m c p ⟨7696 + l.val, by omega⟩)
    (fun l => m ((c.tc : Thread nD τ).loc main_arg5) (ix2 0 l)) (fun l => m ((c.tc : Thread nD τ).loc main_arg6) (ix2 0 l)) i :=
  normal_apply _ _ _ _ _ _ _ p i _ fun l => ki_apply _ _ _ _ _ p l ⟨7696 + l.val, by omega⟩ rfl

section At

variable (t : Fin cfg0.N) (r : Fin 256) (p : Fin 16384) (hp : p.val = t.val * 256 + r.val)
include hp

theorem conv_at (j : Fin 3072) : out0_8 (F := Ideal) (iblk m c 0 t) (iblk m c 1 t) (iblk m c 2 t) (iblk m c 3 t) (iblk m c 4 t) (iblk m c 5 t)
    (iblk m c 6 t) (iblk m c 7 t) (ix2 r j) = conv m c (ix2 p j) := by
  refine Eq.trans ?_ ((zcol m c t r p hp ⟨j.val, by omega⟩ ⟨j.val, by omega⟩ (show From j.val j.val by unfold From; omega)).trans
    (conv_apply _ _ _ _ _ p _ j rfl).symm)
  unfold out0_8
  canon_tiles x h
  all_goals
    have hx : x = ix2 r (x 1) := funext fun a => match a with | 0 => Fin.ext h0.symm | 1 => rfl
    rw [hx]
  · exact pay4_apply (H m c t) _ r _ (x 1) h1.symm
  · exact pay3_apply _ r _ _ _ _ _ (x 1) h1.symm
  · exact pay2_apply _ r _ _ _ _ _ (x 1) h1.symm

theorem gz_at (j : Fin 1024) : out0_9 (F := Ideal) (iblk m c 0 t) (iblk m c 1 t) (iblk m c 2 t) (iblk m c 3 t) (iblk m c 4 t) (iblk m c 5 t)
    (iblk m c 6 t) (iblk m c 7 t) (ix2 r j) = gz m c (ix2 p j) := by
  unfold out0_9
  refine (congrFun (View.canon_cons_unit_lit _ _ _ (by decide)) _).trans ?_
  exact (pay5_apply (H m c t) _ r ⟨3072 + j.val, by omega⟩ j rfl).trans ((zcol m c t r p hp ⟨3072 + j.val, by omega⟩ ⟨3072 + j.val, by omega⟩ (show From (3072 + j.val) (3072 + j.val) by unfold From; omega)).trans
    (gz_apply _ _ _ _ _ p _ j rfl).symm)

theorem q_at (j : Fin 1024) : out0_10 (F := Ideal) (iblk m c 0 t) (iblk m c 1 t) (iblk m c 2 t) (iblk m c 3 t) (iblk m c 4 t) (iblk m c 5 t)
    (iblk m c 6 t) (iblk m c 7 t) (ix2 r j) = q m c (ix2 p j) := by
  unfold out0_10
  refine (congrFun (View.canon_cons_unit_lit _ _ _ (by decide)) _).trans ?_
  exact (pay6_apply (H m c t) _ r ⟨4096 + j.val, by omega⟩ j rfl).trans ((congrArg (· * Ideal.ofBits .f32 0x3DB504F3#32) (zcol m c t r p hp ⟨4096 + j.val, by omega⟩ ⟨4112 + j.val, by omega⟩ (show From (4096 + j.val) (4112 + j.val) by unfold From; omega))).trans
    (q_apply _ _ _ _ _ p _ j rfl).symm)

theorem kk_at (j : Fin 1024) : out0_11 (F := Ideal) (iblk m c 0 t) (iblk m c 1 t) (iblk m c 2 t) (iblk m c 3 t) (iblk m c 4 t) (iblk m c 5 t)
    (iblk m c 6 t) (iblk m c 7 t) (ix2 r j) = kk m c (ix2 p j) := by
  unfold out0_11
  refine (congrFun (View.canon_cons_unit_lit _ _ _ (by decide)) _).trans ?_
  exact (pay7_apply (H m c t) _ r ⟨5120 + j.val, by omega⟩ j rfl).trans ((zcol m c t r p hp ⟨5120 + j.val, by omega⟩ ⟨5136 + j.val, by omega⟩ (show From (5120 + j.val) (5136 + j.val) by unfold From; omega)).trans
    (k_apply _ _ _ _ _ p _ j rfl).symm)

theorem vv_at (j : Fin 1024) : out0_12 (F := Ideal) (iblk m c 0 t) (iblk m c 1 t) (iblk m c 2 t) (iblk m c 3 t) (iblk m c 4 t) (iblk m c 5 t)
    (iblk m c 6 t) (iblk m c 7 t) (ix2 r j) = vv m c (ix2 p j) := by
  unfold out0_12
  refine (congrFun (View.canon_cons_unit_lit _ _ _ (by decide)) _).trans ?_
  exact (pay9_apply (H m c t) _ r ⟨6144 + j.val, by omega⟩ j rfl).trans ((zcol m c t r p hp ⟨6144 + j.val, by omega⟩ ⟨6160 + j.val, by omega⟩ (show From (6144 + j.val) (6160 + j.val) by unfold From; omega)).trans
    (v_apply _ _ _ _ _ p _ j rfl).symm)

theorem kHalf_at (j : Fin 1024) : out0_13 (F := Ideal) (iblk m c 0 t) (iblk m c 1 t) (iblk m c 2 t) (iblk m c 3 t) (iblk m c 4 t) (iblk m c 5 t)
    (iblk m c 6 t) (iblk m c 7 t) (ix2 r j) = kHalf m c (ix2 p j) := by
  unfold out0_13
  refine (congrFun (View.canon_cons_unit_lit _ _ _ (by decide)) _).trans ?_
  exact (pay8_apply (H m c t) _ r ⟨5120 + j.val, by omega⟩ j rfl).trans ((zcol m c t r p hp ⟨5120 + j.val, by omega⟩ ⟨5136 + j.val, by omega⟩ (show From (5120 + j.val) (5136 + j.val) by unfold From; omega)).trans
    (k_apply _ _ _ _ _ p _ j rfl).symm)

theorem vHalf_at (j : Fin 1024) : out0_14 (F := Ideal) (iblk m c 0 t) (iblk m c 1 t) (iblk m c 2 t) (iblk m c 3 t) (iblk m c 4 t) (iblk m c 5 t)
    (iblk m c 6 t) (iblk m c 7 t) (ix2 r j) = vHalf m c (ix2 p j) := by
  unfold out0_14
  refine (congrFun (View.canon_cons_unit_lit _ _ _ (by decide)) _).trans ?_
  exact (pay10_apply (H m c t) _ r ⟨6144 + j.val, by omega⟩ j rfl).trans ((zcol m c t r p hp ⟨6144 + j.val, by omega⟩ ⟨6160 + j.val, by omega⟩ (show From (6144 + j.val) (6160 + j.val) by unfold From; omega)).trans
    (v_apply _ _ _ _ _ p _ j rfl).symm)

theorem ga_at (j : Fin 1024) : out0_15 (F := Ideal) (iblk m c 0 t) (iblk m c 1 t) (iblk m c 2 t) (iblk m c 3 t) (iblk m c 4 t) (iblk m c 5 t)
    (iblk m c 6 t) (iblk m c 7 t) (ix2 r j) = ga m c (ix2 p j) := by
  unfold out0_15
  refine (congrFun (View.canon_cons_unit_lit _ _ _ (by decide)) _).trans ?_
  exact (pay11_apply (H m c t) _ r ⟨7168 + j.val, by omega⟩ j rfl).trans ((congrArg logistic (zcol m c t r p hp ⟨7168 + j.val, by omega⟩ ⟨7768 + j.val, by omega⟩ (show From (7168 + j.val) (7768 + j.val) by unfold From; omega))).trans
    (ga_apply _ _ _ _ _ p _ j rfl).symm)

theorem gb_at (j : Fin 1024) : out0_16 (F := Ideal) (iblk m c 0 t) (iblk m c 1 t) (iblk m c 2 t) (iblk m c 3 t) (iblk m c 4 t) (iblk m c 5 t)
    (iblk m c 6 t) (iblk m c 7 t) (ix2 r j) = gb m c (ix2 p j) := by
  unfold out0_16
  refine (congrFun (View.canon_cons_unit_lit _ _ _ (by decide)) _).trans ?_
  exact (pay12_apply (H m c t) _ r ⟨8192 + j.val, by omega⟩ j rfl).trans ((congrArg logistic (zcol m c t r p hp ⟨8192 + j.val, by omega⟩ ⟨8792 + j.val, by omega⟩ (show From (8192 + j.val) (8792 + j.val) by unfold From; omega))).trans
    (gb_apply _ _ _ _ _ p _ j rfl).symm)

theorem qi_at (j : Fin 512) : out0_17 (F := Ideal) (iblk m c 0 t) (iblk m c 1 t) (iblk m c 2 t) (iblk m c 3 t) (iblk m c 4 t) (iblk m c 5 t)
    (iblk m c 6 t) (iblk m c 7 t) (ix2 r j) = qi m c (ix2 p j) := by
  unfold out0_17
  refine (congrFun (View.canon_cons_unit_lit _ _ _ (by decide)) _).trans ?_
  exact (pay13_apply (H m c t) _ r ⟨9216 + j.val, by omega⟩ j rfl).trans ((zcol m c t r p hp ⟨9216 + j.val, by omega⟩ ⟨7184 + j.val, by omega⟩ (show From (9216 + j.val) (7184 + j.val) by unfold From; omega)).trans
    (qi_apply _ _ _ _ _ p _ j rfl).symm)

/-- The small columns' lanes, held or empty. -/
theorem lanes (j : Fin 128) (u : Fin 9984) (hu : 9728 + j.val = u.val) : dotCol (H m c t) (iblk m c 4 t) r u = small m c (ix2 p j) := by
  unfold small
  by_cases h8 : j.val < 88
  · obtain ⟨q, hq, hf⟩ := lane_of j.val h8
    rw [small_apply _ _ _ _ _ p j q hq]
    exact zcol m c t r p hp u q (hu ▸ hf)
  · rw [small_zero _ _ _ _ _ p j (by omega)]
    exact zcol_zero m c t r u (by omega) (by omega)

theorem small_at (j : Fin 128) : out0_18 (F := Ideal) (iblk m c 0 t) (iblk m c 1 t) (iblk m c 2 t) (iblk m c 3 t) (iblk m c 4 t) (iblk m c 5 t)
    (iblk m c 6 t) (iblk m c 7 t) (ix2 r j) = small m c (ix2 p j) := by
  unfold out0_18
  refine (congrFun (View.canon_cons_unit_lit _ _ _ (by decide)) _).trans ?_
  exact (pay14_apply (H m c t) _ r ⟨9728 + j.val, by omega⟩ j rfl).trans (lanes m c t r p hp j _ rfl)

theorem turnedSmall_at (j : Fin 128) : out0_22 (F := Ideal) (iblk m c 0 t) (iblk m c 1 t) (iblk m c 2 t) (iblk m c 3 t) (iblk m c 4 t) (iblk m c 5 t)
    (iblk m c 6 t) (iblk m c 7 t) (ix2 j r) = turnedSmall m c (ix2 j p) := by
  unfold out0_22
  refine (congrFun (View.canon_cons_unit_lit _ _ _ (by decide)) _).trans ?_
  exact (pay15_apply (H m c t) r _ j).trans (((zturn m c t r j ⟨9728 + j.val, by omega⟩ rfl).trans (lanes m c t r p hp j _ rfl)).trans
    (turned _ _ _ _ _ p j).symm)

theorem low_at (j : Fin 128) (i : Fin 64) (hj : j.val = i.val) : k0_pay19 (F := Ideal) (k0_pay25 (F := Ideal) (iblk m c 0 t) (iblk m c 1 t) (iblk m c 2 t) (iblk m c 3 t) (iblk m c 4 t) (iblk m c 5 t)
    (iblk m c 6 t) (iblk m c 7 t))
    (k0_pay26 (F := Ideal) (iblk m c 0 t) (iblk m c 1 t) (iblk m c 2 t) (iblk m c 3 t) (iblk m c 4 t) (iblk m c 5 t)
    (iblk m c 6 t) (iblk m c 7 t)) (ix2 r j) = ki m c (ix2 p i) := by
  rw [ki_normal]
  exact low_half _ _ _ r j i hj _ _ _ (fun l x hx => (pay14_apply (H m c t) _ r ⟨9728 + x.val, by omega⟩ x rfl).trans
      (zcol m c t r p hp _ ⟨7696 + l.val, by omega⟩ (show From (9728 + x.val) (7696 + l.val) by unfold From; omega)))
    ((gBlk m c t 0 j).trans (scale0 m c j i hj)) ((bBlk m c t 0 j).trans (shift0 m c j i hj))

theorem ki_at (i : Fin 64) : out0_19 (F := Ideal) (iblk m c 0 t) (iblk m c 1 t) (iblk m c 2 t) (iblk m c 3 t) (iblk m c 4 t) (iblk m c 5 t)
    (iblk m c 6 t) (iblk m c 7 t) (ix2 r i) = ki m c (ix2 p i) := by
  unfold out0_19
  refine (congrFun (View.canon_cons_unit_lit _ _ _ (by decide)) _).trans ?_
  refine Eq.trans ?_ (low_at m c t r p hp ⟨i.val, by omega⟩ i rfl)
  unfold k0_pay21
  generalize k0_pay19 (F := Ideal) _ _ = w
  pointwise

theorem kiLow_at (j : Fin 128) : out0_20 (F := Ideal) (iblk m c 0 t) (iblk m c 1 t) (iblk m c 2 t) (iblk m c 3 t) (iblk m c 4 t) (iblk m c 5 t)
    (iblk m c 6 t) (iblk m c 7 t) (ix2 r j) = kiLow m c (ix2 p j) := by
  unfold out0_20
  refine (congrFun (View.canon_cons_unit_lit _ _ _ (by decide)) _).trans ?_
  by_cases h6 : j.val < 64
  · exact (low_at m c t r p hp j ⟨j.val, h6⟩ rfl).trans (padded_low _ _ _ _ _ _ _ p j ⟨j.val, h6⟩ rfl).symm
  · exact (low_rest _ _ _ r j (by omega) ((bBlk m c t 0 j).trans (shift0_zero m c j (by omega)))).trans
      (padded_low_rest _ _ _ _ _ _ _ p j (by omega)).symm

theorem kiHigh_at (j : Fin 128) : out0_21 (F := Ideal) (iblk m c 0 t) (iblk m c 1 t) (iblk m c 2 t) (iblk m c 3 t) (iblk m c 4 t) (iblk m c 5 t)
    (iblk m c 6 t) (iblk m c 7 t) (ix2 r j) = kiHigh m c (ix2 p j) := by
  unfold out0_21
  refine (congrFun (View.canon_cons_unit_lit _ _ _ (by decide)) _).trans ?_
  by_cases h6 : j.val < 64
  · exact (high_rest _ _ _ r j h6 ((bBlk m c t 1 j).trans (shift1_zero m c j h6))).trans
      (padded_high_rest _ _ _ _ _ _ _ p j h6).symm
  · have hj : j.val = 64 + (j.val - 64) := by omega
    refine Eq.trans ?_ ((ki_normal m c p ⟨j.val - 64, by omega⟩).symm.trans (padded_high _ _ _ _ _ _ _ p j ⟨j.val - 64, by omega⟩ hj).symm)
    exact high_half _ _ _ r j ⟨j.val - 64, by omega⟩ hj _ _ _ (fun l x hx => (pay16_apply (H m c t) _ r ⟨9856 + x.val, by omega⟩ x rfl).trans
        (zcol m c t r p hp _ ⟨7696 + l.val, by omega⟩ (show From (9856 + x.val) (7696 + l.val) by unfold From; omega)))
      ((gBlk m c t 1 j).trans (scale1 m c j _ hj)) ((bBlk m c t 1 j).trans (shift1 m c j _ hj))

end At

end Cert.Proof.InProj

end
-- ==== Proof.Projections.lean ====
/- The input projection's fifteen results after the run are the reference's. -/
module

public import proofs.«01_k».proof.Proof.Projected

@[expose] public section

noncomputable section

namespace Cert.Proof.InProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem conv_eq : (dats m 0 c).arrAt 8 cfg0.N = conv m c := by
  refine (dats m 0 c).arrAt_eq_of_covers 8 _ (by decide +kernel) fun t hf y => ?_
  have h := (index_rows t).2.1
  obtain ⟨r, p, j, hp, hy, he⟩ := rows_of t y ((win0_8.blk t).view.emb y) (by blk_simp [h]) (by blk_simp [h])
  blk_simp [h]
  rw [after0_8]
  exact ((congrArg _ hy).trans (conv_at m c t r p hp j)).trans (congrArg (conv m c) he).symm

theorem gz_eq : (dats m 0 c).arrAt 9 cfg0.N = gz m c := by
  refine (dats m 0 c).arrAt_eq_of_covers 9 _ (by decide +kernel) fun t hf y => ?_
  have h := (index_rows t).2.2.1
  obtain ⟨r, p, j, hp, hy, he⟩ := rows_of t y ((win0_9.blk t).view.emb y) (by blk_simp [h]) (by blk_simp [h])
  blk_simp [h]
  rw [after0_9]
  exact ((congrArg _ hy).trans (gz_at m c t r p hp j)).trans (congrArg (gz m c) he).symm

theorem q_eq : (dats m 0 c).arrAt 10 cfg0.N = q m c := by
  refine (dats m 0 c).arrAt_eq_of_covers 10 _ (by decide +kernel) fun t hf y => ?_
  have h := (index_rows t).2.2.2.1
  obtain ⟨r, p, j, hp, hy, he⟩ := rows_of t y ((win0_10.blk t).view.emb y) (by blk_simp [h]) (by blk_simp [h])
  blk_simp [h]
  rw [after0_10]
  exact ((congrArg _ hy).trans (q_at m c t r p hp j)).trans (congrArg (q m c) he).symm

theorem kk_eq : (dats m 0 c).arrAt 11 cfg0.N = kk m c := by
  refine (dats m 0 c).arrAt_eq_of_covers 11 _ (by decide +kernel) fun t hf y => ?_
  have h := (index_rows t).2.2.2.2.1
  obtain ⟨r, p, j, hp, hy, he⟩ := rows_of t y ((win0_11.blk t).view.emb y) (by blk_simp [h]) (by blk_simp [h])
  blk_simp [h]
  rw [after0_11]
  exact ((congrArg _ hy).trans (kk_at m c t r p hp j)).trans (congrArg (kk m c) he).symm

theorem vv_eq : (dats m 0 c).arrAt 12 cfg0.N = vv m c := by
  refine (dats m 0 c).arrAt_eq_of_covers 12 _ (by decide +kernel) fun t hf y => ?_
  have h := (index_rows t).2.2.2.2.2.1
  obtain ⟨r, p, j, hp, hy, he⟩ := rows_of t y ((win0_12.blk t).view.emb y) (by blk_simp [h]) (by blk_simp [h])
  blk_simp [h]
  rw [after0_12]
  exact ((congrArg _ hy).trans (vv_at m c t r p hp j)).trans (congrArg (vv m c) he).symm

theorem kHalf_eq : (dats m 0 c).arrAt 13 cfg0.N = kHalf m c := by
  refine (dats m 0 c).arrAt_eq_of_covers 13 _ (by decide +kernel) fun t hf y => ?_
  have h := (index_rows t).2.2.2.2.2.2.1
  obtain ⟨r, p, j, hp, hy, he⟩ := rows_of t y ((win0_13.blk t).view.emb y) (by blk_simp [h]) (by blk_simp [h])
  blk_simp [h]
  rw [after0_13]
  exact ((congrArg _ hy).trans (kHalf_at m c t r p hp j)).trans (congrArg (kHalf m c) he).symm

theorem vHalf_eq : (dats m 0 c).arrAt 14 cfg0.N = vHalf m c := by
  refine (dats m 0 c).arrAt_eq_of_covers 14 _ (by decide +kernel) fun t hf y => ?_
  have h := (index_rows t).2.2.2.2.2.2.2.1
  obtain ⟨r, p, j, hp, hy, he⟩ := rows_of t y ((win0_14.blk t).view.emb y) (by blk_simp [h]) (by blk_simp [h])
  blk_simp [h]
  rw [after0_14]
  exact ((congrArg _ hy).trans (vHalf_at m c t r p hp j)).trans (congrArg (vHalf m c) he).symm

theorem ga_eq : (dats m 0 c).arrAt 15 cfg0.N = ga m c := by
  refine (dats m 0 c).arrAt_eq_of_covers 15 _ (by decide +kernel) fun t hf y => ?_
  have h := (index_rows t).2.2.2.2.2.2.2.2.1
  obtain ⟨r, p, j, hp, hy, he⟩ := rows_of t y ((win0_15.blk t).view.emb y) (by blk_simp [h]) (by blk_simp [h])
  blk_simp [h]
  rw [after0_15]
  exact ((congrArg _ hy).trans (ga_at m c t r p hp j)).trans (congrArg (ga m c) he).symm

theorem gb_eq : (dats m 0 c).arrAt 16 cfg0.N = gb m c := by
  refine (dats m 0 c).arrAt_eq_of_covers 16 _ (by decide +kernel) fun t hf y => ?_
  have h := (index_rows t).2.2.2.2.2.2.2.2.2.1
  obtain ⟨r, p, j, hp, hy, he⟩ := rows_of t y ((win0_16.blk t).view.emb y) (by blk_simp [h]) (by blk_simp [h])
  blk_simp [h]
  rw [after0_16]
  exact ((congrArg _ hy).trans (gb_at m c t r p hp j)).trans (congrArg (gb m c) he).symm

theorem qi_eq : (dats m 0 c).arrAt 17 cfg0.N = qi m c := by
  refine (dats m 0 c).arrAt_eq_of_covers 17 _ (by decide +kernel) fun t hf y => ?_
  have h := (index_rows t).2.2.2.2.2.2.2.2.2.2.1
  obtain ⟨r, p, j, hp, hy, he⟩ := rows_of t y ((win0_17.blk t).view.emb y) (by blk_simp [h]) (by blk_simp [h])
  blk_simp [h]
  rw [after0_17]
  exact ((congrArg _ hy).trans (qi_at m c t r p hp j)).trans (congrArg (qi m c) he).symm

theorem small_eq : (dats m 0 c).arrAt 18 cfg0.N = small m c := by
  refine (dats m 0 c).arrAt_eq_of_covers 18 _ (by decide +kernel) fun t hf y => ?_
  have h := (index_rows t).2.2.2.2.2.2.2.2.2.2.2.1
  obtain ⟨r, p, j, hp, hy, he⟩ := rows_of t y ((win0_18.blk t).view.emb y) (by blk_simp [h]) (by blk_simp [h])
  blk_simp [h]
  rw [after0_18]
  exact ((congrArg _ hy).trans (small_at m c t r p hp j)).trans (congrArg (small m c) he).symm

theorem ki_eq : (dats m 0 c).arrAt 19 cfg0.N = ki m c := by
  refine (dats m 0 c).arrAt_eq_of_covers 19 _ (by decide +kernel) fun t hf y => ?_
  have h := (index_rows t).2.2.2.2.2.2.2.2.2.2.2.2.1
  obtain ⟨r, p, j, hp, hy, he⟩ := rows_of t y ((win0_19.blk t).view.emb y) (by blk_simp [h]) (by blk_simp [h])
  blk_simp [h]
  rw [after0_19]
  exact ((congrArg _ hy).trans (ki_at m c t r p hp j)).trans (congrArg (ki m c) he).symm

theorem kiLow_eq : (dats m 0 c).arrAt 20 cfg0.N = kiLow m c := by
  refine (dats m 0 c).arrAt_eq_of_covers 20 _ (by decide +kernel) fun t hf y => ?_
  have h := (index_rows t).2.2.2.2.2.2.2.2.2.2.2.2.2.1
  obtain ⟨r, p, j, hp, hy, he⟩ := rows_of t y ((win0_20.blk t).view.emb y) (by blk_simp [h]) (by blk_simp [h])
  blk_simp [h]
  rw [after0_20]
  exact ((congrArg _ hy).trans (kiLow_at m c t r p hp j)).trans (congrArg (kiLow m c) he).symm

theorem kiHigh_eq : (dats m 0 c).arrAt 21 cfg0.N = kiHigh m c := by
  refine (dats m 0 c).arrAt_eq_of_covers 21 _ (by decide +kernel) fun t hf y => ?_
  have h := (index_rows t).2.2.2.2.2.2.2.2.2.2.2.2.2.2.1
  obtain ⟨r, p, j, hp, hy, he⟩ := rows_of t y ((win0_21.blk t).view.emb y) (by blk_simp [h]) (by blk_simp [h])
  blk_simp [h]
  rw [after0_21]
  exact ((congrArg _ hy).trans (kiHigh_at m c t r p hp j)).trans (congrArg (kiHigh m c) he).symm

theorem turnedSmall_eq : (dats m 0 c).arrAt 22 cfg0.N = turnedSmall m c := by
  refine (dats m 0 c).arrAt_eq_of_covers 22 _ (by decide +kernel) fun t hf y => ?_
  have h := (index_rows t).2.2.2.2.2.2.2.2.2.2.2.2.2.2.2
  have e0 : ((win0_22.blk t).view.emb y 0).val = (y 0).val := by blk_simp [h]
  have e1 : ((win0_22.blk t).view.emb y 1).val = t.val * 256 + (y 1).val := by blk_simp [h]
  have hy : y = ix2 (y 0) (y 1) := funext fun a => match a with | 0 => rfl | 1 => rfl
  have he : (win0_22.blk t).view.emb y = ix2 (y 0) ((win0_22.blk t).view.emb y 1) := funext fun a => match a with | 0 => Fin.ext e0 | 1 => rfl
  blk_simp [h]
  rw [after0_22]
  exact ((congrArg _ hy).trans (turnedSmall_at m c t (y 1) _ e1 (y 0))).trans (congrArg (turnedSmall m c) he).symm

theorem frame_reference : Cert.quiescent_Reference2Ideal (hReference2Ideal := Cert.Reference2Ideal.Gen.facts) := fun m ρ _ =>
  (θ_run Cert.Reference2Ideal.defs _ _).mono (fun r h => ⟨fun c => (h c).2.2.2.2.2.2.2.2.2.2.2.2.2.2.2, sem_eq_zero_of_no_sems (by decide) r.2⟩)
    (Cert.Reference2Ideal.Value.run (F := Ideal) m ρ)

set_option maxHeartbeats 4000000 in
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => conv m c, fun c => gz m c, fun c => q m c, fun c => kk m c, fun c => vv m c, fun c => kHalf m c, fun c => vHalf m c,
      fun c => ga m c, fun c => gb m c, fun c => qi m c, fun c => small m c, fun c => ki m c, fun c => kiLow m c, fun c => kiHigh m c,
      fun c => turnedSmall m c, ?_, ?_⟩
  · refine (θ_run Cert.Kernel2Ideal.defs _ _).mono (fun _ h c => ?_) (Cert.Kernel2Ideal.Value.run_blocks (F := Ideal) m ρ)
    obtain ⟨h8, h9, h10, h11, h12, h13, h14, h15, h16, h17, h18, h19, h20, h21, h22, hargs⟩ := h c
    exact ⟨h8.trans (conv_eq m c), h9.trans (gz_eq m c), h10.trans (q_eq m c), h11.trans (kk_eq m c), h12.trans (vv_eq m c),
      h13.trans (kHalf_eq m c), h14.trans (vHalf_eq m c), h15.trans (ga_eq m c), h16.trans (gb_eq m c), h17.trans (qi_eq m c),
      h18.trans (small_eq m c), h19.trans (ki_eq m c), h20.trans (kiLow_eq m c), h21.trans (kiHigh_eq m c), h22.trans (turnedSmall_eq m c),
      hargs⟩
  · refine (θ_run Cert.Reference2Ideal.defs _ _).mono (fun _ h c => ?_) (Cert.Reference2Ideal.Value.run (F := Ideal) m' ρ')
    obtain ⟨e0, e1, e2, e3, e4, e5, e6⟩ := hagree c
    obtain ⟨h8, h9, h10, h11, h12, h13, h14, h15, h16, h17, h18, h19, h20, h21, h22, hargs⟩ := h c
    refine ⟨(h8.trans (Cert.Reference2Ideal.Read.val_main_v25_eq _ _ _ _ _)).trans ?_,
      (h9.trans (Cert.Reference2Ideal.Read.val_main_v26_eq _ _ _ _ _)).trans ?_,
      (h10.trans (Cert.Reference2Ideal.Read.val_main_v65_eq _ _ _ _ _)).trans ?_,
      (h11.trans (Cert.Reference2Ideal.Read.val_main_v30_eq _ _ _ _ _)).trans ?_,
      (h12.trans (Cert.Reference2Ideal.Read.val_main_v31_eq _ _ _ _ _)).trans ?_,
      (h13.trans (Cert.Reference2Ideal.Read.val_main_v66_eq _ _ _ _ _)).trans ?_,
      (h14.trans (Cert.Reference2Ideal.Read.val_main_v67_eq _ _ _ _ _)).trans ?_,
      (h15.trans (Cert.Reference2Ideal.Read.val_main_v73_eq _ _ _ _ _)).trans ?_,
      (h16.trans (Cert.Reference2Ideal.Read.val_main_v79_eq _ _ _ _ _)).trans ?_,
      (h17.trans (Cert.Reference2Ideal.Read.val_main_v80_eq _ _ _ _ _)).trans ?_,
      (h18.trans (Cert.Reference2Ideal.Read.val_main_v62_eq _ _)).trans ?_, (h19.trans (Cert.Reference2Ideal.Read.val_main_v60_eq _ _)).trans ?_,
      (h20.trans (Cert.Reference2Ideal.Read.val_main_v82_eq _ _)).trans ?_, (h21.trans (Cert.Reference2Ideal.Read.val_main_v84_eq _ _)).trans ?_,
      (h22.trans (Cert.Reference2Ideal.Read.val_main_v85_eq _ _)).trans ?_, hargs⟩
    all_goals
      rw [e0, e1, e2, e3, e4]
      try rw [e5, e6]
      rfl

end Cert.Proof.InProj

end
-- ==== Proof.FfnBlock.lean ====
/- The feed-forward call's block: what one grid point computes from the rows it is given and the buffer it carries, as the same
   step made for each of the eleven groups of columns. -/
module

public import proofs.«01_k».proof.Defs
public import proofs.«01_k».proof.Proof.Gen.Kernel3Ideal.Value
public import Idealize.ShloMosaic.Lib.Pipeline.ValueKit
public import Idealize.ShloMosaic.Lib.Pointwise
public import Idealize.ShloMosaic.Lib.Tactic
public import Idealize.ShloMosaic.Lib.WritesUnit

@[expose] public section

set_option maxRecDepth 16384

noncomputable section

namespace Cert.Proof.Ffn

open Cert.Kernel3Ideal Cert.Kernel3Ideal.Gen Idealize.ShloMosaic Idealize.ShloMosaic.TcCoe Idealize.SL.Sem

/-! ### The steps, as operations on blocks -/

theorem inb {n k a b r o : ℕ} (hr : r + a ≤ n) (ho : o + b ≤ k) :
    ∀ d, (![r, o] : Fin 2 → ℕ) d + (⟨2, ![a, b]⟩ : Shape).size d ≤ (⟨2, ![n, k]⟩ : Shape).size d := by
  intro d
  fin_cases d
  exacts [hr, ho]

/-- A rectangle of a matrix, as a load reads it. -/
def cutV {n k : ℕ} {e : EltTy} (x : Vec Ideal ⟨2, ![n, k]⟩ e) (a b r o : ℕ) (hr : r + a ≤ n) (ho : o + b ≤ k) : Vec Ideal ⟨2, ![a, b]⟩ e :=
  View.ld (Val := Elt Ideal) x (Rect.unit (s := ⟨2, ![n, k]⟩) ![r, o] (⟨2, ![a, b]⟩ : Shape).size (inb hr ho))

/-- 256 columns of the up-projection. -/
def upV (hb : FVec Ideal S256x1024 .bf16) (x5 : Vec Ideal S1024x5632 .bf16) (o : ℕ) (ho : o + 256 ≤ 5632) : FVec Ideal S256x256 .f32 :=
  matmul (φ₂ := .bf16) dot_S256x1024_S1024x256_S256x256_1_0_0_1_n_n none hb
    (shapeCast (α := Ideal .bf16) S1024x256 (cutV (n := 1024) (k := 5632) (e := .bf16) x5 1024 256 0 o (by decide) ho) shapeCasts_S1024x256_S1024x256) (constant S256x256 .f32 0x00000000#32)

/-- The convolution of 256 columns, from their new rows and the two shifted readings of the buffer. -/
def convV (x6 : Vec Ideal S3x5632 .f32) (x7 : Vec Ideal S1x5632 .f32) (o : ℕ) (ho : o + 256 ≤ 5632) (u p1 p0 : FVec Ideal S256x256 .f32) :
    FVec Ideal S256x256 .f32 :=
  addf (addf (addf
    (mulf (broadcastTo S256x256 (shapeCast (α := Ideal .f32) S1x256 (cutV (n := 3) (k := 5632) (e := .f32) x6 1 256 2 o (by decide) ho) shapeCasts_S1x256_S1x256) broadcasts_S1x256_S256x256) u)
    (mulf (broadcastTo S256x256 (shapeCast (α := Ideal .f32) S1x256 (cutV (n := 3) (k := 5632) (e := .f32) x6 1 256 1 o (by decide) ho) shapeCasts_S1x256_S1x256) broadcasts_S1x256_S256x256) p1))
    (mulf (broadcastTo S256x256 (shapeCast (α := Ideal .f32) S1x256 (cutV (n := 3) (k := 5632) (e := .f32) x6 1 256 0 o (by decide) ho) shapeCasts_S1x256_S1x256) broadcasts_S1x256_S256x256) p0))
    (broadcastTo S256x256 (shapeCast (α := Ideal .f32) S1x256 (cutV (n := 1) (k := 5632) (e := .f32) x7 1 256 0 o (by decide) ho) shapeCasts_S1x256_S1x256) broadcasts_S1x256_S256x256)

/-- One group's part of the down-projection, added to the sum so far. -/
def downV (x8 : Vec Ideal S2816x1024 .bf16) (o : ℕ) (ho : o + 256 ≤ 2816) (acc : FVec Ideal S256x1024 .f32) (a b : FVec Ideal S256x256 .f32) :
    FVec Ideal S256x1024 .f32 :=
  addf acc (matmul (φ₂ := .bf16) dot_S256x256_S256x1024_S256x1024_1_0_0_1_n_n none
    (truncf .bf16 (mulf (mulf a (divf (broadcast S256x256 (Scalar.ofBits .f32 0x3F800000#32))
      (addf (broadcast S256x256 (Scalar.ofBits .f32 0x3F800000#32)) (exp (subf (broadcast S256x256 (Scalar.ofBits .f32 0x00000000#32)) a))))) b) bitsLt_bf16_f32)
    (shapeCast (α := Ideal .bf16) S256x1024 (cutV (n := 2816) (k := 1024) (e := .bf16) x8 256 1024 o 0 ho (by decide)) shapeCasts_S256x1024_S256x1024)
    (constant S256x1024 .f32 0x00000000#32))

/-- The stores of the first `n` groups' new rows, the last one first, over what `L` had stored. -/
def pieces (U : (o : ℕ) → o + 256 ≤ 5632 → FVec Ideal S256x256 .f32) (L : List (View.Piece (Elt Ideal) S264x5632 .f32)) :
    (n : ℕ) → n ≤ 11 → List (View.Piece (Elt Ideal) S264x5632 .f32)
  | 0, _ => L
  | n + 1, h =>
    ⟨Rect.unit (s := S264x5632) ![8, 2816 + 256 * n] S256x256.size (inb (by decide) (by omega)),
      shapeCast S256x256 (U (2816 + 256 * n) (by omega)) shapeCasts_S256x256_S256x256⟩ ::
    ⟨Rect.unit (s := S264x5632) ![8, 256 * n] S256x256.size (inb (by decide) (by omega)),
      shapeCast S256x256 (U (256 * n) (by omega)) shapeCasts_S256x256_S256x256⟩ :: pieces U L n (by omega)

/-- 256 rows of the buffer from row `r` on, in 256 columns, after the stores `L`. -/
def rowsV {σ : RefSig} (v : View σ .tc .vmem S264x5632 .f32) (f : v.ty.Contents (Elt Ideal)) (L : List (View.Piece (Elt Ideal) S264x5632 .f32))
    (r o : ℕ) (hr : r + 256 ≤ 264) (ho : o + 256 ≤ 5632) : FVec Ideal S256x256 .f32 :=
  cutV (n := 264) (k := 5632) (e := .f32) (v.read (Elt Ideal) (v.writes (Elt Ideal) f L)) 256 256 r o hr ho

/-- The down-projection's sum over the first `n` groups. -/
def accV (U : (o : ℕ) → o + 256 ≤ 5632 → FVec Ideal S256x256 .f32) (x6 : Vec Ideal S3x5632 .f32) (x7 : Vec Ideal S1x5632 .f32)
    (x8 : Vec Ideal S2816x1024 .bf16) {σ : RefSig} (v : View σ .tc .vmem S264x5632 .f32) (f : v.ty.Contents (Elt Ideal))
    (L : List (View.Piece (Elt Ideal) S264x5632 .f32)) : (n : ℕ) → n ≤ 11 → FVec Ideal S256x1024 .f32
  | 0, _ => broadcast S256x1024 (Scalar.ofBits .f32 0x00000000#32)
  | n + 1, h =>
    downV x8 (256 * n) (by omega) (accV U x6 x7 x8 v f L n (by omega))
      (convV x6 x7 (256 * n) (by omega) (U (256 * n) (by omega))
        (rowsV v f (pieces U L (min (n + 2) 11) (by omega)) 7 (256 * n) (by decide) (by omega))
        (rowsV v f (pieces U L (min (n + 2) 11) (by omega)) 6 (256 * n) (by decide) (by omega)))
      (convV x6 x7 (2816 + 256 * n) (by omega) (U (2816 + 256 * n) (by omega))
        (rowsV v f (pieces U L (min (n + 2) 11) (by omega)) 7 (2816 + 256 * n) (by decide) (by omega))
        (rowsV v f (pieces U L (min (n + 2) 11) (by omega)) 6 (2816 + 256 * n) (by decide) (by omega)))

/-- The residual and the last norm. -/
def lastV (x0 g : FVec Ideal S256x1024 .f32) (x9 : Vec Ideal S1x1024 .f32) (acc : FVec Ideal S256x1024 .f32) : FVec Ideal S256x1024 .f32 :=
  k0_pay1 (addf x0 (mulf g acc))
    (shapeCast S256x1 (multiReduction .add [1] S256 (mulf (addf x0 (mulf g acc))
      (addf x0 (mulf g acc))) 0x00000000#32 reduces_S256x1024_S256 (.inl rfl) rfl) shapeCasts_S256_S256x1)
    (Scalar.ofBits .f32 0x44800000#32) x9

variable (m : (ℓ : Loc nD τ sig) → Buf (Elt Ideal) ℓ) (c : Dev nD)

theorem corner : (![0, 0] : Fin 2 → Nat) = fun _ => 0 := funext fun a => by fin_cases a <;> rfl

/-- The normalized rows of the block, as the products take them. -/
def hidV (t : Fin cfg0.N) : FVec Ideal S256x1024 .bf16 := k0_pay3 (F := Ideal) (iblk m c 0 t) (iblk m c 4 t) (iblk m c 2 t) (iblk m c 1 t)

/-- The residual's gate, the same on every row. -/
def gateV (t : Fin cfg0.N) : FVec Ideal S256x1024 .f32 := broadcastTo S256x1024 (iblk m c 3 t) broadcasts_S1x1024_S256x1024

/-- What the first point stores before anything else: zeros in the rows above its own. -/
def zeroRows : List (View.Piece (Elt Ideal) S264x5632 .f32) :=
  [⟨Rect.unit (s := S264x5632) ![0, 0] S8x5632.size (inb (by decide) (by decide)), k0_pay2 (F := Ideal)⟩]

/-- The last eight rows of the buffer after the stores `L`. -/
def tailV {σ : RefSig} (v : View σ .tc .vmem S264x5632 .f32) (f : v.ty.Contents (Elt Ideal)) (L : List (View.Piece (Elt Ideal) S264x5632 .f32)) :
    FVec Ideal S8x5632 .f32 :=
  cutV (n := 264) (k := 5632) (e := .f32) (v.read (Elt Ideal) (v.writes (Elt Ideal) f L)) 8 5632 256 0 (by decide) (by decide)

/-- The buffer as the point before left it. -/
def carried (t : Fin cfg0.N) : scM0_0.view.ty.Contents (Elt Ideal) :=
  (Memref.isWhole_whole _ : scM0_0.IsWhole).unread (outsAt0 m c (t.val - 1) (lt_of_le_of_lt (Nat.sub_le _ _) t.isLt)).2.2

set_option maxHeartbeats 8000000 in
theorem later_y (t : Fin cfg0.N) (h0 : ¬t.val % 64 = 0) : (outsAt0 m c t.val t.isLt).1
    = lastV (iblk m c 0 t) (gateV m c t) (iblk m c 9 t) (accV (upV (hidV m c t) (iblk m c 5 t)) (iblk m c 6 t) (iblk m c 7 t) (iblk m c 8 t)
      scM0_0.view (carried m c t) [] 11 le_rfl) := by
  rw [outsAt0_B m c t h0]
  dsimp only
  unfold out0_B_10 carried
  dsimp only [kernelRun0_B]
  rw [View.read_writes_junk_eq_canon, View.canon_cons_unit_zero (S := S256x1024) corner]
  sl_unfold_words
  simp only [View.readAt_eq_ld, Memref.IsWhole.read_unread, View.ld_unit_zero (S := S256x1024) corner, View.ld_unit_zero (S := S1x1024) corner]
  rfl

set_option maxHeartbeats 8000000 in
theorem first_y (t : Fin cfg0.N) (h0 : t.val % 64 = 0) : (outsAt0 m c t.val t.isLt).1
    = lastV (iblk m c 0 t) (gateV m c t) (iblk m c 9 t) (accV (upV (hidV m c t) (iblk m c 5 t)) (iblk m c 6 t) (iblk m c 7 t) (iblk m c 8 t)
      scM0_0.view scM0_0.view.junk zeroRows 11 le_rfl) := by
  rw [outsAt0_A m c t h0]
  dsimp only
  unfold out0_A_10
  dsimp only [kernelRun0_A]
  rw [View.read_writes_junk_eq_canon, View.canon_cons_unit_zero (S := S256x1024) corner]
  sl_unfold_words
  simp only [View.readCov, View.readAt_eq_ld, Memref.IsWhole.read_unread, View.ld_unit_zero (S := S256x1024) corner, View.ld_unit_zero (S := S1x1024) corner]
  rfl

set_option maxHeartbeats 2000000 in
theorem later_u (t : Fin cfg0.N) (h0 : ¬t.val % 64 = 0) : (outsAt0 m c t.val t.isLt).2.1
    = tailV scM0_0.view scM0_0.view.junk (pieces (upV (hidV m c t) (iblk m c 5 t)) [] 11 le_rfl) := by
  rw [outsAt0_B m c t h0]
  dsimp only
  unfold out0_B_11
  dsimp only [kernelRun0_B]
  rw [View.read_writes_junk_eq_canon, View.canon_cons_unit_zero (S := S8x5632) corner]
  sl_unfold_words
  simp only [View.readCov, View.readAt_eq_ld, Memref.IsWhole.read_unread, View.ld_unit_zero (S := S256x1024) corner, View.ld_unit_zero (S := S1x1024) corner]
  rfl

set_option maxHeartbeats 2000000 in
theorem first_u (t : Fin cfg0.N) (h0 : t.val % 64 = 0) : (outsAt0 m c t.val t.isLt).2.1
    = tailV scM0_0.view scM0_0.view.junk (pieces (upV (hidV m c t) (iblk m c 5 t)) zeroRows 11 le_rfl) := by
  rw [outsAt0_A m c t h0]
  dsimp only
  unfold out0_A_11
  dsimp only [kernelRun0_A]
  rw [View.read_writes_junk_eq_canon, View.canon_cons_unit_zero (S := S8x5632) corner]
  sl_unfold_words
  simp only [View.readCov, View.readAt_eq_ld, Memref.IsWhole.read_unread, View.ld_unit_zero (S := S256x1024) corner, View.ld_unit_zero (S := S1x1024) corner]
  rfl

/-- The rows kept for the next point are the buffer's last eight, moved to the top. -/
theorem top_rows (f : VS0_0.ty.Contents (Elt Ideal)) (w : FVec Ideal S8x5632 .f32) (L : List (View.Piece (Elt Ideal) S264x5632 .f32)) (a : Fin 264) (r : Fin 8)
    (h : a.val = r.val) (j : Fin 5632) :
    VS0_0.read (Elt Ideal) (VS0_0.writes (Elt Ideal) f (⟨Rect.unit (s := S264x5632) ![0, 0] S8x5632.size (inb (by decide) (by decide)), w⟩ :: L)) (ix2 a j)
      = w (ix2 r j) :=
  View.read_writes_cons_unit_of_mem VS0_0 f _ w L (ix2 a j) (ix2 r j) rfl fun d => match d with
    | 0 => h.trans (Nat.zero_add _).symm
    | 1 => (Nat.zero_add _).symm

set_option maxHeartbeats 2000000 in
theorem later_s (t : Fin cfg0.N) (h0 : ¬t.val % 64 = 0) (a : Fin 264) (r : Fin 8) (h : a.val = r.val) (j : Fin 5632) :
    (outsAt0 m c t.val t.isLt).2.2 (ix2 a j) = tailV scM0_0.view scM0_0.view.junk (pieces (upV (hidV m c t) (iblk m c 5 t)) [] 11 le_rfl) (ix2 r j) := by
  rw [outsAt0_B m c t h0]
  dsimp only
  unfold sout0_B_0
  dsimp only [kernelRun0_B]
  refine (top_rows _ _ _ a r h j).trans ?_
  sl_unfold_words
  simp only [View.readCov, View.readAt_eq_ld, Memref.IsWhole.read_unread, View.ld_unit_zero (S := S256x1024) corner, View.ld_unit_zero (S := S1x1024) corner]
  simp only [k0_pay85]
  rw [shapeCast_self]
  rfl

set_option maxHeartbeats 2000000 in
theorem first_s (t : Fin cfg0.N) (h0 : t.val % 64 = 0) (a : Fin 264) (r : Fin 8) (h : a.val = r.val) (j : Fin 5632) :
    (outsAt0 m c t.val t.isLt).2.2 (ix2 a j) = tailV scM0_0.view scM0_0.view.junk (pieces (upV (hidV m c t) (iblk m c 5 t)) zeroRows 11 le_rfl) (ix2 r j) := by
  rw [outsAt0_A m c t h0]
  dsimp only
  unfold sout0_A_0
  dsimp only [kernelRun0_A]
  refine (top_rows _ _ _ a r h j).trans ?_
  sl_unfold_words
  simp only [View.readCov, View.readAt_eq_ld, Memref.IsWhole.read_unread, View.ld_unit_zero (S := S256x1024) corner, View.ld_unit_zero (S := S1x1024) corner]
  simp only [k0_pay85]
  rw [shapeCast_self]
  rfl

end Cert.Proof.Ffn

end
-- ==== Proof.FfnBuffer.lean ====
/- The feed-forward call's block read at a row and a column: the carried buffer is the up-projection's rows in sequence, so the
   eleven steps are one sum over the 2816 columns. -/
module

public import proofs.«01_k».proof.Proof.FfnBlock

@[expose] public section

noncomputable section

open scoped BigOperators

namespace Cert.Proof.Ffn

open Cert.Kernel3Ideal Cert.Kernel3Ideal.Gen Idealize.ShloMosaic Idealize.ShloMosaic.TcCoe Idealize.SL.Sem

/-- The small constant under both square roots. -/
def eps : EReal := Ideal.ofBits .f32 0x358637BD#32

/-- A row divided by its root mean square, then scaled. -/
def normed {n : ℕ} (z w : Fin n → EReal) (j : Fin n) : EReal :=
  z j * Ideal.rsqrt (Ideal.div (∑ l, z l * z l) (Ideal.ofBits .f32 0x44800000#32) + eps) * w j

def silu (a : EReal) : EReal := a * Ideal.div 1 (1 + Ideal.exp (-a))

theorem cutV_apply {n k : ℕ} {e : EltTy} (x : Vec Ideal ⟨2, ![n, k]⟩ e) (a b r o : ℕ) (hr : r + a ≤ n) (ho : o + b ≤ k) (i : Fin a) (l : Fin b)
    (i' : Fin n) (l' : Fin k) (hi : i'.val = r + i.val) (hl : l'.val = o + l.val) : cutV x a b r o hr ho (ix2 i l) = x (ix2 i' l') := by
  unfold cutV
  exact congrArg x (funext fun d => match d with
    | 0 => Fin.ext (by show r + 1 * i.val = i'.val; omega)
    | 1 => Fin.ext (by show o + 1 * l.val = l'.val; omega))

/-- One entry of the up-projection. -/
def up (hb : FVec Ideal S256x1024 .bf16) (x5 : Vec Ideal S1024x5632 .bf16) (r : Fin 256) (j : Fin 5632) : EReal := ∑ k, hb (ix2 r k) * x5 (ix2 k j)

theorem upV_apply (hb : FVec Ideal S256x1024 .bf16) (x5 : Vec Ideal S1024x5632 .bf16) (o : ℕ) (ho : o + 256 ≤ 5632) (r k : Fin 256) (q : Fin 5632)
    (hq : q.val = o + k.val) : upV hb x5 o ho (ix2 r k) = up hb x5 r q := by
  have e := fun l : Fin 1024 => cutV_apply (n := 1024) (k := 5632) (e := .bf16) x5 1024 256 0 o (by decide) ho l k l q (by omega) hq
  unfold upV up
  generalize cutV (n := 1024) (k := 5632) (e := .bf16) x5 1024 256 0 o (by decide) ho = z at e
  pointwise
  exact Finset.sum_congr rfl fun l _ => congrArg (hb (ix2 r l) * ·) (e l)

/-! ### The buffer -/

section Buffer

variable {σ : RefSig} (v : View σ .tc .vmem S264x5632 .f32) (f : v.ty.Contents (Elt Ideal)) (L : List (View.Piece (Elt Ideal) S264x5632 .f32))
  (U : (o : ℕ) → o + 256 ≤ 5632 → FVec Ideal S256x256 .f32)

theorem store_miss (o : ℕ) (ho : o + 256 ≤ 5632) (w : FVec Ideal S256x256 .f32) (a : Fin 264) (j : Fin 5632)
    (hm : a.val < 8 ∨ j.val < o ∨ o + 256 ≤ j.val) :
    v.read (Elt Ideal) (v.writes (Elt Ideal) f (⟨Rect.unit (s := S264x5632) ![8, o] S256x256.size (inb (by decide) ho), w⟩ :: L)) (ix2 a j)
      = v.read (Elt Ideal) (v.writes (Elt Ideal) f L) (ix2 a j) := by
  rcases hm with h | h
  · exact View.read_writes_cons_unit_of_not_mem v f _ w L (ix2 a j) rfl 0 (Or.inl h)
  · exact View.read_writes_cons_unit_of_not_mem v f _ w L (ix2 a j) rfl 1 h

variable (G : Fin 264 → Fin 5632 → EReal)
  (hU : ∀ (o : ℕ) (ho : o + 256 ≤ 5632) (r k : Fin 256) (a : Fin 264) (q : Fin 5632), a.val = 8 + r.val → q.val = o + k.val → U o ho (ix2 r k) = G a q)
include hU

theorem store_hit (o : ℕ) (ho : o + 256 ≤ 5632) (a : Fin 264) (j : Fin 5632) (ha : 8 ≤ a.val) (h0 : o ≤ j.val) (h1 : j.val < o + 256) :
    v.read (Elt Ideal) (v.writes (Elt Ideal) f (⟨Rect.unit (s := S264x5632) ![8, o] S256x256.size (inb (by decide) ho),
      shapeCast S256x256 (U o ho) shapeCasts_S256x256_S256x256⟩ :: L)) (ix2 a j) = G a j := by
  have ha' := a.isLt
  have hk : j.val = o + (j.val - o) := by omega
  have hr : a.val = 8 + (a.val - 8) := by omega
  refine (View.read_writes_cons_unit_of_mem (off' := ![8, o]) v f _ _ L (ix2 a j) (ix2 (⟨a.val - 8, by omega⟩ : Fin 256) (⟨j.val - o, by omega⟩ : Fin 256)) rfl
    fun d => match d with
    | 0 => hr
    | 1 => hk).trans ?_
  rw [shapeCast_self]
  exact hU o ho _ _ a j hr hk

variable (hL : ∀ (a : Fin 264) (j : Fin 5632), 6 ≤ a.val → a.val < 8 → v.read (Elt Ideal) (v.writes (Elt Ideal) f L) (ix2 a j) = G a j)
include hL

/-- After the first `n` groups' stores the buffer holds its rows in the columns stored, and what was there before above them. -/
theorem buffer (n : ℕ) (h : n ≤ 11) (a : Fin 264) (j : Fin 5632) (ha : 6 ≤ a.val)
    (hc : a.val < 8 ∨ j.val < 256 * n ∨ (2816 ≤ j.val ∧ j.val < 2816 + 256 * n)) :
    v.read (Elt Ideal) (v.writes (Elt Ideal) f (pieces U L n h)) (ix2 a j) = G a j := by
  induction n with
  | zero => exact hL a j ha (by omega)
  | succ n ih =>
    unfold pieces
    have ha' := a.isLt
    by_cases h1 : 8 ≤ a.val ∧ 2816 + 256 * n ≤ j.val ∧ j.val < 2816 + 256 * n + 256
    · exact store_hit v f _ U G hU _ (by omega) a j h1.1 h1.2.1 h1.2.2
    · refine (store_miss v f _ _ (by omega) _ a j (by omega)).trans ?_
      by_cases h2 : 8 ≤ a.val ∧ 256 * n ≤ j.val ∧ j.val < 256 * n + 256
      · exact store_hit v f _ U G hU _ (by omega) a j h2.1 h2.2.1 h2.2.2
      · exact (store_miss v f _ _ (by omega) _ a j (by omega)).trans (ih (by omega) (by omega))

theorem rowsV_apply (n : ℕ) (h : n ≤ 11) (s o : ℕ) (hs : s + 256 ≤ 264) (ho : o + 256 ≤ 5632) (r k : Fin 256) (a : Fin 264) (q : Fin 5632)
    (ha : a.val = s + r.val) (hq : q.val = o + k.val) (h6 : 6 ≤ s) (hc : q.val < 256 * n ∨ (2816 ≤ q.val ∧ q.val < 2816 + 256 * n)) :
    rowsV v f (pieces U L n h) s o hs ho (ix2 r k) = G a q := by
  unfold rowsV
  exact (cutV_apply _ _ _ _ _ _ _ r k a q ha hq).trans (buffer v f L U G hU hL n h a q (by omega) (.inr hc))

omit hL

theorem belowV_apply {n : ℕ} (s : ℕ) (hs : s + n ≤ 264) (h8 : 8 ≤ s) (r : Fin n) (a : Fin 264) (j : Fin 5632) (ha : a.val = s + r.val) :
    cutV (n := 264) (k := 5632) (e := .f32) (v.read (Elt Ideal) (v.writes (Elt Ideal) f (pieces U L 11 le_rfl))) n 5632 s 0 hs (by decide) (ix2 r j) = G a j := by
  have hj := j.isLt
  refine (cutV_apply _ _ _ _ _ _ _ r j a j ha (by omega)).trans ((buffer v f L U
    (fun a j => if a.val < 8 then v.read (Elt Ideal) (v.writes (Elt Ideal) f L) (ix2 a j) else G a j)
    (fun o ho r k a q ha hq => (hU o ho r k a q ha hq).trans (if_neg (by omega)).symm) (fun a j _ h => (if_pos h).symm) 11 le_rfl a j (by omega) (by omega)).trans ?_)
  exact if_neg (by omega)

omit hU in
/-- The rows above the first block's own hold zeros. -/
theorem zeroRows_apply (a : Fin 264) (j : Fin 5632) (h8 : a.val < 8) :
    v.read (Elt Ideal) (v.writes (Elt Ideal) f zeroRows) (ix2 a j) = 0 := by
  unfold zeroRows
  refine (View.read_writes_cons_unit_of_mem (off' := ![0, 0]) v _ _ _ _ (ix2 a j) (ix2 (⟨a.val, h8⟩ : Fin 8) j) rfl fun d => match d with
    | 0 => (Nat.zero_add _).symm
    | 1 => (Nat.zero_add _).symm).trans ?_
  unfold k0_pay2
  pointwise

end Buffer

/-! ### The steps at an index -/

theorem convV_apply (x6 : Vec Ideal S3x5632 .f32) (x7 : Vec Ideal S1x5632 .f32) (o : ℕ) (ho : o + 256 ≤ 5632) (u p1 p0 : FVec Ideal S256x256 .f32)
    (r k : Fin 256) (q : Fin 5632) (hq : q.val = o + k.val) :
    convV x6 x7 o ho u p1 p0 (ix2 r k)
      = x6 (ix2 2 q) * u (ix2 r k) + x6 (ix2 1 q) * p1 (ix2 r k) + x6 (ix2 0 q) * p0 (ix2 r k) + x7 (ix2 0 q) := by
  have e2 := cutV_apply (n := 3) (k := 5632) (e := .f32) x6 1 256 2 o (by decide) ho 0 k 2 q rfl hq
  have e1 := cutV_apply (n := 3) (k := 5632) (e := .f32) x6 1 256 1 o (by decide) ho 0 k 1 q rfl hq
  have e0 := cutV_apply (n := 3) (k := 5632) (e := .f32) x6 1 256 0 o (by decide) ho 0 k 0 q rfl hq
  have e := cutV_apply (n := 1) (k := 5632) (e := .f32) x7 1 256 0 o (by decide) ho 0 k 0 q rfl hq
  unfold convV
  generalize cutV (n := 3) (k := 5632) (e := .f32) x6 1 256 2 o (by decide) ho = z2 at e2
  generalize cutV (n := 3) (k := 5632) (e := .f32) x6 1 256 1 o (by decide) ho = z1 at e1
  generalize cutV (n := 3) (k := 5632) (e := .f32) x6 1 256 0 o (by decide) ho = z0 at e0
  generalize cutV (n := 1) (k := 5632) (e := .f32) x7 1 256 0 o (by decide) ho = z at e
  pointwise
  rw [e2, e1, e0, e]

theorem downV_apply (x8 : Vec Ideal S2816x1024 .bf16) (o : ℕ) (ho : o + 256 ≤ 2816) (acc : FVec Ideal S256x1024 .f32) (a b : FVec Ideal S256x256 .f32)
    (r : Fin 256) (j : Fin 1024) :
    downV x8 o ho acc a b (ix2 r j)
      = acc (ix2 r j) + ∑ k : Fin 256, silu (a (ix2 r k)) * b (ix2 r k) * x8 (ix2 (⟨o + k.val, by omega⟩ : Fin 2816) j) := by
  have e := fun k : Fin 256 => cutV_apply (n := 2816) (k := 1024) (e := .bf16) x8 256 1024 o 0 ho (by decide) k j (⟨o + k.val, by omega⟩ : Fin 2816) j rfl
    (Nat.zero_add _).symm
  unfold downV silu
  generalize cutV (n := 2816) (k := 1024) (e := .bf16) x8 256 1024 o 0 ho (by decide) = z at e
  pointwise
  simp only [e, zero_sub]

theorem lastV_apply (x0 g : FVec Ideal S256x1024 .f32) (x9 : Vec Ideal S1x1024 .f32) (acc : FVec Ideal S256x1024 .f32) (r : Fin 256) (j : Fin 1024) :
    lastV x0 g x9 acc (ix2 r j) = normed (fun l => x0 (ix2 r l) + g (ix2 r l) * acc (ix2 r l)) (fun l => x9 (ix2 0 l)) j := by
  unfold lastV k0_pay1 normed eps
  pointwise

/-! ### The sum over the groups -/

/-- The convolution at one row and column, from the buffer's rows. -/
def conv (x6 : Vec Ideal S3x5632 .f32) (x7 : Vec Ideal S1x5632 .f32) (G : Fin 264 → Fin 5632 → EReal) (r : Fin 256) (q : Fin 5632) : EReal :=
  x6 (ix2 2 q) * G ⟨8 + r.val, by omega⟩ q + x6 (ix2 1 q) * G ⟨7 + r.val, by omega⟩ q + x6 (ix2 0 q) * G ⟨6 + r.val, by omega⟩ q + x7 (ix2 0 q)

/-- One term of the down-projection's sum. -/
def term (x6 : Vec Ideal S3x5632 .f32) (x7 : Vec Ideal S1x5632 .f32) (x8 : Vec Ideal S2816x1024 .bf16) (G : Fin 264 → Fin 5632 → EReal) (r : Fin 256)
    (j : Fin 1024) (q : Fin 2816) : EReal :=
  silu (conv x6 x7 G r ⟨q.val, by omega⟩) * conv x6 x7 G r ⟨2816 + q.val, by omega⟩ * x8 (ix2 q j)

section Sum

variable {σ : RefSig} (v : View σ .tc .vmem S264x5632 .f32) (f : v.ty.Contents (Elt Ideal)) (L : List (View.Piece (Elt Ideal) S264x5632 .f32))
  (U : (o : ℕ) → o + 256 ≤ 5632 → FVec Ideal S256x256 .f32) (x6 : Vec Ideal S3x5632 .f32) (x7 : Vec Ideal S1x5632 .f32)
  (x8 : Vec Ideal S2816x1024 .bf16)
  (G : Fin 264 → Fin 5632 → EReal)
  (hU : ∀ (o : ℕ) (ho : o + 256 ≤ 5632) (r k : Fin 256) (a : Fin 264) (q : Fin 5632), a.val = 8 + r.val → q.val = o + k.val → U o ho (ix2 r k) = G a q)
  (hL : ∀ (a : Fin 264) (j : Fin 5632), 6 ≤ a.val → a.val < 8 → v.read (Elt Ideal) (v.writes (Elt Ideal) f L) (ix2 a j) = G a j)
include hU hL

theorem group_apply (n : ℕ) (h : n ≤ 11) (o : ℕ) (ho : o + 256 ≤ 5632) (r k : Fin 256) (q : Fin 5632) (hq : q.val = o + k.val)
    (hc : q.val < 256 * n ∨ (2816 ≤ q.val ∧ q.val < 2816 + 256 * n)) :
    convV x6 x7 o ho (U o ho) (rowsV v f (pieces U L n h) 7 o (by decide) ho) (rowsV v f (pieces U L n h) 6 o (by decide) ho) (ix2 r k)
      = conv x6 x7 G r q := by
  rw [convV_apply _ _ _ _ _ _ _ r k q hq, hU o ho r k ⟨8 + r.val, by omega⟩ q rfl hq,
    rowsV_apply v f L U G hU hL n h 7 o _ _ r k ⟨7 + r.val, by omega⟩ q rfl hq (by decide) hc,
    rowsV_apply v f L U G hU hL n h 6 o _ _ r k ⟨6 + r.val, by omega⟩ q rfl hq (by decide) hc]
  rfl

theorem accV_apply (n : ℕ) (h : n ≤ 11) (r : Fin 256) (j : Fin 1024) :
    accV U x6 x7 x8 v f L n h (ix2 r j)
      = ∑ q ∈ Finset.range (256 * n), if hq : q < 2816 then term x6 x7 x8 G r j ⟨q, hq⟩ else 0 := by
  induction n with
  | zero =>
    unfold accV
    pointwise
    exact (Finset.sum_range_zero _).symm
  | succ n ih =>
    unfold accV
    rw [downV_apply, ih, Nat.mul_succ, Finset.sum_range_add, ← Fin.sum_univ_eq_sum_range (fun k => if hq : 256 * n + k < 2816 then term x6 x7 x8 G r j ⟨256 * n + k, hq⟩ else 0)]
    refine congrArg (_ + ·) (Finset.sum_congr rfl fun k _ => ?_)
    have hk := k.isLt
    rw [dif_pos (by omega), group_apply v f L U x6 x7 G hU hL _ _ _ _ r k ⟨256 * n + k.val, by omega⟩ rfl (by simp only; omega),
      group_apply v f L U x6 x7 G hU hL _ _ _ _ r k ⟨2816 + (256 * n + k.val), by omega⟩ (Nat.add_assoc _ _ _).symm (by simp only; omega)]
    rfl

theorem acc_apply (r : Fin 256) (j : Fin 1024) :
    accV U x6 x7 x8 v f L 11 le_rfl (ix2 r j) = ∑ q, term x6 x7 x8 G r j q := by
  rw [accV_apply v f L U x6 x7 x8 G hU hL, ← Fin.sum_univ_eq_sum_range (fun q => if hq : q < 2816 then term x6 x7 x8 G r j ⟨q, hq⟩ else 0)]
  exact Finset.sum_congr rfl fun q _ => dif_pos q.isLt

end Sum

end Cert.Proof.Ffn

end
-- ==== Proof.FfnReference.lean ====
/- The feed-forward reference, read at a row and a column. -/
module

public import proofs.«01_k».proof.Proof.FfnBuffer
public import proofs.«01_k».proof.Proof.Gen.Reference3Ideal.Run
public import proofs.«01_k».proof.Proof.Gen.Reference3Ideal.Read
public import Idealize.ShloMosaic.Lib.Quiescent
public import Idealize.ShloMosaic.Lib.StableHlo.ReadAt

@[expose] public section

noncomputable section

open scoped BigOperators

namespace Cert.Proof.Ffn

open Cert.Kernel3Ideal Cert.Kernel3Ideal.Gen Idealize.ShloMosaic Idealize.ShloMosaic.TcCoe Idealize.SL.Sem

/-- One entry of a normalized row, scaled and shifted. -/
def hidden (x nw sc sh : Fin 1024 → EReal) (k : Fin 1024) : EReal := normed x nw k * (1 + sc k) + sh k

open Cert.Reference3Ideal.Read

variable (x0 : FVec Ideal S16384x1024 .f32) (x1 x2 x3 x4 : FVec Ideal S1x1024 .f32) (x5 : FVec Ideal S1x1024x5632 .f32)
  (x6 : FVec Ideal S1x3x5632 .f32) (x7 : FVec Ideal S1x5632 .f32) (x8 : FVec Ideal S1x2816x1024 .f32) (x9 : FVec Ideal S1024 .f32)

/-- The up-projection at one row and column. -/
def uRow (p : Fin 16384) (j : Fin 5632) : EReal :=
  ∑ k, hidden (fun l => x0 (ix2 p l)) (fun l => x4 (ix2 0 l)) (fun l => x2 (ix2 0 l)) (fun l => x1 (ix2 0 l)) k * x5 (ix3 0 k j)

/-- The same with two rows of zeros above. -/
def padded (s : ℕ) (j : Fin 5632) : EReal := if h : 2 ≤ s ∧ s - 2 < 16384 then uRow x0 x1 x2 x4 x5 ⟨s - 2, h.2⟩ j else 0

def convRow (p : Fin 16384) (j : Fin 5632) : EReal :=
  padded x0 x1 x2 x4 x5 p.val j * x6 (ix3 0 0 j) + padded x0 x1 x2 x4 x5 (1 + p.val) j * x6 (ix3 0 1 j)
    + padded x0 x1 x2 x4 x5 (2 + p.val) j * x6 (ix3 0 2 j) + x7 (ix2 0 j)

/-- The residual plus the gated down-projection. -/
def outRow (p : Fin 16384) (j : Fin 1024) : EReal :=
  x0 (ix2 p j) + x3 (ix2 0 j) * ∑ q : Fin 2816,
    silu (convRow x0 x1 x2 x4 x5 x6 x7 p ⟨q.val, by omega⟩) * convRow x0 x1 x2 x4 x5 x6 x7 p ⟨2816 + q.val, by omega⟩ * x8 (ix3 0 q j)

theorem hidden_apply (p : Fin 16384) (k : Fin 1024) : val_main_v22 (F := Ideal) x0 x1 x2 x4 (ix3 0 p k)
    = hidden (fun l => x0 (ix2 p l)) (fun l => x4 (ix2 0 l)) (fun l => x2 (ix2 0 l)) (fun l => x1 (ix2 0 l)) k := by
  unfold val_main_v22 val_main_v21 val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1 val_main_v0
    val_main_cst val_main_cst_0 val_main_cst_1 val_main_cst_2 hidden normed eps
  pointwise

theorem u_apply (p : Fin 16384) (j : Fin 5632) : val_main_v24 (F := Ideal) x0 x1 x2 x4 x5 (ix3 0 p j) = uRow x0 x1 x2 x4 x5 p j := by
  have e : val_main_v24 (F := Ideal) x0 x1 x2 x4 x5 (ix3 0 p j) = ∑ k, val_main_v22 (F := Ideal) x0 x1 x2 x4 (ix3 0 p k) * x5 (ix3 0 k j) := by
    unfold val_main_v24 val_main_v23
    generalize val_main_v22 (F := Ideal) x0 x1 x2 x4 = h
    pointwise
  rw [e]
  unfold uRow
  simp only [hidden_apply]

theorem last_apply (r : Fin 8) (p : Fin 16384) (hp : p.val = 16376 + r.val) (j : Fin 5632) :
    val_main_v77 (F := Ideal) x0 x1 x2 x4 x5 (ix2 r j) = uRow x0 x1 x2 x4 x5 p j := by
  rw [← u_apply]
  unfold val_main_v77 val_main_v76
  generalize val_main_v24 (F := Ideal) x0 x1 x2 x4 x5 = z
  pointwise
  exact congrArg (fun q : Fin 16384 => z (ix3 0 q j)) (Fin.ext hp.symm)

theorem padded_apply (s : Fin 16386) (j : Fin 5632) : val_main_v27 (F := Ideal) x0 x1 x2 x4 x5 (ix3 0 s j) = padded x0 x1 x2 x4 x5 s.val j := by
  have e := fun p => u_apply x0 x1 x2 x4 x5 p j
  unfold val_main_v27 val_main_v25 val_main_cst_3 padded
  generalize val_main_v24 (F := Ideal) x0 x1 x2 x4 x5 = z at e
  pointwise
  have hs := s.isLt
  by_cases h : s.val < 2
  · rw [dif_pos h, dif_neg (by omega)]
  · rw [dif_neg h, dif_pos ⟨by omega, by omega⟩]
    exact e _

theorem conv_apply (p : Fin 16384) (j : Fin 5632) : val_main_v51 (F := Ideal) x0 x1 x2 x4 x5 x6 x7 (ix3 0 p j) = convRow x0 x1 x2 x4 x5 x6 x7 p j := by
  have e := fun s => padded_apply x0 x1 x2 x4 x5 s j
  unfold val_main_v51 val_main_v50 val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v32 val_main_v31 val_main_v30
    val_main_v29 val_main_v28 val_main_v26 convRow
  generalize val_main_v27 (F := Ideal) x0 x1 x2 x4 x5 = z at e
  pointwise
  simp only [e]

theorem out_apply (p : Fin 16384) (j : Fin 1024) : val_main_v61 (F := Ideal) x0 x1 x2 x3 x4 x5 x6 x7 x8 (ix3 0 p j) = outRow x0 x1 x2 x3 x4 x5 x6 x7 x8 p j := by
  have e := conv_apply x0 x1 x2 x4 x5 x6 x7 p
  unfold val_main_v61 val_main_v60 val_main_v59 val_main_v58 val_main_v57 val_main_v56 val_main_v55 val_main_call0_v5 val_main_call0_v4 val_main_call0_cst_0
    val_main_call0_v3 val_main_call0_v2 val_main_call0_cst val_main_call0_v1 val_main_call0_v0 val_main_v54 val_main_v53 val_main_v52 val_main_v0 outRow silu
  generalize val_main_v51 (F := Ideal) x0 x1 x2 x4 x5 x6 x7 = z at e
  pointwise
  simp only [← e]

theorem y_apply (p : Fin 16384) (j : Fin 1024) : val_main_v75 (F := Ideal) x0 x1 x2 x3 x4 x5 x6 x7 x8 x9 (ix2 p j)
    = normed (outRow x0 x1 x2 x3 x4 x5 x6 x7 x8 p) (fun l => x9 (ix1 l)) j := by
  have e := out_apply x0 x1 x2 x3 x4 x5 x6 x7 x8 p
  unfold val_main_v75 val_main_v74 val_main_v73 val_main_v72 val_main_v71 val_main_v70 val_main_v69 val_main_v68 val_main_v67 val_main_v66 val_main_v65
    val_main_v64 val_main_v63 val_main_v62 val_main_cst_4 val_main_cst_5 val_main_cst_6 normed eps
  generalize val_main_v61 (F := Ideal) x0 x1 x2 x3 x4 x5 x6 x7 x8 = z at e
  pointwise
  simp only [e]

end Cert.Proof.Ffn

end
-- ==== Proof.Ffn.lean ====
/- The feed-forward call: every block of both outputs is the reference's rows, by way of the rows the buffer carries from one point
   to the next. -/
module

public import proofs.«01_k».proof.Proof.FfnReference

@[expose] public section

noncomputable section

open scoped BigOperators

namespace Cert.Proof.Ffn

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem index : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![0, 0])

/-! ### What the host hands to the call -/

theorem hostUp (i : Fin 1024) (j : Fin 5632) : V m c main_v1 (ix2 i j) = m ((c.tc : Thread nD τ).loc main_arg5) (ix3 0 i j) := by
  unfold V; after_reads_at

theorem hostDown (i : Fin 2816) (j : Fin 1024) : V m c main_v3 (ix2 i j) = m ((c.tc : Thread nD τ).loc main_arg8) (ix3 0 i j) := by
  unfold V; after_reads_at

theorem hostNorm (j : Fin 1024) : V m c main_v5 (ix2 0 j) = m ((c.tc : Thread nD τ).loc main_arg4) (ix2 0 j) := by
  unfold V; after_reads_at

theorem hostFinal (j : Fin 1024) : V m c main_v6 (ix2 0 j) = m ((c.tc : Thread nD τ).loc main_arg9) (ix1 j) := by
  unfold V; after_reads_at

theorem hostBias (j : Fin 5632) : V m c main_v8 (ix2 0 j) = m ((c.tc : Thread nD τ).loc main_arg7) (ix2 0 j) := by
  unfold V; after_reads_at

theorem hostTaps (i : Fin 3) (j : Fin 5632) : V m c main_v9 (ix2 i j) = m ((c.tc : Thread nD τ).loc main_arg6) (ix3 0 i j) := by
  unfold V; after_reads_at

section Blocks

variable (t : Fin cfg0.N)

theorem xBlk (r : Fin 256) (p : Fin 16384) (hp : p.val = t.val * 256 + r.val) (j : Fin 1024) :
    iblk m c 0 t (ix2 r j) = m ((c.tc : Thread nD τ).loc main_arg0) (ix2 p j) := by
  have h := (index t).1
  blk_ext [iblk, V_main_arg0, h, hp]

theorem shBlk (j : Fin 1024) : iblk m c 1 t (ix2 0 j) = m ((c.tc : Thread nD τ).loc main_arg1) (ix2 0 j) := by
  have h := (index t).2.1
  blk_ext [iblk, V_main_arg1, h]

theorem scBlk (j : Fin 1024) : iblk m c 2 t (ix2 0 j) = m ((c.tc : Thread nD τ).loc main_arg2) (ix2 0 j) := by
  have h := (index t).2.2.1
  blk_ext [iblk, V_main_arg2, h]

theorem gBlk (j : Fin 1024) : iblk m c 3 t (ix2 0 j) = m ((c.tc : Thread nD τ).loc main_arg3) (ix2 0 j) := by
  have h := (index t).2.2.2.1
  blk_ext [iblk, V_main_arg3, h]

theorem normBlk (j : Fin 1024) : iblk m c 4 t (ix2 0 j) = m ((c.tc : Thread nD τ).loc main_arg4) (ix2 0 j) := by
  have h := (index t).2.2.2.2.1
  refine Eq.trans ?_ (hostNorm m c j)
  blk_ext [iblk, h]

theorem upBlk (i : Fin 1024) (j : Fin 5632) : iblk m c 5 t (ix2 i j) = m ((c.tc : Thread nD τ).loc main_arg5) (ix3 0 i j) := by
  have h := (index t).2.2.2.2.2.1
  refine Eq.trans ?_ (hostUp m c i j)
  blk_ext [iblk, h]

theorem tapsBlk (i : Fin 3) (j : Fin 5632) : iblk m c 6 t (ix2 i j) = m ((c.tc : Thread nD τ).loc main_arg6) (ix3 0 i j) := by
  have h := (index t).2.2.2.2.2.2.1
  refine Eq.trans ?_ (hostTaps m c i j)
  blk_ext [iblk, h]

theorem biasBlk (j : Fin 5632) : iblk m c 7 t (ix2 0 j) = m ((c.tc : Thread nD τ).loc main_arg7) (ix2 0 j) := by
  have h := (index t).2.2.2.2.2.2.2.1
  refine Eq.trans ?_ (hostBias m c j)
  blk_ext [iblk, h]

theorem downBlk (i : Fin 2816) (j : Fin 1024) : iblk m c 8 t (ix2 i j) = m ((c.tc : Thread nD τ).loc main_arg8) (ix3 0 i j) := by
  have h := (index t).2.2.2.2.2.2.2.2.1
  refine Eq.trans ?_ (hostDown m c i j)
  blk_ext [iblk, h]

theorem finalBlk (j : Fin 1024) : iblk m c 9 t (ix2 0 j) = m ((c.tc : Thread nD τ).loc main_arg9) (ix1 j) := by
  have h := (index t).2.2.2.2.2.2.2.2.2.1
  refine Eq.trans ?_ (hostFinal m c j)
  blk_ext [iblk, h]

end Blocks

theorem spread_apply (w : Vec Ideal S1x1024 .f32) (r : Fin 256) (j : Fin 1024) :
    broadcastTo (α := Ideal .f32) S256x1024 w broadcasts_S1x1024_S256x1024 (ix2 r j) = w (ix2 0 j) := by
  pointwise

theorem gate_apply (t : Fin cfg0.N) (r : Fin 256) (j : Fin 1024) : gateV m c t (ix2 r j) = m ((c.tc : Thread nD τ).loc main_arg3) (ix2 0 j) := by
  unfold gateV
  exact (spread_apply (iblk m c 3 t) r j).trans (gBlk m c t j)

/-! ### The buffer at each point -/

/-- The up-projection of the kernel's own arguments, two rows of zeros above it. -/
def rows (s : ℕ) (j : Fin 5632) : EReal :=
  padded (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) s j

/-- The rows of the buffer at point `t`, from the two above its own on. -/
def held (t : ℕ) (a : Fin 264) (j : Fin 5632) : EReal := rows m c (t * 256 + (a.val - 6)) j

theorem pay3_apply (x0 : Vec Ideal S256x1024 .f32) (x4 x2 x1 : Vec Ideal S1x1024 .f32) (r : Fin 256) (k : Fin 1024) :
    k0_pay3 (F := Ideal) x0 x4 x2 x1 (ix2 r k)
      = hidden (fun l => x0 (ix2 r l)) (fun l => x4 (ix2 0 l)) (fun l => x2 (ix2 0 l)) (fun l => x1 (ix2 0 l)) k := by
  unfold k0_pay3 hidden normed eps
  pointwise

theorem up_eq (t : Fin cfg0.N) (r : Fin 256) (a : Fin 264) (j : Fin 5632) (ha : a.val = 8 + r.val) :
    up (hidV m c t) (iblk m c 5 t) r j = held m c t.val a j := by
  have ht : t.val < 64 := lt_of_lt_of_eq t.isLt N_0
  have hr := r.isLt
  unfold held rows padded
  rw [dif_pos ⟨by omega, by omega⟩]
  unfold up uRow hidV
  refine Finset.sum_congr rfl fun k _ => ?_
  rw [pay3_apply]
  simp only [xBlk m c t r (⟨t.val * 256 + (a.val - 6) - 2, by omega⟩ : Fin 16384) (by simp only; omega), shBlk m c t, scBlk m c t, normBlk m c t, upBlk m c t]

theorem stored_eq (t : Fin cfg0.N) (o : ℕ) (ho : o + 256 ≤ 5632) (r k : Fin 256) (a : Fin 264) (q : Fin 5632) (ha : a.val = 8 + r.val) (hq : q.val = o + k.val) :
    upV (hidV m c t) (iblk m c 5 t) o ho (ix2 r k) = held m c t.val a q :=
  (upV_apply _ _ o ho r k q hq).trans (up_eq m c t r a q ha)

theorem tail_eq (t : Fin cfg0.N) (L : List (View.Piece (Elt Ideal) S264x5632 .f32)) (r : Fin 8) (j : Fin 5632) :
    tailV scM0_0.view scM0_0.view.junk (pieces (upV (hidV m c t) (iblk m c 5 t)) L 11 le_rfl) (ix2 r j) = rows m c (t.val * 256 + (250 + r.val)) j := by
  have hr := r.isLt
  refine (belowV_apply scM0_0.view _ L (upV (hidV m c t) (iblk m c 5 t)) (held m c t.val) (stored_eq m c t) 256 _ (by decide) r ⟨256 + r.val, by omega⟩ j rfl).trans ?_
  unfold held
  exact congrArg (fun s : ℕ => rows m c (t.val * 256 + s) j) (by simp only; omega)

theorem tail_at (t : Fin cfg0.N) (r : Fin 8) (j : Fin 5632) : (outsAt0 m c t.val t.isLt).2.1 (ix2 r j) = rows m c (t.val * 256 + (250 + r.val)) j := by
  by_cases h0 : t.val % 64 = 0
  · rw [first_u m c t h0, tail_eq]
  · rw [later_u m c t h0, tail_eq]

theorem kept_at (t : Fin cfg0.N) (a : Fin 264) (r : Fin 8) (h : a.val = r.val) (j : Fin 5632) :
    (outsAt0 m c t.val t.isLt).2.2 (ix2 a j) = rows m c (t.val * 256 + (250 + r.val)) j := by
  by_cases h0 : t.val % 64 = 0
  · rw [first_s m c t h0 a r h j, tail_eq]
  · rw [later_s m c t h0 a r h j, tail_eq]

theorem first_rows (t : Fin cfg0.N) (h0 : t.val % 64 = 0) (a : Fin 264) (j : Fin 5632) (h6 : 6 ≤ a.val) (h8 : a.val < 8) :
    scM0_0.view.read (Elt Ideal) (scM0_0.view.writes (Elt Ideal) scM0_0.view.junk zeroRows) (ix2 a j) = held m c t.val a j := by
  have ht : t.val < 64 := lt_of_lt_of_eq t.isLt N_0
  unfold held rows padded
  rw [dif_neg (by omega)]
  exact zeroRows_apply _ _ a j h8

theorem later_rows (t : Fin cfg0.N) (h0 : ¬t.val % 64 = 0) (a : Fin 264) (j : Fin 5632) (h6 : 6 ≤ a.val) (h8 : a.val < 8) :
    scM0_0.view.read (Elt Ideal) (scM0_0.view.writes (Elt Ideal) (carried m c t) []) (ix2 a j) = held m c t.val a j := by
  unfold carried held
  rw [View.writes_nil, Memref.IsWhole.read_unread]
  refine (kept_at m c ⟨t.val - 1, lt_of_le_of_lt (Nat.sub_le _ _) t.isLt⟩ a ⟨a.val, h8⟩ rfl j).trans ?_
  exact congrArg (fun s : ℕ => rows m c s j) (by simp only; omega)

/-! ### The blocks -/

/-- The reference's results, of the kernel's own arguments. -/
def Y : Buf (Elt Ideal) ((c.tc : Thread nD τ).loc main_v10_0) :=
  Cert.Reference3Ideal.Read.val_main_v75 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

def U : Buf (Elt Ideal) ((c.tc : Thread nD τ).loc main_v10_1) :=
  Cert.Reference3Ideal.Read.val_main_v77 (F := Ideal) (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))

theorem conv_eq (t : Fin cfg0.N) (r : Fin 256) (p : Fin 16384) (hp : p.val = t.val * 256 + r.val) (q : Fin 5632) :
    conv (iblk m c 6 t) (iblk m c 7 t) (held m c t.val) r q
      = convRow (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) p q := by
  have e8 : t.val * 256 + (8 + r.val - 6) = 2 + p.val := by omega
  have e7 : t.val * 256 + (7 + r.val - 6) = 1 + p.val := by omega
  have e6 : t.val * 256 + (6 + r.val - 6) = p.val := by omega
  unfold conv convRow held
  rw [tapsBlk m c t, tapsBlk m c t, tapsBlk m c t, biasBlk m c t, e8, e7, e6]
  unfold rows
  refine congrArg (· + _) ?_
  rw [add_assoc, add_comm, add_comm (_ * _) (_ * _), mul_comm (padded _ _ _ _ _ p.val q), mul_comm (padded _ _ _ _ _ (1 + p.val) q), mul_comm (padded _ _ _ _ _ (2 + p.val) q)]

theorem last_eq (t : Fin cfg0.N) (f : scM0_0.view.ty.Contents (Elt Ideal)) (L : List (View.Piece (Elt Ideal) S264x5632 .f32))
    (hL : ∀ (a : Fin 264) (j : Fin 5632), 6 ≤ a.val → a.val < 8 → scM0_0.view.read (Elt Ideal) (scM0_0.view.writes (Elt Ideal) f L) (ix2 a j) = held m c t.val a j)
    (r : Fin 256) (p : Fin 16384) (hp : p.val = t.val * 256 + r.val) (j : Fin 1024) :
    lastV (iblk m c 0 t) (gateV m c t) (iblk m c 9 t) (accV (upV (hidV m c t) (iblk m c 5 t)) (iblk m c 6 t) (iblk m c 7 t) (iblk m c 8 t)
      scM0_0.view f L 11 le_rfl) (ix2 r j) = Y m c (ix2 p j) := by
  rw [lastV_apply]
  unfold Y
  rw [y_apply]
  refine congrArg₂ (fun z w => normed z w j) (funext fun l => ?_) (funext fun l => finalBlk m c t l)
  rw [acc_apply scM0_0.view f L (upV (hidV m c t) (iblk m c 5 t)) (iblk m c 6 t) (iblk m c 7 t) (iblk m c 8 t) (held m c t.val) (stored_eq m c t) hL,
    xBlk m c t r p hp, gate_apply]
  unfold outRow term
  simp only [conv_eq m c t r p hp, downBlk m c t]

theorem block_at (t : Fin cfg0.N) (r : Fin 256) (p : Fin 16384) (hp : p.val = t.val * 256 + r.val) (j : Fin 1024) :
    (outsAt0 m c t.val t.isLt).1 (ix2 r j) = Y m c (ix2 p j) := by
  by_cases h0 : t.val % 64 = 0
  · rw [first_y m c t h0]
    exact last_eq m c t _ _ (first_rows m c t h0) r p hp j
  · rw [later_y m c t h0]
    exact last_eq m c t _ _ (later_rows m c t h0) r p hp j

theorem tail_block (t : Fin cfg0.N) (ht : t.val = 63) (r : Fin 8) (j : Fin 5632) : (outsAt0 m c t.val t.isLt).2.1 (ix2 r j) = U m c (ix2 r j) := by
  have hr := r.isLt
  rw [tail_at]
  unfold U
  rw [last_apply _ _ _ _ _ r ⟨16376 + r.val, by omega⟩ rfl j]
  unfold rows padded
  rw [dif_pos ⟨by omega, by omega⟩]
  exact congrArg (fun p : Fin 16384 => uRow _ _ _ _ _ p j) (Fin.ext (by simp only; omega))

/-! ### The arrays -/

theorem Y_eq : (dats m 0 c).arrAt 10 cfg0.N = Y m c := by
  refine (dats m 0 c).arrAt_eq_of_covers 10 _ (by decide +kernel) fun t hf y => ?_
  have h := (index t).2.2.2.2.2.2.2.2.2.2.1
  have ht : t.val < 64 := lt_of_lt_of_eq t.isLt N_0
  have y0 : (y 0).val < 256 := (y 0).isLt
  have e0 : ((win0_10.blk t).view.emb y 0).val = t.val * 256 + (y 0).val := by blk_simp [h]
  have e1 : ((win0_10.blk t).view.emb y 1).val = (y 1).val := by blk_simp [h]
  have hy : y = ix2 (y 0) (y 1) := funext fun a => match a with | 0 => rfl | 1 => rfl
  obtain ⟨p, hp⟩ : ∃ p : Fin 16384, p.val = t.val * 256 + (y 0).val := ⟨⟨t.val * 256 + (y 0).val, by omega⟩, rfl⟩
  have hi : (win0_10.blk t).view.emb y = ix2 p (y 1) := funext fun a => match a with
    | 0 => Fin.ext (e0.trans hp.symm)
    | 1 => Fin.ext e1
  blk_simp [h]
  rw [after0_10]
  refine Eq.trans ?_ (congrArg (Y m c) hi).symm
  exact (congrArg _ hy).trans (block_at m c t (y 0) p hp (y 1))

theorem last_point : ∀ t : Fin cfg0.N, (cfg0.win 11).flush t = true → t.val = 63 :=
  (by decide +kernel : ∀ t : Fin grid0.N, (cfg0.win 11).flush t = true → t.val = 63)

theorem U_eq : (dats m 0 c).arrAt 11 cfg0.N = U m c := by
  refine (dats m 0 c).arrAt_eq_of_covers 11 _ (by decide +kernel) fun t hf y => ?_
  have h := (index t).2.2.2.2.2.2.2.2.2.2.2
  have e0 : ((win0_11.blk t).view.emb y 0).val = (y 0).val := by blk_simp [h]
  have e1 : ((win0_11.blk t).view.emb y 1).val = (y 1).val := by blk_simp [h]
  have hy : y = ix2 (y 0) (y 1) := funext fun a => match a with | 0 => rfl | 1 => rfl
  have hi : (win0_11.blk t).view.emb y = ix2 (y 0) (y 1) := funext fun a => match a with
    | 0 => Fin.ext e0
    | 1 => Fin.ext e1
  have hl := last_point t hf
  blk_simp [h]
  rw [after0_11]
  refine Eq.trans ?_ (congrArg (U m c) hi).symm
  exact (congrArg _ hy).trans (tail_block m c t hl (y 0) (y 1))

theorem frame_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

set_option maxHeartbeats 4000000 in
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Y m c, fun c => U m c, ?_, ?_⟩
  · exact (θ_run Cert.Kernel3Ideal.defs _ _).mono (fun _ h c => ⟨(h c).1.trans (Y_eq m c), (h c).2.1.trans (U_eq m c), (h c).2.2⟩)
      (Cert.Kernel3Ideal.Value.run_blocks (F := Ideal) m ρ)
  · refine (θ_run Cert.Reference3Ideal.defs _ _).mono (fun _ h c => ⟨?_, ?_, (h c).2.2⟩) (Cert.Reference3Ideal.Value.run (F := Ideal) m' ρ')
    all_goals obtain ⟨e0, e1, e2, e3, e4, e5, e6, e7, e8, e9⟩ := hagree c
    · refine ((h c).1.trans (Cert.Reference3Ideal.Read.val_main_v75_eq m' c)).trans ?_
      rw [e0, e1, e2, e3, e4, e5, e6, e7, e8, e9]
      rfl
    · refine ((h c).2.1.trans (Cert.Reference3Ideal.Read.val_main_v77_eq _ _ _ _ _)).trans ?_
      rw [e0, e1, e2, e4, e5]
      rfl

end Cert.Proof.Ffn

end
-- ==== Proof.Mix.lean ====
/- The mixing call: both programs' output, read at a row and a column, is one expression in the arguments. -/
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Quiescent
public import Idealize.ShloMosaic.Lib.Pipeline.ValueKit
public import Idealize.ShloMosaic.Lib.Pointwise
public import Idealize.ShloMosaic.Lib.StableHlo.ReadAt

@[expose] public section

noncomputable section

open scoped BigOperators

namespace Cert.Proof.Mix

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- One output element: the residual plus the gated product of the mixed branches with one column of the output weight. -/
def mixed (oa ob ga gb : Fin 1024 → EReal) (wa wb : Fin 1024 → Fin 1024 → EReal) (x g : EReal) (wo : Fin 1024 → EReal) : EReal :=
  x + g * ∑ k, (ga k * ∑ l, oa l * wa l k + gb k * ∑ l, ob l * wb l k) * wo k

theorem reference_apply (x0 x1 : FVec Ideal S16384x1024 .bf16) (x2 x3 : FVec Ideal S16384x1024 .f32) (x4 : FVec Ideal S1x16384x1024 .f32)
    (x5 : FVec Ideal S1x1024 .f32) (x6 x7 x8 : FVec Ideal S1x1024x1024 .f32) (p : Fin 16384) (j : Fin 1024) :
    Cert.Reference4Ideal.Read.val_main_v14 (F := Ideal) x0 x1 x2 x3 x4 x5 x6 x7 x8 (ix2 p j)
      = mixed (fun l => x0 (ix2 p l)) (fun l => x1 (ix2 p l)) (fun k => x2 (ix2 p k)) (fun k => x3 (ix2 p k)) (fun l k => x6 (ix3 0 l k))
          (fun l k => x7 (ix3 0 l k)) (x4 (ix3 0 p j)) (x5 (ix2 0 j)) (fun k => x8 (ix3 0 k j)) := by
  unfold Cert.Reference4Ideal.Read.val_main_v14 Cert.Reference4Ideal.Read.val_main_v13 Cert.Reference4Ideal.Read.val_main_v12 Cert.Reference4Ideal.Read.val_main_v11
    Cert.Reference4Ideal.Read.val_main_v10 Cert.Reference4Ideal.Read.val_main_v9 Cert.Reference4Ideal.Read.val_main_v8 Cert.Reference4Ideal.Read.val_main_v7
    Cert.Reference4Ideal.Read.val_main_v6 Cert.Reference4Ideal.Read.val_main_v5 Cert.Reference4Ideal.Read.val_main_v4 Cert.Reference4Ideal.Read.val_main_v3
    Cert.Reference4Ideal.Read.val_main_v2 Cert.Reference4Ideal.Read.val_main_v1 Cert.Reference4Ideal.Read.val_main_v0
  unfold mixed
  pointwise

theorem block_apply (x0 x1 : FVec Ideal S512x1024 .bf16) (x2 x3 x4 : FVec Ideal S512x1024 .f32)
    (x5 : FVec Ideal S1x1024 .f32) (x6 x7 x8 : FVec Ideal S1024x1024 .bf16) (r : Fin 512) (j : Fin 1024) :
    out0_9 (F := Ideal) x0 x1 x2 x3 x4 x5 x6 x7 x8 (ix2 r j)
      = mixed (fun l => x0 (ix2 r l)) (fun l => x1 (ix2 r l)) (fun k => x2 (ix2 r k)) (fun k => x3 (ix2 r k)) (fun l k => x6 (ix2 l k))
          (fun l k => x7 (ix2 l k)) (x4 (ix2 r j)) (x5 (ix2 0 j)) (fun k => x8 (ix2 k j)) := by
  unfold out0_9
  refine (congrFun (View.canon_cons_unit_lit _ _ _ (by decide)) _).trans ?_
  unfold k0_pay1 mixed
  pointwise

theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0])

/-! ### What the host hands to the call -/

theorem weightA (i j : Fin 1024) : V m c main_v1 (ix2 i j) = m ((c.tc : Thread nD τ).loc main_arg6) (ix3 0 i j) := by
  unfold V; after_reads_at

theorem weightB (i j : Fin 1024) : V m c main_v3 (ix2 i j) = m ((c.tc : Thread nD τ).loc main_arg7) (ix3 0 i j) := by
  unfold V; after_reads_at

theorem weightO (i j : Fin 1024) : V m c main_v5 (ix2 i j) = m ((c.tc : Thread nD τ).loc main_arg8) (ix3 0 i j) := by
  unfold V; after_reads_at

theorem rowsX (i : Fin 16384) (j : Fin 1024) : V m c main_v6 (ix2 i j) = m ((c.tc : Thread nD τ).loc main_arg4) (ix3 0 i j) := by
  unfold V; after_reads_at

section Blocks

variable (t : Fin cfg0.N) (r : Fin 512) (p : Fin 16384) (hp : p.val = t.val * 512 + r.val)
include hp

theorem oaBlk (j : Fin 1024) : iblk m c 0 t (ix2 r j) = m ((c.tc : Thread nD τ).loc main_arg0) (ix2 p j) := by
  have h := (index t).1
  blk_ext [iblk, V_main_arg0, h, hp]

theorem obBlk (j : Fin 1024) : iblk m c 1 t (ix2 r j) = m ((c.tc : Thread nD τ).loc main_arg1) (ix2 p j) := by
  have h := (index t).2.1
  blk_ext [iblk, V_main_arg1, h, hp]

theorem gaBlk (j : Fin 1024) : iblk m c 2 t (ix2 r j) = m ((c.tc : Thread nD τ).loc main_arg2) (ix2 p j) := by
  have h := (index t).2.2.1
  blk_ext [iblk, V_main_arg2, h, hp]

theorem gbBlk (j : Fin 1024) : iblk m c 3 t (ix2 r j) = m ((c.tc : Thread nD τ).loc main_arg3) (ix2 p j) := by
  have h := (index t).2.2.2.1
  blk_ext [iblk, V_main_arg3, h, hp]

theorem xBlk (j : Fin 1024) : iblk m c 4 t (ix2 r j) = m ((c.tc : Thread nD τ).loc main_arg4) (ix3 0 p j) := by
  have h := (index t).2.2.2.2.1
  refine Eq.trans ?_ (rowsX m c p j)
  blk_ext [iblk, h, hp]

omit hp

theorem gBlk (j : Fin 1024) : iblk m c 5 t (ix2 0 j) = m ((c.tc : Thread nD τ).loc main_arg5) (ix2 0 j) := by
  have h := (index t).2.2.2.2.2.1
  blk_ext [iblk, V_main_arg5, h]

theorem waBlk (i j : Fin 1024) : iblk m c 6 t (ix2 i j) = m ((c.tc : Thread nD τ).loc main_arg6) (ix3 0 i j) := by
  have h := (index t).2.2.2.2.2.2.1
  refine Eq.trans ?_ (weightA m c i j)
  blk_ext [iblk, h]

theorem wbBlk (i j : Fin 1024) : iblk m c 7 t (ix2 i j) = m ((c.tc : Thread nD τ).loc main_arg7) (ix3 0 i j) := by
  have h := (index t).2.2.2.2.2.2.2.1
  refine Eq.trans ?_ (weightB m c i j)
  blk_ext [iblk, h]

theorem woBlk (i j : Fin 1024) : iblk m c 8 t (ix2 i j) = m ((c.tc : Thread nD τ).loc main_arg8) (ix3 0 i j) := by
  have h := (index t).2.2.2.2.2.2.2.2.1
  refine Eq.trans ?_ (weightO m c i j)
  blk_ext [iblk, h]

end Blocks

/-- The reference's result, of the kernel's own arguments. -/
def target : Buf (Elt Ideal) ((c.tc : Thread nD τ).loc main_v7) :=
  Cert.Reference4Ideal.Read.val_main_v14 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

theorem block_at (t : Fin cfg0.N) (r : Fin 512) (p : Fin 16384) (hp : p.val = t.val * 512 + r.val) (j : Fin 1024) :
    out0_9 (F := Ideal) (iblk m c 0 t) (iblk m c 1 t) (iblk m c 2 t) (iblk m c 3 t) (iblk m c 4 t) (iblk m c 5 t) (iblk m c 6 t) (iblk m c 7 t)
      (iblk m c 8 t) (ix2 r j) = target m c (ix2 p j) := by
  refine (block_apply _ _ _ _ _ _ _ _ _ r j).trans (Eq.trans ?_ (reference_apply _ _ _ _ _ _ _ _ _ p j).symm)
  simp only [oaBlk m c t r p hp, obBlk m c t r p hp, gaBlk m c t r p hp, gbBlk m c t r p hp, xBlk m c t r p hp, gBlk m c t, waBlk m c t,
    wbBlk m c t, woBlk m c t]

theorem array_eq : (dats m 0 c).arrAt 9 cfg0.N = target m c := by
  refine (dats m 0 c).arrAt_eq_of_covers 9 _ (by decide +kernel) fun t hf y => ?_
  have h := (index t).2.2.2.2.2.2.2.2.2
  have ht : t.val < 32 := lt_of_lt_of_eq t.isLt N_0
  have y0 : (y 0).val < 512 := (y 0).isLt
  have e0 : ((win0_9.blk t).view.emb y 0).val = t.val * 512 + (y 0).val := by blk_simp [h]
  have e1 : ((win0_9.blk t).view.emb y 1).val = (y 1).val := by blk_simp [h]
  have hy : y = ix2 (y 0) (y 1) := funext fun a => match a with | 0 => rfl | 1 => rfl
  obtain ⟨p, hp⟩ : ∃ p : Fin 16384, p.val = t.val * 512 + (y 0).val := ⟨⟨t.val * 512 + (y 0).val, by omega⟩, rfl⟩
  have hi : (win0_9.blk t).view.emb y = ix2 p (y 1) := funext fun a => match a with
    | 0 => Fin.ext (e0.trans hp.symm)
    | 1 => Fin.ext e1
  blk_simp [h]
  rw [after0_9]
  refine Eq.trans ?_ (congrArg (target m c) hi).symm
  exact (congrArg _ hy).trans (block_at m c t (y 0) p hp (y 1))

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => target m c, ?_, ?_⟩
  · exact (θ_run Cert.Kernel4Ideal.defs _ _).mono (fun _ h c => ⟨(h c).1.trans (array_eq m c), (h c).2⟩)
      (Cert.Kernel4Ideal.Value.run_blocks (F := Ideal) m ρ)
  · refine (θ_run Cert.Reference4Ideal.defs _ _).mono (fun _ h c => ⟨?_, (h c).2⟩) (Cert.Reference4Ideal.Value.run (F := Ideal) m' ρ')
    obtain ⟨e0, e1, e2, e3, e4, e5, e6, e7, e8⟩ := hagree c
    refine ((h c).1.trans (Cert.Reference4Ideal.Read.val_main_v14_eq _ _ _ _ _ _ _ _ _)).trans ?_
    rw [e0, e1, e2, e3, e4, e5, e6, e7, e8]
    rfl

end Cert.Proof.Mix

end
-- ==== Proof.Sampled.lean ====
/- The input projection of the sample's rows: each row has its own modulation, and four of the results leave. -/
module

public import proofs.«01_k».proof.Proof.Columns
public import proofs.«01_k».proof.Proof.Gen.Kernel5Ideal.Value
public import proofs.«01_k».proof.Proof.Gen.Reference5Ideal.Run
public import proofs.«01_k».proof.Proof.Gen.Reference5Ideal.Read

@[expose] public section

noncomputable section

open scoped BigOperators

namespace Cert.Proof.InProj.Sample

open Cert.Kernel5Ideal Cert.Kernel5Ideal.Gen Idealize.ShloMosaic Idealize.ShloMosaic.TcCoe Idealize.SL.Sem
open Idealize.ShloMosaic.Pipeline (Dat)

/-! ### The reference -/

section Reference

open Cert.Reference5Ideal.Read

variable (x0 x1 x2 : FVec Ideal S256x1024 .f32) (x3 : FVec Ideal S1x1024 .f32) (x4 : FVec Ideal S1x1024x9816 .f32) (x5 x6 : FVec Ideal S1x64 .f32)

def zRow (p : Fin 256) (j : Fin 9816) : EReal :=
  ∑ k, hidden (fun l => x0 (ix2 p l)) (fun l => x3 (ix2 0 l)) (fun l => x2 (ix2 p l)) (fun l => x1 (ix2 p l)) k * x4 (ix3 0 k j)

theorem hidden_apply (p : Fin 256) (k : Fin 1024) : val_main_v17 (F := Ideal) x0 x1 x2 x3 (ix2 p k)
    = hidden (fun l => x0 (ix2 p l)) (fun l => x3 (ix2 0 l)) (fun l => x2 (ix2 p l)) (fun l => x1 (ix2 p l)) k := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
    val_main_cst val_main_cst_0 val_main_cst_1 val_main_cst_2 hidden eps
  pointwise

theorem z_apply (p : Fin 256) (j : Fin 9816) : val_main_v19 (F := Ideal) x0 x1 x2 x3 x4 (ix2 p j) = zRow x0 x1 x2 x3 x4 p j := by
  have e : val_main_v19 (F := Ideal) x0 x1 x2 x3 x4 (ix2 p j) = ∑ k, val_main_v17 (F := Ideal) x0 x1 x2 x3 (ix2 p k) * x4 (ix3 0 k j) := by
    unfold val_main_v19 val_main_v18
    generalize val_main_v17 (F := Ideal) x0 x1 x2 x3 = h
    pointwise
  rw [e]
  unfold zRow
  simp only [hidden_apply]

variable (p : Fin 256) (q : Fin 9816)

theorem conv_apply (j : Fin 3072) (hq : q.val = j.val) : val_main_v20 (F := Ideal) x0 x1 x2 x3 x4 (ix2 p j) = zRow x0 x1 x2 x3 x4 p q := by
  rw [← z_apply]
  unfold val_main_v20
  generalize val_main_v19 (F := Ideal) x0 x1 x2 x3 x4 = z
  pointwise
  exact congrArg (fun q => z (ix2 p q)) (Fin.ext hq.symm)

theorem k_apply (j : Fin 1024) (hq : q.val = 5136 + j.val) : val_main_v25 (F := Ideal) x0 x1 x2 x3 x4 (ix2 p j) = zRow x0 x1 x2 x3 x4 p q := by
  rw [← z_apply]
  unfold val_main_v25
  generalize val_main_v19 (F := Ideal) x0 x1 x2 x3 x4 = z
  pointwise
  exact congrArg (fun q => z (ix2 p q)) (Fin.ext hq.symm)

theorem v_apply (j : Fin 1024) (hq : q.val = 6160 + j.val) : val_main_v26 (F := Ideal) x0 x1 x2 x3 x4 (ix2 p j) = zRow x0 x1 x2 x3 x4 p q := by
  rw [← z_apply]
  unfold val_main_v26
  generalize val_main_v19 (F := Ideal) x0 x1 x2 x3 x4 = z
  pointwise
  exact congrArg (fun q => z (ix2 p q)) (Fin.ext hq.symm)

theorem ki_apply (j : Fin 64) (hq : q.val = 7696 + j.val) : val_main_v28 (F := Ideal) x0 x1 x2 x3 x4 (ix2 p j) = zRow x0 x1 x2 x3 x4 p q := by
  rw [← z_apply]
  unfold val_main_v28
  generalize val_main_v19 (F := Ideal) x0 x1 x2 x3 x4 = z
  pointwise
  exact congrArg (fun q => z (ix2 p q)) (Fin.ext hq.symm)

theorem normal_apply (i : Fin 64) (z : Fin 64 → EReal) (hz : ∀ l, val_main_v28 (F := Ideal) x0 x1 x2 x3 x4 (ix2 p l) = z l) :
    val_main_v55 (F := Ideal) x0 x1 x2 x3 x4 x5 x6 (ix2 p i) = normal z (fun l => x5 (ix2 0 l)) (fun l => x6 (ix2 0 l)) i := by
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32
    val_main_cst_3 val_main_cst_4 val_main_cst_5 val_main_cst_6 val_main_cst_7 normal centred eps
  generalize val_main_v28 (F := Ideal) x0 x1 x2 x3 x4 = k at hz
  pointwise
  simp only [hz]

end Reference

variable (m : (ℓ : Loc nD τ sig) → Buf (Elt Ideal) ℓ) (c : Dev nD)

/-! ### What the host hands to the call -/

/-- The host's values once the weight's ten pieces are cut. -/
def cut (b : Ref sig .tc) : Buf (Elt Ideal) ((c : Thread nD τ).loc b) := StableHlo.upto hostOps0 (fun b => m (c, b)) 13 (Proc.tc.devRef b)

def pieces : List ((s : Shape) × (s.Idx → EReal)) :=
  [⟨S1024x4096, cut m c main_v1⟩, ⟨S1024x3072, cut m c main_v2⟩, ⟨S1024x2048, cut m c main_v3⟩, ⟨S1024x512, cut m c main_v4⟩,
    ⟨S1024x64, cut m c main_v5⟩, ⟨S1024x16, cut m c main_v6⟩, ⟨S1024x8, cut m c main_v7⟩, ⟨S1024x40, cut m c main_v8⟩,
    ⟨S1024x64, cut m c main_v9⟩, ⟨S1024x64, cut m c main_v10⟩]

set_option maxHeartbeats 2000000 in
theorem joined : V m c main_v12 = concatenate S1024x9984 1 (pieces m c)
    concatenates_S1024x4096_S1024x3072_S1024x2048_S1024x512_S1024x64_S1024x16_S1024x8_S1024x40_S1024x64_S1024x64_S1024x9984_d1 := by
  unfold V
  after_reads_simp
  rfl

section Pieces

variable (k : Fin 1024) (j : Fin 9816) (q : Fin 9984)

theorem convCol (h : q.val < 4096) (hj : j.val = q.val) : V m c main_v12 (ix2 k q) = m ((c.tc : Thread nD τ).loc main_arg4) (ix3 0 k j) := by
  rw [joined]
  refine (concat_at (pieces m c) rfl _ k q (w := 4096) (n := 0) (by show 0 < 10; omega) _ rfl 0 (by decide) (by omega) (by omega)).trans ?_
  unfold cut; after_reads_at
  exact congrArg (fun j : Fin 9816 => m ((c.tc : Thread nD τ).loc main_arg4) (ix3 0 k j)) (Fin.ext (by simp only; omega))

theorem keyCol (h : 4096 ≤ q.val ∧ q.val < 7168) (hj : j.val = q.val + 16) : V m c main_v12 (ix2 k q) = m ((c.tc : Thread nD τ).loc main_arg4) (ix3 0 k j) := by
  rw [joined]
  refine (concat_at (pieces m c) rfl _ k q (w := 3072) (n := 1) (by show 1 < 10; omega) _ rfl 4096 (by decide) (by omega) (by omega)).trans ?_
  unfold cut; after_reads_at
  exact congrArg (fun j : Fin 9816 => m ((c.tc : Thread nD τ).loc main_arg4) (ix3 0 k j)) (Fin.ext (by simp only; omega))

theorem idxCol (h : 9728 ≤ q.val ∧ q.val < 9792) (hj : j.val = q.val - 2032) : V m c main_v12 (ix2 k q) = m ((c.tc : Thread nD τ).loc main_arg4) (ix3 0 k j) := by
  rw [joined]
  refine (concat_at (pieces m c) rfl _ k q (w := 64) (n := 4) (by show 4 < 10; omega) _ rfl 9728 (by decide) (by omega) (by omega)).trans ?_
  unfold cut; after_reads_at
  exact congrArg (fun j : Fin 9816 => m ((c.tc : Thread nD τ).loc main_arg4) (ix3 0 k j)) (Fin.ext (by simp only; omega))

end Pieces

theorem normW (k : Fin 1024) : V m c main_v31 (ix2 0 k) = m ((c.tc : Thread nD τ).loc main_arg3) (ix2 0 k) := by
  unfold V; after_reads_at

theorem scale0 (j : Fin 128) (i : Fin 64) (h : j.val = i.val) : V m c main_v22 (ix2 0 j) = m ((c.tc : Thread nD τ).loc main_arg5) (ix2 0 i) := by
  unfold V; after_reads_at
  rw [dif_pos (by omega)]
  after_reads_at
  exact congrArg (fun j : Fin 64 => m ((c.tc : Thread nD τ).loc main_arg5) (ix2 (0 : Fin 1) j)) (Fin.ext h : (⟨j.val, by omega⟩ : Fin 64) = i)

theorem shift0 (j : Fin 128) (i : Fin 64) (h : j.val = i.val) : V m c main_v29 (ix2 0 j) = m ((c.tc : Thread nD τ).loc main_arg6) (ix2 0 i) := by
  unfold V; after_reads_at
  rw [dif_pos (by omega)]
  after_reads_at
  exact congrArg (fun j : Fin 64 => m ((c.tc : Thread nD τ).loc main_arg6) (ix2 (0 : Fin 1) j)) (Fin.ext h : (⟨j.val, by omega⟩ : Fin 64) = i)

/-! ### The one block, which is each whole array -/

theorem index_in : ∀ t : Fin cfg0.N, win0_0.index t = ![0, 0] ∧ win0_1.index t = ![0, 0] ∧ win0_2.index t = ![0, 0] ∧ win0_3.index t = ![0, 0]
    ∧ win0_4.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_6.index t = ![0, 0] ∧ win0_7.index t = ![0, 0])

theorem index_out : ∀ t : Fin cfg0.N, win0_8.index t = ![0, 0] ∧ win0_11.index t = ![0, 0] ∧ win0_12.index t = ![0, 0] ∧ win0_19.index t = ![0, 0] :=
  (by decide +kernel : ∀ t : Fin grid0.N, win0_8.index t = ![0, 0] ∧ win0_11.index t = ![0, 0] ∧ win0_12.index t = ![0, 0]
    ∧ win0_19.index t = ![0, 0])

section Blocks

variable (t : Fin cfg0.N) (r : Fin 256)

theorem xBlk (k : Fin 1024) : iblk m c 0 t (ix2 r k) = m ((c.tc : Thread nD τ).loc main_arg0) (ix2 r k) := by
  have h := (index_in t).1
  blk_ext [iblk, V_main_arg0, h]

theorem shBlk (k : Fin 1024) : iblk m c 1 t (ix2 r k) = m ((c.tc : Thread nD τ).loc main_arg1) (ix2 r k) := by
  have h := (index_in t).2.1
  blk_ext [iblk, V_main_arg1, h]

theorem scBlk (k : Fin 1024) : iblk m c 2 t (ix2 r k) = m ((c.tc : Thread nD τ).loc main_arg2) (ix2 r k) := by
  have h := (index_in t).2.2.1
  blk_ext [iblk, V_main_arg2, h]

theorem nwBlk (k : Fin 1024) : iblk m c 3 t (ix2 0 k) = m ((c.tc : Thread nD τ).loc main_arg3) (ix2 0 k) := by
  have h := (index_in t).2.2.2.1
  refine Eq.trans ?_ (normW m c k)
  blk_ext [iblk, h]

theorem wBlk (k : Fin 1024) (q : Fin 9984) : iblk m c 4 t (ix2 k q) = V m c main_v12 (ix2 k q) := by
  have h := (index_in t).2.2.2.2.1
  blk_ext [iblk, h]

theorem gBlk (j : Fin 128) : iblk m c 6 t (ix2 0 j) = V m c main_v22 (ix2 0 j) := by
  have h := (index_in t).2.2.2.2.2.1
  blk_ext [iblk, h]

theorem bBlk (j : Fin 128) : iblk m c 7 t (ix2 0 j) = V m c main_v29 (ix2 0 j) := by
  have h := (index_in t).2.2.2.2.2.2
  blk_ext [iblk, h]

/-- The normed and modulated rows. -/
def H : FVec Ideal S256x1024 .bf16 := k0_pay22 (F := Ideal) (iblk m c 0 t) (iblk m c 1 t) (iblk m c 2 t) (iblk m c 3 t) (iblk m c 4 t) (iblk m c 5 t)
    (iblk m c 6 t) (iblk m c 7 t)

theorem hidden_rows (x0 x1 x2 : FVec Ideal S256x1024 .f32) (x3 : FVec Ideal S1x1024 .f32) (k : Fin 1024) :
    k0_pay1 (F := Ideal) (View.ld x0 r0_0) (View.ld x3 r0_1) (View.ld x2 r0_0) (View.ld x1 r0_0) (ix2 r k)
    = hidden (fun l => x0 (ix2 r l)) (fun l => x3 (ix2 0 l)) (fun l => x2 (ix2 r l)) (fun l => x1 (ix2 r l)) k := by
  unfold k0_pay1 hidden eps
  pointwise

/-- The reference's projected rows, of the kernel's own arguments. -/
def Z (p : Fin 256) (j : Fin 9816) : EReal := zRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p j

theorem zcol (q : Fin 9984) (j : Fin 9816) (hw : ∀ k, V m c main_v12 (ix2 k q) = m ((c.tc : Thread nD τ).loc main_arg4) (ix3 0 k j)) :
    dotCol (H m c t) (iblk m c 4 t) r q = Z m c r j := by
  unfold dotCol Z zRow
  refine Finset.sum_congr rfl fun k _ => ?_
  have e : H m c t (ix2 r k) = _ := hidden_rows r _ _ _ _ k
  simp only [xBlk m c t r, scBlk m c t r, shBlk m c t r, nwBlk m c t] at e
  rw [e, wBlk m c t k q, hw k]

end Blocks

/-- An entry of the one block lies where it lay. -/
theorem rows_of {N : ℕ} (y e : (⟨2, ![256, N]⟩ : Shape).Idx) (e0 : (e 0).val = (y 0).val) (e1 : (e 1).val = (y 1).val) :
    ∃ (r : Fin 256) (j : Fin N), y = ix2 r j ∧ e = ix2 r j :=
  ⟨y 0, y 1, funext fun a => match a with | 0 => rfl | 1 => rfl, funext fun a => match a with | 0 => Fin.ext e0 | 1 => Fin.ext e1⟩

/-! ### The results -/

section Targets

open Cert.Reference5Ideal.Read

def conv : Buf (Elt Ideal) ((c.tc : Thread nD τ).loc main_v32_0) := val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

def kk : Buf (Elt Ideal) ((c.tc : Thread nD τ).loc main_v32_3) := val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

def vv : Buf (Elt Ideal) ((c.tc : Thread nD τ).loc main_v32_4) := val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

def ki : Buf (Elt Ideal) ((c.tc : Thread nD τ).loc main_v32_11) := val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

end Targets

/-- Each of the three tiles of the first result is the product of the same rows with its columns. -/
theorem tile0 (W : FVec Ideal S1024x9984 .bf16) (r : Fin 256) (q : Fin 9984) (v a b : FVec Ideal S256x1024 .f32) (g : FVec Ideal S1x1024 .f32)
    (j : Fin 1024) (hq : j.val = q.val) : k0_pay2 (F := Ideal) v g a b (View.ld W r0_2) (ix2 r j) = dotCol (k0_pay1 (F := Ideal) v g a b) W r q := by
  unfold k0_pay2
  generalize k0_pay1 (F := Ideal) v g a b = H
  pointwise; exact dotCol_of H W r q _ hq

theorem tile1 (W : FVec Ideal S1024x9984 .bf16) (r : Fin 256) (q : Fin 9984) (v a b : FVec Ideal S256x1024 .f32) (g : FVec Ideal S1x1024 .f32)
    (j : Fin 1024) (hq : 1024 + j.val = q.val) :
    k0_pay3 (F := Ideal) v g a b (View.ld W r0_4) (ix2 r j) = dotCol (k0_pay1 (F := Ideal) v g a b) W r q := by
  unfold k0_pay3
  generalize k0_pay1 (F := Ideal) v g a b = H
  pointwise; exact dotCol_of H W r q _ hq

section At

variable (t : Fin cfg0.N) (r : Fin 256)

theorem conv_at (j : Fin 3072) : out0_8 (F := Ideal) (iblk m c 0 t) (iblk m c 1 t) (iblk m c 2 t) (iblk m c 3 t) (iblk m c 4 t) (iblk m c 5 t)
    (iblk m c 6 t) (iblk m c 7 t) (ix2 r j) = conv m c (ix2 r j) := by
  refine Eq.trans ?_ ((zcol m c t r ⟨j.val, by omega⟩ ⟨j.val, by omega⟩ fun k => convCol m c k _ _ (show j.val < 4096 by omega) rfl).trans
    (conv_apply _ _ _ _ _ r _ j rfl).symm)
  unfold out0_8
  canon_tiles x h
  all_goals
    have hx : x = ix2 r (x 1) := funext fun a => match a with | 0 => Fin.ext h0.symm | 1 => rfl
    rw [hx]
  · exact pay4_apply (H m c t) _ r _ (x 1) h1.symm
  · exact tile1 _ r _ _ _ _ _ (x 1) h1.symm
  · exact tile0 _ r _ _ _ _ _ (x 1) h1.symm

theorem kk_at (j : Fin 1024) : out0_11 (F := Ideal) (iblk m c 0 t) (iblk m c 1 t) (iblk m c 2 t) (iblk m c 3 t) (iblk m c 4 t) (iblk m c 5 t)
    (iblk m c 6 t) (iblk m c 7 t) (ix2 r j) = kk m c (ix2 r j) := by
  unfold out0_11
  refine (congrFun (View.canon_cons_unit_lit _ _ _ (by decide)) _).trans ?_
  exact (pay7_apply (H m c t) _ r ⟨5120 + j.val, by omega⟩ j rfl).trans ((zcol m c t r _ ⟨5136 + j.val, by omega⟩ fun k =>
    keyCol m c k _ _ (by simp only; omega) (by simp only; omega)).trans (k_apply _ _ _ _ _ r _ j rfl).symm)

theorem vv_at (j : Fin 1024) : out0_12 (F := Ideal) (iblk m c 0 t) (iblk m c 1 t) (iblk m c 2 t) (iblk m c 3 t) (iblk m c 4 t) (iblk m c 5 t)
    (iblk m c 6 t) (iblk m c 7 t) (ix2 r j) = vv m c (ix2 r j) := by
  unfold out0_12
  refine (congrFun (View.canon_cons_unit_lit _ _ _ (by decide)) _).trans ?_
  exact (pay9_apply (H m c t) _ r ⟨6144 + j.val, by omega⟩ j rfl).trans ((zcol m c t r _ ⟨6160 + j.val, by omega⟩ fun k =>
    keyCol m c k _ _ (by simp only; omega) (by simp only; omega)).trans (v_apply _ _ _ _ _ r _ j rfl).symm)

theorem low (i : Fin 64) (j : Fin 128) (hj : j.val = i.val) (v : FVec Ideal S256x128 .f32) (w b : FVec Ideal S2x128 .f32) (z g h : Fin 64 → EReal)
    (hz : ∀ (l : Fin 64) (x : Fin 128), x.val = l.val → v (ix2 r x) = z l) (hg : w (ix2 0 j) = g i) (hh : b (ix2 0 j) = h i) :
    k0_pay18 (F := Ideal) v (View.ld w r0_21) (View.ld b r0_21) (ix2 r j) = normal z g h i :=
  low_half v w b r j i hj z g h hz hg hh

theorem cut_low (w : FVec Ideal S256x128 .f32) (j : Fin 64) : k0_pay20 (F := Ideal) w (ix2 r j) = w (ix2 r ⟨j.val, by omega⟩) := by
  unfold k0_pay20
  pointwise

theorem ki_at (j : Fin 64) : out0_19 (F := Ideal) (iblk m c 0 t) (iblk m c 1 t) (iblk m c 2 t) (iblk m c 3 t) (iblk m c 4 t) (iblk m c 5 t)
    (iblk m c 6 t) (iblk m c 7 t) (ix2 r j) = ki m c (ix2 r j) := by
  refine Eq.trans ?_ (normal_apply _ _ _ _ _ _ _ r j _ fun l => ki_apply _ _ _ _ _ r ⟨7696 + l.val, by omega⟩ l rfl).symm
  unfold out0_19
  refine (congrFun (View.canon_cons_unit_lit _ _ _ (by decide)) _).trans ?_
  refine Eq.trans (cut_low r _ j) (low r j ⟨j.val, by omega⟩ rfl _ _ _ _ _ _ (fun l x hx => (pay14_apply (H m c t) _ r ⟨9728 + x.val, by omega⟩ x rfl).trans
      (zcol m c t r _ ⟨7696 + l.val, by omega⟩ fun k => idxCol m c k _ _ (by simp only; omega) (by simp only; omega)))
    ((gBlk m c t _).trans (scale0 m c _ j rfl)) ((bBlk m c t _).trans (shift0 m c _ j rfl)))

end At

theorem conv_eq : (dats m 0 c).arrAt 8 cfg0.N = conv m c := by
  refine (dats m 0 c).arrAt_eq_of_covers 8 _ (by decide +kernel) fun t hf y => ?_
  have h := (index_out t).1
  obtain ⟨r, j, hy, he⟩ := rows_of y ((win0_8.blk t).view.emb y) (by blk_simp [h]) (by blk_simp [h])
  blk_simp [h]
  rw [after0_8]
  exact ((congrArg _ hy).trans (conv_at m c t r j)).trans (congrArg (conv m c) he).symm

theorem kk_eq : (dats m 0 c).arrAt 11 cfg0.N = kk m c := by
  refine (dats m 0 c).arrAt_eq_of_covers 11 _ (by decide +kernel) fun t hf y => ?_
  have h := (index_out t).2.1
  obtain ⟨r, j, hy, he⟩ := rows_of y ((win0_11.blk t).view.emb y) (by blk_simp [h]) (by blk_simp [h])
  blk_simp [h]
  rw [after0_11]
  exact ((congrArg _ hy).trans (kk_at m c t r j)).trans (congrArg (kk m c) he).symm

theorem vv_eq : (dats m 0 c).arrAt 12 cfg0.N = vv m c := by
  refine (dats m 0 c).arrAt_eq_of_covers 12 _ (by decide +kernel) fun t hf y => ?_
  have h := (index_out t).2.2.1
  obtain ⟨r, j, hy, he⟩ := rows_of y ((win0_12.blk t).view.emb y) (by blk_simp [h]) (by blk_simp [h])
  blk_simp [h]
  rw [after0_12]
  exact ((congrArg _ hy).trans (vv_at m c t r j)).trans (congrArg (vv m c) he).symm

theorem ki_eq : (dats m 0 c).arrAt 19 cfg0.N = ki m c := by
  refine (dats m 0 c).arrAt_eq_of_covers 19 _ (by decide +kernel) fun t hf y => ?_
  have h := (index_out t).2.2.2
  obtain ⟨r, j, hy, he⟩ := rows_of y ((win0_19.blk t).view.emb y) (by blk_simp [h]) (by blk_simp [h])
  blk_simp [h]
  rw [after0_19]
  exact ((congrArg _ hy).trans (ki_at m c t r j)).trans (congrArg (ki m c) he).symm

theorem frame_reference : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

set_option maxHeartbeats 2000000 in
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => conv m c, fun c => kk m c, fun c => vv m c, fun c => ki m c, ?_, ?_⟩
  · refine (θ_run Cert.Kernel5Ideal.defs _ _).mono (fun _ h c => ?_) (Cert.Kernel5Ideal.Value.run_blocks (F := Ideal) m ρ)
    obtain ⟨h8, -, -, h11, h12, -, -, -, -, -, -, h19, -, -, -, hargs⟩ := h c
    exact ⟨h8.trans (conv_eq m c), h11.trans (kk_eq m c), h12.trans (vv_eq m c), h19.trans (ki_eq m c), hargs⟩
  · refine (θ_run Cert.Reference5Ideal.defs _ _).mono (fun _ h c => ?_) (Cert.Reference5Ideal.Value.run (F := Ideal) m' ρ')
    obtain ⟨e0, e1, e2, e3, e4, e5, e6⟩ := hagree c
    obtain ⟨h8, h11, h12, h19, hargs⟩ := h c
    refine ⟨(h8.trans (Cert.Reference5Ideal.Read.val_main_v20_eq _ _ _ _ _)).trans ?_,
      (h11.trans (Cert.Reference5Ideal.Read.val_main_v25_eq _ _ _ _ _)).trans ?_,
      (h12.trans (Cert.Reference5Ideal.Read.val_main_v26_eq _ _ _ _ _)).trans ?_,
      (h19.trans (Cert.Reference5Ideal.Read.val_main_v55_eq _ _)).trans ?_, hargs⟩
    all_goals
      rw [e0, e1, e2, e3, e4]
      try rw [e5, e6]
      rfl

end Cert.Proof.InProj.Sample

end
-- ==== Proof.FfnSampleReference.lean ====
/- The feed-forward reference of the sample's tokens, read at a row and a column. -/
module

public import proofs.«01_k».proof.Proof.FfnReference
public import proofs.«01_k».proof.Proof.Gen.Reference6Ideal.Run
public import proofs.«01_k».proof.Proof.Gen.Reference6Ideal.Read

@[expose] public section

noncomputable section

open scoped BigOperators

namespace Cert.Proof.Ffn.Sample

open Cert.Reference6Ideal Cert.Reference6Ideal.Gen Cert.Reference6Ideal.Read Idealize.ShloMosaic Idealize.ShloMosaic.TcCoe Idealize.SL.Sem

variable (x0 x1 x2 x3 : FVec Ideal S256x1024 .f32) (x4 : FVec Ideal S256x5632 .f32) (x5 : FVec Ideal S1x1024 .f32) (x6 : FVec Ideal S1x1024x5632 .f32)
  (x7 : FVec Ideal S1x3x5632 .f32) (x8 : FVec Ideal S1x5632 .f32) (x9 : FVec Ideal S1x2816x1024 .f32) (x10 : FVec Ideal S1024 .f32)

/-- The up-projection at one row and column. -/
def uRow (p : Fin 256) (j : Fin 5632) : EReal :=
  ∑ k, hidden (fun l => x0 (ix2 p l)) (fun l => x5 (ix2 0 l)) (fun l => x2 (ix2 p l)) (fun l => x1 (ix2 p l)) k * x6 (ix3 0 k j)

/-- The same with the history in the first half of every eight rows. -/
def mixedRow (p : Fin 256) (j : Fin 5632) : EReal := if p.val % 8 < 4 then x4 (ix2 p j) else uRow x0 x1 x2 x5 x6 p j

def convRow (p : Fin 256) (j : Fin 5632) : EReal :=
  mixedRow x0 x1 x2 x4 x5 x6 ⟨p.val - 2, by omega⟩ j * x7 (ix3 0 0 j) + mixedRow x0 x1 x2 x4 x5 x6 ⟨p.val - 1, by omega⟩ j * x7 (ix3 0 1 j)
    + mixedRow x0 x1 x2 x4 x5 x6 p j * x7 (ix3 0 2 j) + x8 (ix2 0 j)

/-- The residual plus the gated down-projection. -/
def outRow (p : Fin 256) (j : Fin 1024) : EReal :=
  x0 (ix2 p j) + x3 (ix2 p j) * ∑ q : Fin 2816,
    silu (convRow x0 x1 x2 x4 x5 x6 x7 x8 p ⟨q.val, by omega⟩) * convRow x0 x1 x2 x4 x5 x6 x7 x8 p ⟨2816 + q.val, by omega⟩ * x9 (ix3 0 q j)

/-- Row `p` is token `i` of sequence `b`. -/
def Tok (p : Fin 256) (b : Fin 32) (i : Fin 4) : Prop := p.val = 8 * b.val + (4 + i.val)

variable {p : Fin 256} {b : Fin 32} {i : Fin 4} (hp : Tok p b i)
include hp

theorem tok_apply (x : FVec Ideal S256x1024 .f32) (k : Fin 1024) : val_main_v1 (F := Ideal) x (ix3 b i k) = x (ix2 p k) := by
  unfold Tok at hp
  unfold val_main_v1 val_main_v0
  pointwise
  exact congrArg (fun a => x (ix2 a k)) (Fin.ext (by simp only; omega))

theorem hidden_apply (k : Fin 1024) : val_main_v25 (F := Ideal) x0 x1 x2 x5 (ix3 b i k)
    = hidden (fun l => x0 (ix2 p l)) (fun l => x5 (ix2 0 l)) (fun l => x2 (ix2 p l)) (fun l => x1 (ix2 p l)) k := by
  have e0 := fun k => tok_apply hp x0 k
  have e1 := fun k => tok_apply hp x1 k
  have e2 := fun k => tok_apply hp x2 k
  unfold val_main_v25 val_main_v24 val_main_v23 val_main_v22 val_main_v21 val_main_v20 val_main_v19 val_main_v18 val_main_v17 val_main_v16 val_main_v15 val_main_v14
    val_main_v13 val_main_v12 val_main_v11 val_main_v10 val_main_v9 val_main_v8 val_main_cst val_main_cst_0 val_main_cst_1 val_main_cst_2 hidden normed eps
  change ∀ k, val_main_v3 (F := Ideal) x1 (ix3 b i k) = _ at e1
  change ∀ k, val_main_v5 (F := Ideal) x2 (ix3 b i k) = _ at e2
  generalize val_main_v1 (F := Ideal) x0 = z0 at e0
  generalize val_main_v3 (F := Ideal) x1 = z1 at e1
  generalize val_main_v5 (F := Ideal) x2 = z2 at e2
  pointwise
  simp only [e0, e1, e2]

theorem u_apply (j : Fin 5632) : val_main_v27 (F := Ideal) x0 x1 x2 x5 x6 (ix3 b i j) = uRow x0 x1 x2 x5 x6 p j := by
  have e := fun k => hidden_apply x0 x1 x2 x5 hp k
  unfold val_main_v27 val_main_v26 uRow
  generalize val_main_v25 (F := Ideal) x0 x1 x2 x5 = h at e
  pointwise
  simp only [e]

theorem last_apply (j : Fin 5632) : val_main_v80 (F := Ideal) x0 x1 x2 x5 x6 (ix2 p j) = uRow x0 x1 x2 x5 x6 p j := by
  have e := fun j => u_apply x0 x1 x2 x5 x6 hp j
  unfold Tok at hp
  unfold val_main_v80 val_main_v79
  generalize val_main_v27 (F := Ideal) x0 x1 x2 x5 x6 = z at e
  pointwise
  have hi := i.isLt
  rw [dif_pos ⟨by omega, by omega, by omega⟩]
  refine Eq.trans ?_ (e j)
  exact congrArg₂ (fun c l => z (ix3 c l j)) (Fin.ext (by simp only; omega)) (Fin.ext (by simp only; omega))

omit hp

theorem joined_apply (b : Fin 32) (s : Fin 6) (q : Fin 256) (hq : q.val = 8 * b.val + (2 + s.val)) (j : Fin 5632) :
    val_main_v31 (F := Ideal) x0 x1 x2 x4 x5 x6 (ix3 b s j) = mixedRow x0 x1 x2 x4 x5 x6 q j := by
  unfold val_main_v31 val_main_v29 val_main_v28 mixedRow
  have e := fun (i : Fin 4) (h : Tok q b i) j => u_apply x0 x1 x2 x5 x6 h j
  generalize val_main_v27 (F := Ideal) x0 x1 x2 x5 x6 = z at e
  pointwise
  have hs := s.isLt
  by_cases h : s.val < 2
  · rw [dif_pos h, if_pos (by omega)]
    exact congrArg (fun a => x4 (ix2 a j)) (Fin.ext (by simp only; omega))
  · have h4 : ¬q.val % 8 < 4 := by omega
    have hq' : Tok q b ⟨s.val - 2, by omega⟩ := by unfold Tok; simp only; omega
    exact ((dif_neg h).trans (e _ hq' j)).trans (if_neg h4).symm

include hp

theorem conv_apply (j : Fin 5632) : val_main_v55 (F := Ideal) x0 x1 x2 x4 x5 x6 x7 x8 (ix3 b i j) = convRow x0 x1 x2 x4 x5 x6 x7 x8 p j := by
  have e := fun s q hq => joined_apply x0 x1 x2 x4 x5 x6 b s q hq j
  unfold Tok at hp
  unfold val_main_v55 val_main_v54 val_main_v53 val_main_v52 val_main_v51 val_main_v50 val_main_v49 val_main_v48 val_main_v47 val_main_v46 val_main_v45 val_main_v44
    val_main_v43 val_main_v42 val_main_v41 val_main_v40 val_main_v39 val_main_v38 val_main_v37 val_main_v36 val_main_v35 val_main_v34 val_main_v33 val_main_v32
    val_main_v30 convRow
  generalize val_main_v31 (F := Ideal) x0 x1 x2 x4 x5 x6 = z at e
  pointwise
  rw [e _ ⟨p.val - 2, by omega⟩ (by simp only; omega), e _ ⟨p.val - 1, by omega⟩ (by simp only; omega), e _ p (by simp only; omega)]

theorem out_apply (j : Fin 1024) : val_main_v63 (F := Ideal) x0 x1 x2 x3 x4 x5 x6 x7 x8 x9 (ix3 b i j) = outRow x0 x1 x2 x3 x4 x5 x6 x7 x8 x9 p j := by
  have e := fun j => conv_apply x0 x1 x2 x4 x5 x6 x7 x8 hp j
  have e0 := tok_apply hp x0 j
  have e3 := tok_apply hp x3 j
  change val_main_v7 (F := Ideal) x3 (ix3 b i j) = _ at e3
  unfold val_main_v63 val_main_v62 val_main_v61 val_main_v60 val_main_v59 val_main_v58 val_main_call0_v5 val_main_call0_v4
    val_main_call0_cst_0 val_main_call0_v3 val_main_call0_v2 val_main_call0_cst val_main_call0_v1 val_main_call0_v0 val_main_v57 val_main_v56 outRow silu
  generalize val_main_v55 (F := Ideal) x0 x1 x2 x4 x5 x6 x7 x8 = z at e
  generalize val_main_v1 (F := Ideal) x0 = z0 at e0
  generalize val_main_v7 (F := Ideal) x3 = z3 at e3
  pointwise
  simp only [← e, e0, e3]

theorem y_apply (j : Fin 1024) : val_main_v78 (F := Ideal) x0 x1 x2 x3 x4 x5 x6 x7 x8 x9 x10 (ix2 p j)
    = normed (outRow x0 x1 x2 x3 x4 x5 x6 x7 x8 x9 p) (fun l => x10 (ix1 l)) j := by
  have e := fun j => out_apply x0 x1 x2 x3 x4 x5 x6 x7 x8 x9 hp j
  have e' : val_main_v76 (F := Ideal) x0 x1 x2 x3 x4 x5 x6 x7 x8 x9 x10 (ix3 b i j) = normed (outRow x0 x1 x2 x3 x4 x5 x6 x7 x8 x9 p) (fun l => x10 (ix1 l)) j := by
    unfold val_main_v76 val_main_v75 val_main_v74 val_main_v73 val_main_v72 val_main_v71 val_main_v70 val_main_v69 val_main_v68 val_main_v67 val_main_v66 val_main_v65 val_main_v64
      val_main_cst_3 val_main_cst_4 val_main_cst_5 normed eps
    generalize val_main_v63 (F := Ideal) x0 x1 x2 x3 x4 x5 x6 x7 x8 x9 = z at e
    pointwise
    simp only [e]
  unfold Tok at hp
  rw [← e']
  unfold val_main_v78 val_main_v77
  generalize val_main_v76 (F := Ideal) x0 x1 x2 x3 x4 x5 x6 x7 x8 x9 x10 = z
  pointwise
  have hi := i.isLt
  rw [dif_pos ⟨by omega, by omega, by omega⟩]
  exact congrArg₂ (fun c l => z (ix3 c l j)) (Fin.ext (by simp only; omega)) (Fin.ext (by simp only; omega))

end Cert.Proof.Ffn.Sample

end
-- ==== Proof.FfnSample.lean ====
/- The feed-forward call on the sample's rows: one block, in whose buffer the history's rows stand among the up-projection's, so
   every token's convolution reads only its own sequence. -/
module

public import proofs.«01_k».proof.Proof.FfnSampleReference
public import proofs.«01_k».proof.Proof.Gen.Kernel6Ideal.Value
public import proofs.«01_k».proof.Proof.Gen.On_ffn_token_rows
public import Idealize.ShloMosaic.Lib.Quiescent

@[expose] public section

set_option maxRecDepth 16384

noncomputable section

open scoped BigOperators

namespace Cert.Proof.Ffn.Sample

open Cert.Kernel6Ideal Cert.Kernel6Ideal.Gen Idealize.ShloMosaic Idealize.ShloMosaic.TcCoe Idealize.SL.Sem
open Idealize.ShloMosaic.Pipeline (Dat)

/-! ### The block -/

/-- The bit of a row that holds history. -/
def histBit : IVec S256x1 1 := k0_pay7 (Scalar.select (Scalar.cmpi .eq 8#32 0#32) 1#32 8#32) k0_pay4 k0_pay5 k0_pay6

theorem histBit_iff : ∀ r : Fin 256, histBit (ix2 r 0) = 1#1 ↔ r.val % 8 < 4 := by decide +kernel

/-- 256 columns of what the call stores: the up-projection, or the history where the row holds it. -/
def storedV (x4 : Vec Ideal S256x5632 .f32) (hb : FVec Ideal S256x1024 .bf16) (x6 : Vec Ideal S1024x5632 .bf16) (o : ℕ) (ho : o + 256 ≤ 5632) :
    FVec Ideal S256x256 .f32 :=
  select (broadcastTo S256x256 (shapeCast S256x1 histBit shapeCasts_S256x1_S256x1) broadcasts_S256x1_S256x256)
    (cutV (n := 256) (k := 5632) (e := .f32) x4 256 256 0 o (by decide) ho) (upV hb x6 o ho)

theorem storedV_apply (x4 : Vec Ideal S256x5632 .f32) (hb : FVec Ideal S256x1024 .bf16) (x6 : Vec Ideal S1024x5632 .bf16) (o : ℕ) (ho : o + 256 ≤ 5632)
    (r k : Fin 256) (q : Fin 5632) (hq : q.val = o + k.val) :
    storedV x4 hb x6 o ho (ix2 r k) = if r.val % 8 < 4 then x4 (ix2 r q) else up hb x6 r q := by
  have e1 := cutV_apply (n := 256) (k := 5632) (e := .f32) x4 256 256 0 o (by decide) ho r k r q (Nat.zero_add _).symm hq
  have e2 := upV_apply hb x6 o ho r k q hq
  have e3 := histBit_iff r
  unfold storedV
  generalize cutV (n := 256) (k := 5632) (e := .f32) x4 256 256 0 o (by decide) ho = z1 at e1
  generalize upV hb x6 o ho = z2 at e2
  generalize histBit = z3 at e3
  pointwise
  rw [e1, e2]
  unfold Scalar.select
  exact if_congr e3 rfl rfl

variable (m : (ℓ : Loc nD τ sig) → Buf (Elt Ideal) ℓ) (c : Dev nD)

/-- The normalized rows, as the products take them. -/
def hidV (t : Fin cfg0.N) : FVec Ideal S256x1024 .bf16 := k0_pay3 (F := Ideal) (iblk m c 0 t) (iblk m c 5 t) (iblk m c 2 t) (iblk m c 1 t)

/-- What the call stores, of the block's own inputs. -/
def stored (t : Fin cfg0.N) : (o : ℕ) → o + 256 ≤ 5632 → FVec Ideal S256x256 .f32 := storedV (iblk m c 4 t) (hidV m c t) (iblk m c 6 t)

set_option maxHeartbeats 2000000 in
theorem block_y (t : Fin cfg0.N) : (outsAt0 m c t).1
    = lastV (iblk m c 0 t) (iblk m c 3 t) (iblk m c 10 t) (accV (stored m c t) (iblk m c 7 t) (iblk m c 8 t) (iblk m c 9 t)
      scM0_0.view scM0_0.view.junk zeroRows 11 le_rfl) := by
  unfold outsAt0
  dsimp only
  unfold out0_A_11
  dsimp only [kernelRun0_A]
  rw [View.read_writes_junk_eq_canon, View.canon_cons_unit_zero (S := S256x1024) corner]
  sl_unfold_words
  simp only [View.readCov, View.readAt_eq_ld, Memref.IsWhole.read_unread, View.ld_unit_zero (S := S256x1024) corner, View.ld_unit_zero (S := S1x1024) corner]
  rfl

set_option maxHeartbeats 2000000 in
theorem block_u (t : Fin cfg0.N) : (outsAt0 m c t).2
    = cutV (n := 264) (k := 5632) (e := .f32) (scM0_0.view.read (Elt Ideal) (scM0_0.view.writes (Elt Ideal) scM0_0.view.junk (pieces (stored m c t) zeroRows 11 le_rfl)))
        256 5632 8 0 (by decide) (by decide) := by
  unfold outsAt0
  dsimp only
  unfold out0_A_12
  dsimp only [kernelRun0_A]
  rw [View.read_writes_junk_eq_canon, View.canon_cons_unit_zero (S := S256x5632) corner]
  sl_unfold_words
  simp only [View.readCov, View.readAt_eq_ld, Memref.IsWhole.read_unread, View.ld_unit_zero (S := S256x1024) corner, View.ld_unit_zero (S := S1x1024) corner]
  rfl

/-! ### What the host hands to the call -/

theorem index : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0])

theorem hostUp (i : Fin 1024) (j : Fin 5632) : V m c main_v1 (ix2 i j) = m ((c.tc : Thread nD τ).loc main_arg6) (ix3 0 i j) := by
  unfold V; after_reads_at

theorem hostDown (i : Fin 2816) (j : Fin 1024) : V m c main_v3 (ix2 i j) = m ((c.tc : Thread nD τ).loc main_arg9) (ix3 0 i j) := by
  unfold V; after_reads_at

theorem hostNorm (j : Fin 1024) : V m c main_v5 (ix2 0 j) = m ((c.tc : Thread nD τ).loc main_arg5) (ix2 0 j) := by
  unfold V; after_reads_at

theorem hostFinal (j : Fin 1024) : V m c main_v6 (ix2 0 j) = m ((c.tc : Thread nD τ).loc main_arg10) (ix1 j) := by
  unfold V; after_reads_at

theorem hostBias (j : Fin 5632) : V m c main_v8 (ix2 0 j) = m ((c.tc : Thread nD τ).loc main_arg8) (ix2 0 j) := by
  unfold V; after_reads_at

theorem hostTaps (i : Fin 3) (j : Fin 5632) : V m c main_v9 (ix2 i j) = m ((c.tc : Thread nD τ).loc main_arg7) (ix3 0 i j) := by
  unfold V; after_reads_at

section Blocks

variable (t : Fin cfg0.N)

theorem xBlk (r : Fin 256) (j : Fin 1024) : iblk m c 0 t (ix2 r j) = m ((c.tc : Thread nD τ).loc main_arg0) (ix2 r j) := by
  have h := (index t).1
  blk_ext [iblk, V_main_arg0, h]

theorem shBlk (r : Fin 256) (j : Fin 1024) : iblk m c 1 t (ix2 r j) = m ((c.tc : Thread nD τ).loc main_arg1) (ix2 r j) := by
  have h := (index t).2.1
  blk_ext [iblk, V_main_arg1, h]

theorem scBlk (r : Fin 256) (j : Fin 1024) : iblk m c 2 t (ix2 r j) = m ((c.tc : Thread nD τ).loc main_arg2) (ix2 r j) := by
  have h := (index t).2.2.1
  blk_ext [iblk, V_main_arg2, h]

theorem gBlk (r : Fin 256) (j : Fin 1024) : iblk m c 3 t (ix2 r j) = m ((c.tc : Thread nD τ).loc main_arg3) (ix2 r j) := by
  have h := (index t).2.2.2.1
  blk_ext [iblk, V_main_arg3, h]

theorem histBlk (r : Fin 256) (j : Fin 5632) : iblk m c 4 t (ix2 r j) = m ((c.tc : Thread nD τ).loc main_arg4) (ix2 r j) := by
  have h := (index t).2.2.2.2.1
  blk_ext [iblk, V_main_arg4, h]

theorem normBlk (j : Fin 1024) : iblk m c 5 t (ix2 0 j) = m ((c.tc : Thread nD τ).loc main_arg5) (ix2 0 j) := by
  have h := (index t).2.2.2.2.2.1
  refine Eq.trans ?_ (hostNorm m c j)
  blk_ext [iblk, h]

theorem upBlk (i : Fin 1024) (j : Fin 5632) : iblk m c 6 t (ix2 i j) = m ((c.tc : Thread nD τ).loc main_arg6) (ix3 0 i j) := by
  have h := (index t).2.2.2.2.2.2.1
  refine Eq.trans ?_ (hostUp m c i j)
  blk_ext [iblk, h]

theorem tapsBlk (i : Fin 3) (j : Fin 5632) : iblk m c 7 t (ix2 i j) = m ((c.tc : Thread nD τ).loc main_arg7) (ix3 0 i j) := by
  have h := (index t).2.2.2.2.2.2.2.1
  refine Eq.trans ?_ (hostTaps m c i j)
  blk_ext [iblk, h]

theorem biasBlk (j : Fin 5632) : iblk m c 8 t (ix2 0 j) = m ((c.tc : Thread nD τ).loc main_arg8) (ix2 0 j) := by
  have h := (index t).2.2.2.2.2.2.2.2.1
  refine Eq.trans ?_ (hostBias m c j)
  blk_ext [iblk, h]

theorem downBlk (i : Fin 2816) (j : Fin 1024) : iblk m c 9 t (ix2 i j) = m ((c.tc : Thread nD τ).loc main_arg9) (ix3 0 i j) := by
  have h := (index t).2.2.2.2.2.2.2.2.2.1
  refine Eq.trans ?_ (hostDown m c i j)
  blk_ext [iblk, h]

theorem finalBlk (j : Fin 1024) : iblk m c 10 t (ix2 0 j) = m ((c.tc : Thread nD τ).loc main_arg10) (ix1 j) := by
  have h := (index t).2.2.2.2.2.2.2.2.2.2.1
  refine Eq.trans ?_ (hostFinal m c j)
  blk_ext [iblk, h]

end Blocks

/-! ### The buffer -/

/-- The rows stored, of the call's own arguments. -/
def rows (p : Fin 256) (j : Fin 5632) : EReal :=
  mixedRow (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) p j

/-- The buffer: zeros above the rows stored. -/
def held (a : Fin 264) (j : Fin 5632) : EReal := if a.val < 8 then 0 else rows m c ⟨a.val - 8, by omega⟩ j

theorem pay3_apply (x0 : Vec Ideal S256x1024 .f32) (x5 : Vec Ideal S1x1024 .f32) (x2 x1 : Vec Ideal S256x1024 .f32) (r : Fin 256) (k : Fin 1024) :
    k0_pay3 (F := Ideal) x0 x5 x2 x1 (ix2 r k)
      = hidden (fun l => x0 (ix2 r l)) (fun l => x5 (ix2 0 l)) (fun l => x2 (ix2 r l)) (fun l => x1 (ix2 r l)) k := by
  unfold k0_pay3 hidden normed eps
  pointwise

theorem stored_eq (t : Fin cfg0.N) (o : ℕ) (ho : o + 256 ≤ 5632) (r k : Fin 256) (a : Fin 264) (q : Fin 5632) (ha : a.val = 8 + r.val) (hq : q.val = o + k.val) :
    stored m c t o ho (ix2 r k) = held m c a q := by
  have hr : (⟨a.val - 8, by omega⟩ : Fin 256) = r := Fin.ext (by simp only; omega)
  unfold stored held rows mixedRow
  rw [storedV_apply _ _ _ o ho r k q hq, hr, histBlk, if_neg (show ¬a.val < 8 by omega)]
  unfold up uRow hidV
  simp only [pay3_apply, xBlk m c t, shBlk m c t, scBlk m c t, normBlk m c t, upBlk m c t]

/-! ### The results -/

/-- The reference's results, of the kernel's own arguments. -/
def Y : Buf (Elt Ideal) ((c.tc : Thread nD τ).loc main_v10_0) :=
  Cert.Reference6Ideal.Read.val_main_v78 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

def U : Buf (Elt Ideal) ((c.tc : Thread nD τ).loc main_v10_1) :=
  Cert.Reference6Ideal.Read.val_main_v80 (F := Ideal) (m ((c.tc : Thread nD τ).loc main_arg0)) (m ((c.tc : Thread nD τ).loc main_arg1))
    (m ((c.tc : Thread nD τ).loc main_arg2)) (m ((c.tc : Thread nD τ).loc main_arg5)) (m ((c.tc : Thread nD τ).loc main_arg6))

variable {p : Fin 256} {b : Fin 32} {i : Fin 4} (hp : Tok p b i)
include hp

theorem conv_eq (t : Fin cfg0.N) (q : Fin 5632) :
    conv (iblk m c 7 t) (iblk m c 8 t) (held m c) p q
      = convRow (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) p q := by
  unfold Tok at hp
  have e (s : ℕ) (hs : s ≤ 8) (h6 : 6 ≤ s) : held m c ⟨s + p.val, by omega⟩ q = rows m c ⟨p.val - (8 - s), by omega⟩ q := by
    unfold held
    rw [if_neg (by simp only; omega)]
    exact congrArg (fun a => rows m c a q) (Fin.ext (by simp only; omega))
  unfold conv convRow
  rw [e 8 (by decide) (by decide), e 7 (by decide) (by decide), e 6 (by decide) (by decide), tapsBlk m c t, tapsBlk m c t, tapsBlk m c t, biasBlk m c t]
  unfold rows
  refine congrArg (· + _) ?_
  rw [add_assoc, add_comm, add_comm (_ * _) (_ * _)]
  exact congrArg₂ (· + ·) (congrArg₂ (· + ·) (mul_comm (G := EReal) _ _) (mul_comm (G := EReal) _ _)) (mul_comm (G := EReal) _ _)

theorem y_at (t : Fin cfg0.N) (j : Fin 1024) : (outsAt0 m c t).1 (ix2 p j) = Y m c (ix2 p j) := by
  rw [block_y, lastV_apply]
  unfold Y
  rw [y_apply _ _ _ _ _ _ _ _ _ _ _ hp]
  refine congrArg₂ (fun z w => normed z w j) (funext fun l => ?_) (funext fun l => finalBlk m c t l)
  rw [acc_apply scM0_0.view scM0_0.view.junk zeroRows (stored m c t) (iblk m c 7 t) (iblk m c 8 t) (iblk m c 9 t) (held m c) (stored_eq m c t)
    (fun a j _ h8 => (zeroRows_apply _ _ a j h8).trans (if_pos h8).symm), xBlk m c t, gBlk m c t]
  unfold outRow term
  simp only [conv_eq m c hp t, downBlk m c t]

theorem u_at (t : Fin cfg0.N) (j : Fin 5632) : (outsAt0 m c t).2 (ix2 p j) = U m c (ix2 p j) := by
  rw [block_u, belowV_apply scM0_0.view _ zeroRows (stored m c t) (held m c) (stored_eq m c t) 8 _ le_rfl p ⟨8 + p.val, by omega⟩ j rfl]
  unfold U
  rw [last_apply _ _ _ _ _ hp]
  unfold Tok at hp
  have hi := i.isLt
  have e : (⟨8 + p.val - 8, by omega⟩ : Fin 256) = p := Fin.ext (by simp only; omega)
  unfold held rows mixedRow
  rw [if_neg (by simp only; omega), e, if_neg (by omega)]

omit hp

/-! ### The arrays -/

/-- The one grid point. -/
def point : Fin cfg0.N := ⟨0, lt_of_lt_of_eq Nat.one_pos N_0.symm⟩

theorem point_eq (t : Fin cfg0.N) : t = point := Fin.ext (Nat.lt_one_iff.mp (lt_of_lt_of_eq t.isLt N_0))

theorem rows_of {n : ℕ} (y : (⟨2, ![256, n]⟩ : Shape).Idx) (z : (⟨2, ![256, n]⟩ : Shape).Idx) (h0 : (z 0).val = (y 0).val) (h1 : (z 1).val = (y 1).val) : z = y :=
  funext fun a => match a with
    | 0 => Fin.ext h0
    | 1 => Fin.ext h1

theorem y_eq : (dats m 0 c).arrAt 11 cfg0.N = (outsAt0 m c point).1 := by
  refine (dats m 0 c).arrAt_eq_of_covers 11 _ (by decide +kernel) fun t hf y => ?_
  have h := (index t).2.2.2.2.2.2.2.2.2.2.2.1
  have e := rows_of y ((win0_11.blk t).view.emb y) (by blk_simp [h]) (by blk_simp [h])
  blk_simp [h]
  rw [after0_11, point_eq t]
  rw [point_eq t] at e
  exact congrArg (outsAt0 m c point).1 e.symm

theorem u_eq : (dats m 0 c).arrAt 12 cfg0.N = (outsAt0 m c point).2 := by
  refine (dats m 0 c).arrAt_eq_of_covers 12 _ (by decide +kernel) fun t hf y => ?_
  have h := (index t).2.2.2.2.2.2.2.2.2.2.2.2
  have e := rows_of y ((win0_12.blk t).view.emb y) (by blk_simp [h]) (by blk_simp [h])
  blk_simp [h]
  rw [after0_12, point_eq t]
  rw [point_eq t] at e
  exact congrArg (outsAt0 m c point).2 e.symm

/-- A row that the mask keeps is a token's. -/
theorem token_row {r : ℕ} (hr : r < 256) : IntOp.cmpi .sge (BitVec.ofNat 32 r &&& 7#32) 4#32 = 1#1 → 4 ≤ r % 8 := by
  revert r; decide +kernel

theorem tok_of (p : Fin 256) (h : 4 ≤ p.val % 8) : Tok p ⟨p.val / 8, by omega⟩ ⟨p.val % 8 - 4, by omega⟩ := by
  unfold Tok
  simp only
  omega

theorem frame_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

set_option maxHeartbeats 2000000 in
theorem algebraic : Cert.algebraic_Kernel6Ideal_Reference6Ideal_on_ffn_token_rows (hKernel6Ideal := Cert.Kernel6Ideal.Gen.facts)
    (hReference6Ideal := Cert.Reference6Ideal.Gen.facts) (hOn_ffn_token_rows := Cert.On_ffn_token_rows.Gen.facts) := by
  intro m ρ m' ρ' _ hagree
  refine ⟨fun c => (outsAt0 m c point).1, fun c => (outsAt0 m c point).2, ?_, ?_⟩
  · exact (θ_run Cert.Kernel6Ideal.defs _ _).mono (fun _ h c => ⟨fun i _ => congrFun ((h c).1.trans (y_eq m c)) i,
      fun i _ => congrFun ((h c).2.1.trans (u_eq m c)) i, (h c).2.2⟩) (Cert.Kernel6Ideal.Value.run_blocks (F := Ideal) m ρ)
  · refine (θ_run Cert.Reference6Ideal.defs _ _).mono (fun _ h c => ⟨fun i hi => ?_, fun i hi => ?_, (h c).2.2⟩) (Cert.Reference6Ideal.Value.run (F := Ideal) m' ρ')
    all_goals
      obtain ⟨e0, e1, e2, e3, e4, e5, e6, e7, e8, e9, e10⟩ := hagree c
      have hr : 4 ≤ (i 0).val % 8 := token_row (i 0).isLt hi
      have hx : i = ix2 (i 0) (i 1) := funext fun a => match a with | 0 => rfl | 1 => rfl
    · rw [hx]
      refine Eq.trans ?_ (y_at m c (tok_of (i 0) hr) point (i 1)).symm
      refine (congrFun ((h c).1.trans (Cert.Reference6Ideal.Read.val_main_v78_eq m' c)) (ix2 (i 0) (i 1))).trans ?_
      rw [e0, e1, e2, e3, e4, e5, e6, e7, e8, e9, e10]
      rfl
    · rw [hx]
      refine Eq.trans ?_ (u_at m c (tok_of (i 0) hr) point (i 1)).symm
      refine (congrFun ((h c).2.1.trans (Cert.Reference6Ideal.Read.val_main_v80_eq _ _ _ _ _)) (ix2 (i 0) (i 1))).trans ?_
      rw [e0, e1, e2, e5, e6]
      rfl

end Cert.Proof.Ffn.Sample

end
-- ==== Proof.lean ====
/- The claim of the certificate: the frames of the programs, and the calls' values against the reference's, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_token_rows
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Arrays
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Projections
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ffn
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Mix
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Sampled
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.FfnSample

@[expose] public section

noncomputable section

namespace Cert.Proof

open Idealize.ShloMosaic Idealize.ShloMosaic.TcCoe Idealize.SL.Sem Cert.Proof.Reals Cert.Proof.Plain Cert.Proof.Arrays

/-! ### The precondition and the mask, read at an index -/

/-- A magnitude below infinity is a real's. -/
theorem real_of_bit {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  have hlt : max x (-x) < ⊤ := by
    by_contra hn
    rw [ht] at h
    simp [Ideal.cmp, hn] at h
  induction x with
  | bot => simp at hlt
  | top => simp at hlt
  | coe r => exact ⟨r, rfl⟩

theorem reals_of_mask {s : Shape} {x : FVec Ideal s .f32} {hb} (h : cmpf (F := Ideal) .olt (Host.absf x) (broadcastInDim (s := ⟨0, ![]⟩) s ![] hb (constant ⟨0, ![]⟩ .f32 0x7F800000#32)) = fun _ => 1#1)
    (i : s.Idx) : ∃ r : ℝ, x i = (r : EReal) :=
  real_of_bit (congrFun h i)

theorem matrix_of {n k : ℕ} {x : FVec Ideal ⟨2, ![n, k]⟩ .f32} (h : ∀ i, ∃ r : ℝ, x i = (r : EReal)) : ∃ X : Matrix (Fin n) (Fin k) ℝ, Is x X := by
  choose f hf using h
  exact ⟨fun i j => f (ix2 i j), fun i j => hf _⟩

/-! ### The reference's frame -/

theorem frame_reference : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-! ### The value claim -/

theorem algebraic : Cert.algebraic_KernelIdeal_ReferenceIdeal_on_token_rows_pre_finite (hKernelIdeal := Cert.KernelIdeal.Gen.facts)
    (hReferenceIdeal := Cert.ReferenceIdeal.Gen.facts) (hPre_finite := Cert.Pre_finite.Gen.facts) (hOn_token_rows := Cert.On_token_rows.Gen.facts) := by
  intro m ρ m' ρ' hpre hagree
  refine ⟨fun c => rowsArr m c, fun c => statesArr m c, ?_, ?_⟩
  · refine (θ_run Cert.KernelIdeal.defs _ _).mono (fun _ h c => ⟨fun i _ => ?_, fun i _ => ?_, (h c).2.2⟩) (Cert.KernelIdeal.Value.run_blocks (F := Ideal) m ρ)
    · exact congrFun ((h c).1.trans (rows_eq m c)) i
    · exact congrFun ((h c).2.1.trans (states_eq m c)) i
  · refine (θ_run Cert.ReferenceIdeal.defs _ _).mono (fun _ h c => ?_) (Cert.ReferenceIdeal.Value.run (F := Ideal) m' ρ')
    obtain ⟨e0, e1, e2, e3, e4, e5, e6, e7⟩ := hagree c
    obtain ⟨p0, p1, p2, p4, p5, p6⟩ := hpre c
    obtain ⟨C, hC⟩ := matrix_of (reals_of_mask p0)
    obtain ⟨H, hH⟩ := matrix_of (reals_of_mask p1)
    obtain ⟨A, hA⟩ := matrix_of (reals_of_mask p2)
    obtain ⟨W, hW⟩ := matrix_of (reals_of_mask p5)
    obtain ⟨M, hM⟩ := matrix_of (reals_of_mask p6)
    choose St hSt using reals_of_mask p4
    have hS : ∀ (b : Fin 32) (h : Fin 8) (i j : Fin 128), m ((c.tc : Thread Cert.KernelIdeal.nD Cert.KernelIdeal.τ).loc Cert.KernelIdeal.main_arg4) (ix4 b h i j)
        = ((fun b h i j => St (ix4 b h i j) : Fin 32 → Fin 8 → Matrix (Fin 128) (Fin 128) ℝ) b h i j : EReal) := fun b h i j => hSt _
    refine ⟨fun i hi => ?_, fun i _ => ?_, (h c).2.2⟩
    · refine (congrFun ((h c).1.trans (Cert.ReferenceIdeal.Read.val_main_v212_eq _)) i).trans ?_
      have hr : 4 ≤ (i 0).val % 8 := Ffn.Sample.token_row (i 0).isLt hi
      have i0 : (i 0).val < 256 := (i 0).isLt
      have i1 : (i 1).val < 1024 := (i 1).isLt
      show Cert.ReferenceIdeal.Read.val_main_v212 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) i = _
      rw [e0, e1, e2, e3, e4, e5, e6, e7]
      exact rows_agree m c hC hH hA hS hW hM ⟨(i 0).val / 8, by omega⟩ ⟨(i 0).val % 8 - 4, by omega⟩ ⟨(i 1).val / 128, by omega⟩
        ⟨(i 1).val % 128, by omega⟩ i (by show (i 0).val = 8 * ((i 0).val / 8) + (4 + ((i 0).val % 8 - 4)); omega)
        (by show (i 1).val = 128 * ((i 1).val / 128) + (i 1).val % 128; omega)
    · refine (congrFun ((h c).2.1.trans (Cert.ReferenceIdeal.Read.val_main_v186_eq _)) i).trans ?_
      show Cert.ReferenceIdeal.Read.val_main_v186 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) i = _
      rw [e0, e1, e2, e4, e5, e6]
      exact states_agree m c hC hH hA hS hW hM i

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.On_token_rows.Gen.facts, Cert.On_ffn_token_rows.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, InProj.frame_reference,
  fun m ρ _ => Cert.Kernel3.Gen.frame m ρ, fun m ρ _ => Cert.Kernel3Ideal.Gen.frame m ρ, Ffn.frame_reference,
  fun m ρ _ => Cert.Kernel4.Gen.frame m ρ, fun m ρ _ => Cert.Kernel4Ideal.Gen.frame m ρ, Mix.frame_reference,
  fun m ρ _ => Cert.Kernel5.Gen.frame m ρ, fun m ρ _ => Cert.Kernel5Ideal.Gen.frame m ρ, InProj.Sample.frame_reference,
  fun m ρ _ => Cert.Kernel6.Gen.frame m ρ, fun m ρ _ => Cert.Kernel6Ideal.Gen.frame m ρ, Ffn.Sample.frame_reference,
  trivial, algebraic, trivial, InProj.algebraic, trivial, Ffn.algebraic, trivial, Mix.algebraic, trivial, InProj.Sample.algebraic, trivial, Ffn.Sample.algebraic⟩

end Cert.Proof

end
